-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_finite [hPre_finite : Cert.Pre_finite.Facts] (m : (ℓ : Loc Cert.RetIdeal.nD Cert.RetIdeal.τ Cert.RetIdeal.sig) → Buf (Elt Ideal) ℓ) : Prop :=
  ∀ c : Dev Cert.RetIdeal.nD,
    (Cert.Pre_finite.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)) (m ((c.tc : Thread Cert.RetIdeal.nD Cert.RetIdeal.τ).loc Cert.RetIdeal.main_arg3)) (m ((c.tc : Thread Cert.RetIdeal.nD Cert.RetIdeal.τ).loc Cert.RetIdeal.main_arg4)) (m ((c.tc : Thread Cert.RetIdeal.nD Cert.RetIdeal.τ).loc Cert.RetIdeal.main_arg5)) (m ((c.tc : Thread Cert.RetIdeal.nD Cert.RetIdeal.τ).loc Cert.RetIdeal.main_arg6))) = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_finite [hPre_finite : Cert.Pre_finite.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_finite.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2)) (m ((c.tc : Thread Cert.RetRefIdeal.nD Cert.RetRefIdeal.τ).loc Cert.RetRefIdeal.main_arg3)) (m ((c.tc : Thread Cert.RetRefIdeal.nD Cert.RetRefIdeal.τ).loc Cert.RetRefIdeal.main_arg4)) (m ((c.tc : Thread Cert.RetRefIdeal.nD Cert.RetRefIdeal.τ).loc Cert.RetRefIdeal.main_arg5)) (m ((c.tc : Thread Cert.RetRefIdeal.nD Cert.RetRefIdeal.τ).loc Cert.RetRefIdeal.main_arg6))) = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsRefIdeal (m : (ℓ : Loc Cert.ModsRefIdeal.nD Cert.ModsRefIdeal.τ Cert.ModsRefIdeal.sig) → Buf (Elt Ideal) ℓ) : Prop :=
  True

def Pre_Score (m : (ℓ : Loc Cert.Score.nD Cert.Score.τ Cert.Score.sig) → Buf (Elt Bits) ℓ) : Prop :=
  True

def Pre_ScoreIdeal (m : (ℓ : Loc Cert.ScoreIdeal.nD Cert.ScoreIdeal.τ Cert.ScoreIdeal.sig) → Buf (Elt Ideal) ℓ) : Prop :=
  True

def Pre_ScoreRefIdeal (m : (ℓ : Loc Cert.ScoreRefIdeal.nD Cert.ScoreRefIdeal.τ Cert.ScoreRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3)
      ∧ r.2.mem ((c.tc : Thread Cert.Ret.nD Cert.Ret.τ).loc Cert.Ret.main_arg4) = m ((c.tc : Thread Cert.Ret.nD Cert.Ret.τ).loc Cert.Ret.main_arg4)
      ∧ r.2.mem ((c.tc : Thread Cert.Ret.nD Cert.Ret.τ).loc Cert.Ret.main_arg5) = m ((c.tc : Thread Cert.Ret.nD Cert.Ret.τ).loc Cert.Ret.main_arg5)
      ∧ r.2.mem ((c.tc : Thread Cert.Ret.nD Cert.Ret.τ).loc Cert.Ret.main_arg6) = m ((c.tc : Thread Cert.Ret.nD Cert.Ret.τ).loc Cert.Ret.main_arg6))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
      ∧ r.2.mem ((c.tc : Thread Cert.RetIdeal.nD Cert.RetIdeal.τ).loc Cert.RetIdeal.main_arg4) = m ((c.tc : Thread Cert.RetIdeal.nD Cert.RetIdeal.τ).loc Cert.RetIdeal.main_arg4)
      ∧ r.2.mem ((c.tc : Thread Cert.RetIdeal.nD Cert.RetIdeal.τ).loc Cert.RetIdeal.main_arg5) = m ((c.tc : Thread Cert.RetIdeal.nD Cert.RetIdeal.τ).loc Cert.RetIdeal.main_arg5)
      ∧ r.2.mem ((c.tc : Thread Cert.RetIdeal.nD Cert.RetIdeal.τ).loc Cert.RetIdeal.main_arg6) = m ((c.tc : Thread Cert.RetIdeal.nD Cert.RetIdeal.τ).loc Cert.RetIdeal.main_arg6))
      ∧ r.2.sem = fun _ => 0)

def quiescent_RetIdeal_pre_finite [hRetIdeal : Cert.RetIdeal.Facts] [hPre_finite : Cert.Pre_finite.Facts] : Prop :=
  ∀ (m : (ℓ : Loc Cert.RetIdeal.nD Cert.RetIdeal.τ Cert.RetIdeal.sig) → Buf (Elt Ideal) ℓ) (g : Dev Cert.RetIdeal.nD → PrngReg), Pre_RetIdeal_finite m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
      ∧ r.2.mem ((c.tc : Thread Cert.RetIdeal.nD Cert.RetIdeal.τ).loc Cert.RetIdeal.main_arg4) = m ((c.tc : Thread Cert.RetIdeal.nD Cert.RetIdeal.τ).loc Cert.RetIdeal.main_arg4)
      ∧ r.2.mem ((c.tc : Thread Cert.RetIdeal.nD Cert.RetIdeal.τ).loc Cert.RetIdeal.main_arg5) = m ((c.tc : Thread Cert.RetIdeal.nD Cert.RetIdeal.τ).loc Cert.RetIdeal.main_arg5)
      ∧ r.2.mem ((c.tc : Thread Cert.RetIdeal.nD Cert.RetIdeal.τ).loc Cert.RetIdeal.main_arg6) = m ((c.tc : Thread Cert.RetIdeal.nD Cert.RetIdeal.τ).loc Cert.RetIdeal.main_arg6))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3)
      ∧ r.2.mem ((c.tc : Thread Cert.RetRefIdeal.nD Cert.RetRefIdeal.τ).loc Cert.RetRefIdeal.main_arg4) = m ((c.tc : Thread Cert.RetRefIdeal.nD Cert.RetRefIdeal.τ).loc Cert.RetRefIdeal.main_arg4)
      ∧ r.2.mem ((c.tc : Thread Cert.RetRefIdeal.nD Cert.RetRefIdeal.τ).loc Cert.RetRefIdeal.main_arg5) = m ((c.tc : Thread Cert.RetRefIdeal.nD Cert.RetRefIdeal.τ).loc Cert.RetRefIdeal.main_arg5)
      ∧ r.2.mem ((c.tc : Thread Cert.RetRefIdeal.nD Cert.RetRefIdeal.τ).loc Cert.RetRefIdeal.main_arg6) = m ((c.tc : Thread Cert.RetRefIdeal.nD Cert.RetRefIdeal.τ).loc Cert.RetRefIdeal.main_arg6))
      ∧ r.2.sem = fun _ => 0)

def quiescent_RetRefIdeal_pre_finite [hRetRefIdeal : Cert.RetRefIdeal.Facts] [hPre_finite : Cert.Pre_finite.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_finite m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3)
      ∧ r.2.mem ((c.tc : Thread Cert.RetRefIdeal.nD Cert.RetRefIdeal.τ).loc Cert.RetRefIdeal.main_arg4) = m ((c.tc : Thread Cert.RetRefIdeal.nD Cert.RetRefIdeal.τ).loc Cert.RetRefIdeal.main_arg4)
      ∧ r.2.mem ((c.tc : Thread Cert.RetRefIdeal.nD Cert.RetRefIdeal.τ).loc Cert.RetRefIdeal.main_arg5) = m ((c.tc : Thread Cert.RetRefIdeal.nD Cert.RetRefIdeal.τ).loc Cert.RetRefIdeal.main_arg5)
      ∧ r.2.mem ((c.tc : Thread Cert.RetRefIdeal.nD Cert.RetRefIdeal.τ).loc Cert.RetRefIdeal.main_arg6) = m ((c.tc : Thread Cert.RetRefIdeal.nD Cert.RetRefIdeal.τ).loc Cert.RetRefIdeal.main_arg6))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6)
      ∧ r.2.mem ((c.tc : Thread Cert.Sgu.nD Cert.Sgu.τ).loc Cert.Sgu.main_arg7) = m ((c.tc : Thread Cert.Sgu.nD Cert.Sgu.τ).loc Cert.Sgu.main_arg7)
      ∧ r.2.mem ((c.tc : Thread Cert.Sgu.nD Cert.Sgu.τ).loc Cert.Sgu.main_arg8) = m ((c.tc : Thread Cert.Sgu.nD Cert.Sgu.τ).loc Cert.Sgu.main_arg8)
      ∧ r.2.mem ((c.tc : Thread Cert.Sgu.nD Cert.Sgu.τ).loc Cert.Sgu.main_arg9) = m ((c.tc : Thread Cert.Sgu.nD Cert.Sgu.τ).loc Cert.Sgu.main_arg9)
      ∧ r.2.mem ((c.tc : Thread Cert.Sgu.nD Cert.Sgu.τ).loc Cert.Sgu.main_arg10) = m ((c.tc : Thread Cert.Sgu.nD Cert.Sgu.τ).loc Cert.Sgu.main_arg10)
      ∧ r.2.mem ((c.tc : Thread Cert.Sgu.nD Cert.Sgu.τ).loc Cert.Sgu.main_arg11) = m ((c.tc : Thread Cert.Sgu.nD Cert.Sgu.τ).loc Cert.Sgu.main_arg11))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
      ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
      ∧ r.2.mem ((c.tc : Thread Cert.SguIdeal.nD Cert.SguIdeal.τ).loc Cert.SguIdeal.main_arg8) = m ((c.tc : Thread Cert.SguIdeal.nD Cert.SguIdeal.τ).loc Cert.SguIdeal.main_arg8)
      ∧ r.2.mem ((c.tc : Thread Cert.SguIdeal.nD Cert.SguIdeal.τ).loc Cert.SguIdeal.main_arg9) = m ((c.tc : Thread Cert.SguIdeal.nD Cert.SguIdeal.τ).loc Cert.SguIdeal.main_arg9)
      ∧ r.2.mem ((c.tc : Thread Cert.SguIdeal.nD Cert.SguIdeal.τ).loc Cert.SguIdeal.main_arg10) = m ((c.tc : Thread Cert.SguIdeal.nD Cert.SguIdeal.τ).loc Cert.SguIdeal.main_arg10)
      ∧ r.2.mem ((c.tc : Thread Cert.SguIdeal.nD Cert.SguIdeal.τ).loc Cert.SguIdeal.main_arg11) = m ((c.tc : Thread Cert.SguIdeal.nD Cert.SguIdeal.τ).loc Cert.SguIdeal.main_arg11))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6)
      ∧ r.2.mem ((c.tc : Thread Cert.SguRefIdeal.nD Cert.SguRefIdeal.τ).loc Cert.SguRefIdeal.main_arg7) = m ((c.tc : Thread Cert.SguRefIdeal.nD Cert.SguRefIdeal.τ).loc Cert.SguRefIdeal.main_arg7)
      ∧ r.2.mem ((c.tc : Thread Cert.SguRefIdeal.nD Cert.SguRefIdeal.τ).loc Cert.SguRefIdeal.main_arg8) = m ((c.tc : Thread Cert.SguRefIdeal.nD Cert.SguRefIdeal.τ).loc Cert.SguRefIdeal.main_arg8)
      ∧ r.2.mem ((c.tc : Thread Cert.SguRefIdeal.nD Cert.SguRefIdeal.τ).loc Cert.SguRefIdeal.main_arg9) = m ((c.tc : Thread Cert.SguRefIdeal.nD Cert.SguRefIdeal.τ).loc Cert.SguRefIdeal.main_arg9)
      ∧ r.2.mem ((c.tc : Thread Cert.SguRefIdeal.nD Cert.SguRefIdeal.τ).loc Cert.SguRefIdeal.main_arg10) = m ((c.tc : Thread Cert.SguRefIdeal.nD Cert.SguRefIdeal.τ).loc Cert.SguRefIdeal.main_arg10)
      ∧ r.2.mem ((c.tc : Thread Cert.SguRefIdeal.nD Cert.SguRefIdeal.τ).loc Cert.SguRefIdeal.main_arg11) = m ((c.tc : Thread Cert.SguRefIdeal.nD Cert.SguRefIdeal.τ).loc Cert.SguRefIdeal.main_arg11))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ r.2.sem = fun _ => 0)

def quiescent_ModsRefIdeal [hModsRefIdeal : Cert.ModsRefIdeal.Facts] : Prop :=
  ∀ (m : (ℓ : Loc Cert.ModsRefIdeal.nD Cert.ModsRefIdeal.τ Cert.ModsRefIdeal.sig) → Buf (Elt Ideal) ℓ) (g : Dev Cert.ModsRefIdeal.nD → PrngReg), Pre_ModsRefIdeal m →
    θ_run (Cert.ModsRefIdeal.defs (F := Ideal)) (onTc (τ := Cert.ModsRefIdeal.τ) (Cert.ModsRefIdeal.main (F := Ideal))) ⟨m, fun _ => 0, g⟩ (fun r => (∀ c : Dev Cert.ModsRefIdeal.nD,
      r.2.mem ((c.tc : Thread Cert.ModsRefIdeal.nD Cert.ModsRefIdeal.τ).loc Cert.ModsRefIdeal.main_arg0) = m ((c.tc : Thread Cert.ModsRefIdeal.nD Cert.ModsRefIdeal.τ).loc Cert.ModsRefIdeal.main_arg0)
      ∧ r.2.mem ((c.tc : Thread Cert.ModsRefIdeal.nD Cert.ModsRefIdeal.τ).loc Cert.ModsRefIdeal.main_arg1) = m ((c.tc : Thread Cert.ModsRefIdeal.nD Cert.ModsRefIdeal.τ).loc Cert.ModsRefIdeal.main_arg1)
      ∧ r.2.mem ((c.tc : Thread Cert.ModsRefIdeal.nD Cert.ModsRefIdeal.τ).loc Cert.ModsRefIdeal.main_arg2) = m ((c.tc : Thread Cert.ModsRefIdeal.nD Cert.ModsRefIdeal.τ).loc Cert.ModsRefIdeal.main_arg2))
      ∧ r.2.sem = fun _ => 0)

def quiescent_Score [hScore : Cert.Score.Facts] : Prop :=
  ∀ (m : (ℓ : Loc Cert.Score.nD Cert.Score.τ Cert.Score.sig) → Buf (Elt Bits) ℓ) (g : Dev Cert.Score.nD → PrngReg), Pre_Score m →
    θ_run (Cert.Score.defs (F := Bits)) (onTc (τ := Cert.Score.τ) (Cert.Score.main (F := Bits))) ⟨m, fun _ => 0, g⟩ (fun r => (∀ c : Dev Cert.Score.nD,
      r.2.mem ((c.tc : Thread Cert.Score.nD Cert.Score.τ).loc Cert.Score.main_arg0) = m ((c.tc : Thread Cert.Score.nD Cert.Score.τ).loc Cert.Score.main_arg0)
      ∧ r.2.mem ((c.tc : Thread Cert.Score.nD Cert.Score.τ).loc Cert.Score.main_arg1) = m ((c.tc : Thread Cert.Score.nD Cert.Score.τ).loc Cert.Score.main_arg1))
      ∧ r.2.sem = fun _ => 0)

def quiescent_ScoreIdeal [hScoreIdeal : Cert.ScoreIdeal.Facts] : Prop :=
  ∀ (m : (ℓ : Loc Cert.ScoreIdeal.nD Cert.ScoreIdeal.τ Cert.ScoreIdeal.sig) → Buf (Elt Ideal) ℓ) (g : Dev Cert.ScoreIdeal.nD → PrngReg), Pre_ScoreIdeal m →
    θ_run (Cert.ScoreIdeal.defs (F := Ideal)) (onTc (τ := Cert.ScoreIdeal.τ) (Cert.ScoreIdeal.main (F := Ideal))) ⟨m, fun _ => 0, g⟩ (fun r => (∀ c : Dev Cert.ScoreIdeal.nD,
      r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
      ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1))
      ∧ r.2.sem = fun _ => 0)

def quiescent_ScoreRefIdeal [hScoreRefIdeal : Cert.ScoreRefIdeal.Facts] : Prop :=
  ∀ (m : (ℓ : Loc Cert.ScoreRefIdeal.nD Cert.ScoreRefIdeal.τ Cert.ScoreRefIdeal.sig) → Buf (Elt Ideal) ℓ) (g : Dev Cert.ScoreRefIdeal.nD → PrngReg), Pre_ScoreRefIdeal m →
    θ_run (Cert.ScoreRefIdeal.defs (F := Ideal)) (onTc (τ := Cert.ScoreRefIdeal.τ) (Cert.ScoreRefIdeal.main (F := Ideal))) ⟨m, fun _ => 0, g⟩ (fun r => (∀ c : Dev Cert.ScoreRefIdeal.nD,
      r.2.mem ((c.tc : Thread Cert.ScoreRefIdeal.nD Cert.ScoreRefIdeal.τ).loc Cert.ScoreRefIdeal.main_arg0) = m ((c.tc : Thread Cert.ScoreRefIdeal.nD Cert.ScoreRefIdeal.τ).loc Cert.ScoreRefIdeal.main_arg0)
      ∧ r.2.mem ((c.tc : Thread Cert.ScoreRefIdeal.nD Cert.ScoreRefIdeal.τ).loc Cert.ScoreRefIdeal.main_arg1) = m ((c.tc : Thread Cert.ScoreRefIdeal.nD Cert.ScoreRefIdeal.τ).loc Cert.ScoreRefIdeal.main_arg1))
      ∧ r.2.sem = fun _ => 0)

def preserves_Ret_RetIdeal : Prop :=
  IdealRules.named_const.Statement Cert.RetIdeal.κ "gl0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.RetIdeal.κ "gl1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.RetIdeal.κ "gl2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.RetIdeal.κ "gl3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_RetIdeal_RetRefIdeal_pre_finite [hRetIdeal : Cert.RetIdeal.Facts] [hRetRefIdeal : Cert.RetRefIdeal.Facts] [hPre_finite : Cert.Pre_finite.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_finite m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)
      ∧ m' ((c.tc : Thread Cert.RetRefIdeal.nD Cert.RetRefIdeal.τ).loc Cert.RetRefIdeal.main_arg4) = m ((c.tc : Thread Cert.RetIdeal.nD Cert.RetIdeal.τ).loc Cert.RetIdeal.main_arg4)
      ∧ m' ((c.tc : Thread Cert.RetRefIdeal.nD Cert.RetRefIdeal.τ).loc Cert.RetRefIdeal.main_arg5) = m ((c.tc : Thread Cert.RetIdeal.nD Cert.RetIdeal.τ).loc Cert.RetIdeal.main_arg5)
      ∧ m' ((c.tc : Thread Cert.RetRefIdeal.nD Cert.RetRefIdeal.τ).loc Cert.RetRefIdeal.main_arg6) = m ((c.tc : Thread Cert.RetIdeal.nD Cert.RetIdeal.τ).loc Cert.RetIdeal.main_arg6)) →
    ∃ (v0 : (c : Dev Cert.RetIdeal.nD) → Buf (Elt Ideal) ((c.tc : Thread Cert.RetIdeal.nD Cert.RetIdeal.τ).loc Cert.RetIdeal.main_v53)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v53) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
          ∧ r.2.mem ((c.tc : Thread Cert.RetIdeal.nD Cert.RetIdeal.τ).loc Cert.RetIdeal.main_arg4) = m ((c.tc : Thread Cert.RetIdeal.nD Cert.RetIdeal.τ).loc Cert.RetIdeal.main_arg4)
          ∧ r.2.mem ((c.tc : Thread Cert.RetIdeal.nD Cert.RetIdeal.τ).loc Cert.RetIdeal.main_arg5) = m ((c.tc : Thread Cert.RetIdeal.nD Cert.RetIdeal.τ).loc Cert.RetIdeal.main_arg5)
          ∧ r.2.mem ((c.tc : Thread Cert.RetIdeal.nD Cert.RetIdeal.τ).loc Cert.RetIdeal.main_arg6) = m ((c.tc : Thread Cert.RetIdeal.nD Cert.RetIdeal.τ).loc Cert.RetIdeal.main_arg6))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v77) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3)
          ∧ r.2.mem ((c.tc : Thread Cert.RetRefIdeal.nD Cert.RetRefIdeal.τ).loc Cert.RetRefIdeal.main_arg4) = m' ((c.tc : Thread Cert.RetRefIdeal.nD Cert.RetRefIdeal.τ).loc Cert.RetRefIdeal.main_arg4)
          ∧ r.2.mem ((c.tc : Thread Cert.RetRefIdeal.nD Cert.RetRefIdeal.τ).loc Cert.RetRefIdeal.main_arg5) = m' ((c.tc : Thread Cert.RetRefIdeal.nD Cert.RetRefIdeal.τ).loc Cert.RetRefIdeal.main_arg5)
          ∧ r.2.mem ((c.tc : Thread Cert.RetRefIdeal.nD Cert.RetRefIdeal.τ).loc Cert.RetRefIdeal.main_arg6) = m' ((c.tc : Thread Cert.RetRefIdeal.nD Cert.RetRefIdeal.τ).loc Cert.RetRefIdeal.main_arg6))

def preserves_Sgu_SguIdeal : Prop :=
  IdealRules.named_const.Statement Cert.SguIdeal.κ "gelu_a3" .bf16 0xBDD3#16 ((-(((6693141 / 4194304) * (Real.log 2)⁻¹) * (12003091 / 268435456)) : ℝ) : EReal)
  ∧ IdealRules.named_const.Statement Cert.SguIdeal.κ "gelu_a1" .bf16 0xC013#16 ((-((6693141 / 4194304) * (Real.log 2)⁻¹) : ℝ) : EReal)
  ∧ IdealRules.named_const.Statement Cert.SguIdeal.κ "gelu_a3" .f32 0xBDD2D3E8#32 ((-(((6693141 / 4194304) * (Real.log 2)⁻¹) * (12003091 / 268435456)) : ℝ) : EReal)
  ∧ IdealRules.named_const.Statement Cert.SguIdeal.κ "gelu_a1" .f32 0xC0135761#32 ((-((6693141 / 4194304) * (Real.log 2)⁻¹) : ℝ) : EReal)

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)
      ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6)
      ∧ m' ((c.tc : Thread Cert.SguRefIdeal.nD Cert.SguRefIdeal.τ).loc Cert.SguRefIdeal.main_arg7) = m ((c.tc : Thread Cert.SguIdeal.nD Cert.SguIdeal.τ).loc Cert.SguIdeal.main_arg7)
      ∧ m' ((c.tc : Thread Cert.SguRefIdeal.nD Cert.SguRefIdeal.τ).loc Cert.SguRefIdeal.main_arg8) = m ((c.tc : Thread Cert.SguIdeal.nD Cert.SguIdeal.τ).loc Cert.SguIdeal.main_arg8)
      ∧ m' ((c.tc : Thread Cert.SguRefIdeal.nD Cert.SguRefIdeal.τ).loc Cert.SguRefIdeal.main_arg9) = m ((c.tc : Thread Cert.SguIdeal.nD Cert.SguIdeal.τ).loc Cert.SguIdeal.main_arg9)
      ∧ m' ((c.tc : Thread Cert.SguRefIdeal.nD Cert.SguRefIdeal.τ).loc Cert.SguRefIdeal.main_arg10) = m ((c.tc : Thread Cert.SguIdeal.nD Cert.SguIdeal.τ).loc Cert.SguIdeal.main_arg10)
      ∧ m' ((c.tc : Thread Cert.SguRefIdeal.nD Cert.SguRefIdeal.τ).loc Cert.SguRefIdeal.main_arg11) = m ((c.tc : Thread Cert.SguIdeal.nD Cert.SguIdeal.τ).loc Cert.SguIdeal.main_arg11)) →
    ∃ (v0 : (c : Dev Cert.SguIdeal.nD) → Buf (Elt Ideal) ((c.tc : Thread Cert.SguIdeal.nD Cert.SguIdeal.τ).loc Cert.SguIdeal.main_v7)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v7) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
          ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
          ∧ r.2.mem ((c.tc : Thread Cert.SguIdeal.nD Cert.SguIdeal.τ).loc Cert.SguIdeal.main_arg8) = m ((c.tc : Thread Cert.SguIdeal.nD Cert.SguIdeal.τ).loc Cert.SguIdeal.main_arg8)
          ∧ r.2.mem ((c.tc : Thread Cert.SguIdeal.nD Cert.SguIdeal.τ).loc Cert.SguIdeal.main_arg9) = m ((c.tc : Thread Cert.SguIdeal.nD Cert.SguIdeal.τ).loc Cert.SguIdeal.main_arg9)
          ∧ r.2.mem ((c.tc : Thread Cert.SguIdeal.nD Cert.SguIdeal.τ).loc Cert.SguIdeal.main_arg10) = m ((c.tc : Thread Cert.SguIdeal.nD Cert.SguIdeal.τ).loc Cert.SguIdeal.main_arg10)
          ∧ r.2.mem ((c.tc : Thread Cert.SguIdeal.nD Cert.SguIdeal.τ).loc Cert.SguIdeal.main_arg11) = m ((c.tc : Thread Cert.SguIdeal.nD Cert.SguIdeal.τ).loc Cert.SguIdeal.main_arg11))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v85) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6)
          ∧ r.2.mem ((c.tc : Thread Cert.SguRefIdeal.nD Cert.SguRefIdeal.τ).loc Cert.SguRefIdeal.main_arg7) = m' ((c.tc : Thread Cert.SguRefIdeal.nD Cert.SguRefIdeal.τ).loc Cert.SguRefIdeal.main_arg7)
          ∧ r.2.mem ((c.tc : Thread Cert.SguRefIdeal.nD Cert.SguRefIdeal.τ).loc Cert.SguRefIdeal.main_arg8) = m' ((c.tc : Thread Cert.SguRefIdeal.nD Cert.SguRefIdeal.τ).loc Cert.SguRefIdeal.main_arg8)
          ∧ r.2.mem ((c.tc : Thread Cert.SguRefIdeal.nD Cert.SguRefIdeal.τ).loc Cert.SguRefIdeal.main_arg9) = m' ((c.tc : Thread Cert.SguRefIdeal.nD Cert.SguRefIdeal.τ).loc Cert.SguRefIdeal.main_arg9)
          ∧ r.2.mem ((c.tc : Thread Cert.SguRefIdeal.nD Cert.SguRefIdeal.τ).loc Cert.SguRefIdeal.main_arg10) = m' ((c.tc : Thread Cert.SguRefIdeal.nD Cert.SguRefIdeal.τ).loc Cert.SguRefIdeal.main_arg10)
          ∧ r.2.mem ((c.tc : Thread Cert.SguRefIdeal.nD Cert.SguRefIdeal.τ).loc Cert.SguRefIdeal.main_arg11) = m' ((c.tc : Thread Cert.SguRefIdeal.nD Cert.SguRefIdeal.τ).loc Cert.SguRefIdeal.main_arg11))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v11_0)) (v1 : (c : Dev Cert.InprojIdeal.nD) → Buf (Elt Ideal) ((c.tc : Thread Cert.InprojIdeal.nD Cert.InprojIdeal.τ).loc Cert.InprojIdeal.main_v11_1)) (v2 : (c : Dev Cert.InprojIdeal.nD) → Buf (Elt Ideal) ((c.tc : Thread Cert.InprojIdeal.nD Cert.InprojIdeal.τ).loc Cert.InprojIdeal.main_v11_2)) (v3 : (c : Dev Cert.InprojIdeal.nD) → Buf (Elt Ideal) ((c.tc : Thread Cert.InprojIdeal.nD Cert.InprojIdeal.τ).loc Cert.InprojIdeal.main_v11_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v11_0) = v0 c
          ∧ r.2.mem ((c.tc : Thread Cert.InprojIdeal.nD Cert.InprojIdeal.τ).loc Cert.InprojIdeal.main_v11_1) = v1 c
          ∧ r.2.mem ((c.tc : Thread Cert.InprojIdeal.nD Cert.InprojIdeal.τ).loc Cert.InprojIdeal.main_v11_2) = v2 c
          ∧ r.2.mem ((c.tc : Thread Cert.InprojIdeal.nD Cert.InprojIdeal.τ).loc Cert.InprojIdeal.main_v11_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v90) = v0 c
          ∧ r.2.mem ((c.tc : Thread Cert.InprojRefIdeal.nD Cert.InprojRefIdeal.τ).loc Cert.InprojRefIdeal.main_v92) = v1 c
          ∧ r.2.mem ((c.tc : Thread Cert.InprojRefIdeal.nD Cert.InprojRefIdeal.τ).loc Cert.InprojRefIdeal.main_v94) = v2 c
          ∧ r.2.mem ((c.tc : Thread Cert.InprojRefIdeal.nD Cert.InprojRefIdeal.τ).loc Cert.InprojRefIdeal.main_v96) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5))

def preserves_Mods_ModsIdeal : Prop :=
  True

def algebraic_ModsIdeal_ModsRefIdeal [hModsIdeal : Cert.ModsIdeal.Facts] [hModsRefIdeal : Cert.ModsRefIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsRefIdeal.nD Cert.ModsRefIdeal.τ Cert.ModsRefIdeal.sig) → Buf (Elt Ideal) ℓ) (g' : Dev Cert.ModsRefIdeal.nD → PrngReg), Pre_ModsIdeal m →
    (∀ c : Dev Cert.ModsIdeal.nD,
      m' ((c.tc : Thread Cert.ModsRefIdeal.nD Cert.ModsRefIdeal.τ).loc Cert.ModsRefIdeal.main_arg0) = m ((c.tc : Thread Cert.ModsIdeal.nD Cert.ModsIdeal.τ).loc Cert.ModsIdeal.main_arg0)
      ∧ m' ((c.tc : Thread Cert.ModsRefIdeal.nD Cert.ModsRefIdeal.τ).loc Cert.ModsRefIdeal.main_arg1) = m ((c.tc : Thread Cert.ModsIdeal.nD Cert.ModsIdeal.τ).loc Cert.ModsIdeal.main_arg1)
      ∧ m' ((c.tc : Thread Cert.ModsRefIdeal.nD Cert.ModsRefIdeal.τ).loc Cert.ModsRefIdeal.main_arg2) = m ((c.tc : Thread Cert.ModsIdeal.nD Cert.ModsIdeal.τ).loc Cert.ModsIdeal.main_arg2)) →
    ∃ (v0 : (c : Dev Cert.ModsIdeal.nD) → Buf (Elt Ideal) ((c.tc : Thread Cert.ModsIdeal.nD Cert.ModsIdeal.τ).loc Cert.ModsIdeal.main_v6)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v6) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ θ_run (Cert.ModsRefIdeal.defs (F := Ideal)) (onTc (τ := Cert.ModsRefIdeal.τ) (Cert.ModsRefIdeal.main (F := Ideal))) ⟨m', fun _ => 0, g'⟩ (fun r => ∀ c : Dev Cert.ModsRefIdeal.nD,
          r.2.mem ((c.tc : Thread Cert.ModsRefIdeal.nD Cert.ModsRefIdeal.τ).loc Cert.ModsRefIdeal.main_v6) = v0 c
          ∧ r.2.mem ((c.tc : Thread Cert.ModsRefIdeal.nD Cert.ModsRefIdeal.τ).loc Cert.ModsRefIdeal.main_arg0) = m' ((c.tc : Thread Cert.ModsRefIdeal.nD Cert.ModsRefIdeal.τ).loc Cert.ModsRefIdeal.main_arg0)
          ∧ r.2.mem ((c.tc : Thread Cert.ModsRefIdeal.nD Cert.ModsRefIdeal.τ).loc Cert.ModsRefIdeal.main_arg1) = m' ((c.tc : Thread Cert.ModsRefIdeal.nD Cert.ModsRefIdeal.τ).loc Cert.ModsRefIdeal.main_arg1)
          ∧ r.2.mem ((c.tc : Thread Cert.ModsRefIdeal.nD Cert.ModsRefIdeal.τ).loc Cert.ModsRefIdeal.main_arg2) = m' ((c.tc : Thread Cert.ModsRefIdeal.nD Cert.ModsRefIdeal.τ).loc Cert.ModsRefIdeal.main_arg2))

def preserves_Score_ScoreIdeal : Prop :=
  True

def algebraic_ScoreIdeal_ScoreRefIdeal [hScoreIdeal : Cert.ScoreIdeal.Facts] [hScoreRefIdeal : Cert.ScoreRefIdeal.Facts] : Prop :=
  ∀ (m : (ℓ : Loc Cert.ScoreIdeal.nD Cert.ScoreIdeal.τ Cert.ScoreIdeal.sig) → Buf (Elt Ideal) ℓ) (g : Dev Cert.ScoreIdeal.nD → PrngReg)
    (m' : (ℓ : Loc Cert.ScoreRefIdeal.nD Cert.ScoreRefIdeal.τ Cert.ScoreRefIdeal.sig) → Buf (Elt Ideal) ℓ) (g' : Dev Cert.ScoreRefIdeal.nD → PrngReg), Pre_ScoreIdeal m →
    (∀ c : Dev Cert.ScoreIdeal.nD,
      m' ((c.tc : Thread Cert.ScoreRefIdeal.nD Cert.ScoreRefIdeal.τ).loc Cert.ScoreRefIdeal.main_arg0) = m ((c.tc : Thread Cert.ScoreIdeal.nD Cert.ScoreIdeal.τ).loc Cert.ScoreIdeal.main_arg0)
      ∧ m' ((c.tc : Thread Cert.ScoreRefIdeal.nD Cert.ScoreRefIdeal.τ).loc Cert.ScoreRefIdeal.main_arg1) = m ((c.tc : Thread Cert.ScoreIdeal.nD Cert.ScoreIdeal.τ).loc Cert.ScoreIdeal.main_arg1)) →
    ∃ (v0 : (c : Dev Cert.ScoreIdeal.nD) → Buf (Elt Ideal) ((c.tc : Thread Cert.ScoreIdeal.nD Cert.ScoreIdeal.τ).loc Cert.ScoreIdeal.main_v4)),
      θ_run (Cert.ScoreIdeal.defs (F := Ideal)) (onTc (τ := Cert.ScoreIdeal.τ) (Cert.ScoreIdeal.main (F := Ideal))) ⟨m, fun _ => 0, g⟩ (fun r => ∀ c : Dev Cert.ScoreIdeal.nD,
          r.2.mem ((c.tc : Thread Cert.ScoreIdeal.nD Cert.ScoreIdeal.τ).loc Cert.ScoreIdeal.main_v4) = v0 c
          ∧ r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
          ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1))
      ∧ θ_run (Cert.ScoreRefIdeal.defs (F := Ideal)) (onTc (τ := Cert.ScoreRefIdeal.τ) (Cert.ScoreRefIdeal.main (F := Ideal))) ⟨m', fun _ => 0, g'⟩ (fun r => ∀ c : Dev Cert.ScoreRefIdeal.nD,
          r.2.mem ((c.tc : Thread Cert.ScoreRefIdeal.nD Cert.ScoreRefIdeal.τ).loc Cert.ScoreRefIdeal.main_v5) = v0 c
          ∧ r.2.mem ((c.tc : Thread Cert.ScoreRefIdeal.nD Cert.ScoreRefIdeal.τ).loc Cert.ScoreRefIdeal.main_arg0) = m' ((c.tc : Thread Cert.ScoreRefIdeal.nD Cert.ScoreRefIdeal.τ).loc Cert.ScoreRefIdeal.main_arg0)
          ∧ r.2.mem ((c.tc : Thread Cert.ScoreRefIdeal.nD Cert.ScoreRefIdeal.τ).loc Cert.ScoreRefIdeal.main_arg1) = m' ((c.tc : Thread Cert.ScoreRefIdeal.nD Cert.ScoreRefIdeal.τ).loc Cert.ScoreRefIdeal.main_arg1))

def Claim : Prop :=
  ∃ (hRet : Cert.Ret.Facts) (hRetIdeal : Cert.RetIdeal.Facts) (hRetRefIdeal : Cert.RetRefIdeal.Facts) (hSgu : Cert.Sgu.Facts) (hSguIdeal : Cert.SguIdeal.Facts) (hSguRefIdeal : Cert.SguRefIdeal.Facts) (hInproj : Cert.Inproj.Facts) (hInprojIdeal : Cert.InprojIdeal.Facts) (hInprojRefIdeal : Cert.InprojRefIdeal.Facts) (hMods : Cert.Mods.Facts) (hModsIdeal : Cert.ModsIdeal.Facts) (hModsRefIdeal : Cert.ModsRefIdeal.Facts) (hScore : Cert.Score.Facts) (hScoreIdeal : Cert.ScoreIdeal.Facts) (hScoreRefIdeal : Cert.ScoreRefIdeal.Facts) (hPre_finite : Cert.Pre_finite.Facts),
    quiescent_Ret (hRet := hRet)
    ∧ quiescent_RetIdeal (hRetIdeal := hRetIdeal)
    ∧ quiescent_RetIdeal_pre_finite (hRetIdeal := hRetIdeal) (hPre_finite := hPre_finite)
    ∧ quiescent_RetRefIdeal (hRetRefIdeal := hRetRefIdeal)
    ∧ quiescent_RetRefIdeal_pre_finite (hRetRefIdeal := hRetRefIdeal) (hPre_finite := hPre_finite)
    ∧ quiescent_Sgu (hSgu := hSgu)
    ∧ quiescent_SguIdeal (hSguIdeal := hSguIdeal)
    ∧ quiescent_SguRefIdeal (hSguRefIdeal := hSguRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Mods (hMods := hMods)
    ∧ quiescent_ModsIdeal (hModsIdeal := hModsIdeal)
    ∧ quiescent_ModsRefIdeal (hModsRefIdeal := hModsRefIdeal)
    ∧ quiescent_Score (hScore := hScore)
    ∧ quiescent_ScoreIdeal (hScoreIdeal := hScoreIdeal)
    ∧ quiescent_ScoreRefIdeal (hScoreRefIdeal := hScoreRefIdeal)
    ∧ preserves_Ret_RetIdeal
    ∧ algebraic_RetIdeal_RetRefIdeal_pre_finite (hRetIdeal := hRetIdeal) (hRetRefIdeal := hRetRefIdeal) (hPre_finite := hPre_finite)
    ∧ preserves_Sgu_SguIdeal
    ∧ algebraic_SguIdeal_SguRefIdeal (hSguIdeal := hSguIdeal) (hSguRefIdeal := hSguRefIdeal)
    ∧ preserves_Inproj_InprojIdeal
    ∧ algebraic_InprojIdeal_InprojRefIdeal (hInprojIdeal := hInprojIdeal) (hInprojRefIdeal := hInprojRefIdeal)
    ∧ preserves_Mods_ModsIdeal
    ∧ algebraic_ModsIdeal_ModsRefIdeal (hModsIdeal := hModsIdeal) (hModsRefIdeal := hModsRefIdeal)
    ∧ preserves_Score_ScoreIdeal
    ∧ algebraic_ScoreIdeal_ScoreRefIdeal (hScoreIdeal := hScoreIdeal) (hScoreRefIdeal := hScoreRefIdeal)
-- ==== Pre_finite.lean ====
abbrev S16384x1024 : Shape := ⟨2, ![16384, 1024]⟩
abbrev S16384x2048 : Shape := ⟨2, ![16384, 2048]⟩
abbrev S2048x1024 : Shape := ⟨2, ![2048, 1024]⟩
abbrev S2x1x1024 : Shape := ⟨3, ![2, 1, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_

variable [Facts]

def fn {F : FTy → Type} [FloatOps F] (main_arg0 : FVec F S16384x1024 .bf16) (main_arg1 : FVec F S16384x1024 .bf16) (main_arg2 : FVec F S16384x2048 .bf16) (main_arg3 : FVec F S16384x2048 .bf16) (main_arg4 : FVec F S2048x1024 .f32) (main_arg5 : FVec F S16384x1024 .f32) (main_arg6 : FVec F S2x1x1024 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S16384x2048 .f32 := (extf .f32 · bitsLt_bf16_f32) main_arg2
  let main_v12 : FVec F S16384x2048 .f32 := Host.absf main_v11
  let main_cst_2 : FVec F S_ .f32 := constant S_ .f32 0x7F800000#32
  let main_v13 : FVec F S16384x2048 .f32 := broadcastInDim S16384x2048 ![] bcast_S_S16384x2048 main_cst_2
  let main_v14 : IVec S16384x2048 1 := cmpf .olt main_v12 main_v13
  let main_c_3 : IVec S_ 1 := constantI S_ 1 1#1
  let main_v15 : IVec S_ 1 := (fun x v => Host.reduce IntOp.andi x v reducesTo_S16384x2048_S_d0_1 h_S_) main_v14 main_c_3
  let main_v16 : IVec S_ 1 := andi main_v10 main_v15
  main_v16
-- ==== Ret.lean ====
abbrev S16384x1024 : Shape := ⟨2, ![16384, 1024]⟩
abbrev S16384x2048 : Shape := ⟨2, ![16384, 2048]⟩
abbrev S2048x1024 : Shape := ⟨2, ![2048, 1024]⟩
abbrev S2x1x1024 : Shape := ⟨3, ![2, 1, 1024]⟩
abbrev S4 : Shape := ⟨1, ![4]⟩
abbrev S_ : Shape := ⟨0, ![]⟩
abbrev S4x1x1 : Shape := ⟨3, ![4, 1, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x256x256 : Shape := ⟨3, ![4, 256, 256]⟩
abbrev S1x256x1 : Shape := ⟨3, ![1, 256, 1]⟩
abbrev S4x256x1 : Shape := ⟨3, ![4, 256, 1]⟩
abbrev S256x1024 : Shape := ⟨2, ![256, 1024]⟩
abbrev S256x2048 : Shape := ⟨2, ![256, 2048]⟩
abbrev S1x1x1024 : Shape := ⟨3, ![1, 1, 1024]⟩
abbrev S4x256x512 : Shape := ⟨3, ![4, 256, 512]⟩
abbrev S256x512 : Shape := ⟨2, ![256, 512]⟩
abbrev S1x256x512 : Shape := ⟨3, ![1, 256, 512]⟩
abbrev S512x1024 : Shape := ⟨2, ![512, 1024]⟩
abbrev S1x1024 : Shape := ⟨2, ![1, 1024]⟩

abbrev nBuf : Space → Nat
  | .hbm => 104
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S16384x2048, .bf16⟩
  | .hbm, ⟨4, _⟩ => ⟨S2048x1024, .f32⟩
  | .hbm, ⟨5, _⟩ => ⟨S16384x1024, .f32⟩
  | .hbm, ⟨6, _⟩ => ⟨S2x1x1024, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S4x1x1, .f32⟩
  | .hbm, ⟨19, _⟩ => ⟨S256, .f32⟩
  | .hbm, ⟨20, _⟩ => ⟨S256x1, .f32⟩
  | .hbm, ⟨21, _⟩ => ⟨S1x256, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S256, .i32⟩
  | .hbm, ⟨26, _⟩ => ⟨S256x1, .i32⟩
  | .hbm, ⟨27, _⟩ => ⟨S_, .i32⟩
  | .hbm, ⟨28, _⟩ => ⟨S_, .i32⟩
  | .hbm, ⟨29, _⟩ => ⟨S256x1, .i32⟩
  | .hbm, ⟨30, _⟩ => ⟨S256x1, .i32⟩
  | .hbm, ⟨31, _⟩ => ⟨S256x1, .i32⟩
  | .hbm, ⟨32, _⟩ => ⟨S_, .i32⟩
  | .hbm, ⟨33, _⟩ => ⟨S256x1, .i32⟩
  | .hbm, ⟨34, _⟩ => ⟨S256x1, .i1⟩
  | .hbm, ⟨35, _⟩ => ⟨S256x1, .i32⟩
  | .hbm, ⟨36, _⟩ => ⟨S256x1, .i32⟩
  | .hbm, ⟨37, _⟩ => ⟨S_, .i32⟩
  | .hbm, ⟨38, _⟩ => ⟨S256x1, .i32⟩
  | .hbm, ⟨39, _⟩ => ⟨S256x1, .i1⟩
  | .hbm, ⟨40, _⟩ => ⟨S256x1, .i1⟩
  | .hbm, ⟨41, _⟩ => ⟨S_, .i32⟩
  | .hbm, ⟨42, _⟩ => ⟨S256x1, .i32⟩
  | .hbm, ⟨43, _⟩ => ⟨S256x1, .i32⟩
  | .hbm, ⟨44, _⟩ => ⟨S256x1, .i32⟩
  | .hbm, ⟨45, _⟩ => ⟨S256, .i32⟩
  | .hbm, ⟨46, _⟩ => ⟨S1x256, .i32⟩
  | .hbm, ⟨47, _⟩ => ⟨S_, .i32⟩
  | .hbm, ⟨48, _⟩ => ⟨S_, .i32⟩
  | .hbm, ⟨49, _⟩ => ⟨S1x256, .i32⟩
  | .hbm, ⟨50, _⟩ => ⟨S1x256, .i32⟩
  | .hbm, ⟨51, _⟩ => ⟨S1x256, .i32⟩
  | .hbm, ⟨52, _⟩ => ⟨S_, .i32⟩
  | .hbm, ⟨53, _⟩ => ⟨S1x256, .i32⟩
  | .hbm, ⟨54, _⟩ => ⟨S1x256, .i1⟩
  | .hbm, ⟨55, _⟩ => ⟨S1x256, .i32⟩
  | .hbm, ⟨56, _⟩ => ⟨S1x256, .i32⟩
  | .hbm, ⟨57, _⟩ => ⟨S_, .i32⟩
  | .hbm, ⟨58, _⟩ => ⟨S1x256, .i32⟩
  | .hbm, ⟨59, _⟩ => ⟨S1x256, .i1⟩
  | .hbm, ⟨60, _⟩ => ⟨S1x256, .i1⟩
  | .hbm, ⟨61, _⟩ => ⟨S_, .i32⟩
  | .hbm, ⟨62, _⟩ => ⟨S1x256, .i32⟩
  | .hbm, ⟨63, _⟩ => ⟨S1x256, .i32⟩
  | .hbm, ⟨64, _⟩ => ⟨S1x256, .i32⟩
  | .hbm, ⟨65, _⟩ => ⟨S256x256, .i32⟩
  | .hbm, ⟨66, _⟩ => ⟨S256x256, .i32⟩
  | .hbm, ⟨67, _⟩ => ⟨S256x256, .i1⟩
  | .hbm, ⟨68, _⟩ => ⟨S256x256, .f32⟩
  | .hbm, ⟨69, _⟩ => ⟨S256x256, .f32⟩
  | .hbm, ⟨70, _⟩ => ⟨S256x256, .i32⟩
  | .hbm, ⟨71, _⟩ => ⟨S256x256, .i32⟩
  | .hbm, ⟨72, _⟩ => ⟨S256x256, .i1⟩
  | .hbm, ⟨73, _⟩ => ⟨S1x256x256, .i1⟩
  | .hbm, ⟨74, _⟩ => ⟨S1x256x256, .f32⟩
  | .hbm, ⟨75, _⟩ => ⟨S4x256x256, .f32⟩
  | .hbm, ⟨76, _⟩ => ⟨S4x256x256, .f32⟩
  | .hbm, ⟨77, _⟩ => ⟨S4x256x256, .f32⟩
  | .hbm, ⟨78, _⟩ => ⟨S4x256x256, .f32⟩
  | .hbm, ⟨79, _⟩ => ⟨S_, .f32⟩
  | .hbm, ⟨80, _⟩ => ⟨S_, .f32⟩
  | .hbm, ⟨81, _⟩ => ⟨S4x256x256, .i1⟩
  | .hbm, ⟨82, _⟩ => ⟨S4x256x256, .f32⟩
  | .hbm, ⟨83, _⟩ => ⟨S4x256x256, .f32⟩
  | .hbm, ⟨84, _⟩ => ⟨S1x256x1, .f32⟩
  | .hbm, ⟨85, _⟩ => ⟨S_, .f32⟩
  | .hbm, ⟨86, _⟩ => ⟨S1x256x1, .f32⟩
  | .hbm, ⟨87, _⟩ => ⟨S1x256x1, .f32⟩
  | .hbm, ⟨88, _⟩ => ⟨S4x256x1, .f32⟩
  | .hbm, ⟨89, _⟩ => ⟨S4x256x1, .f32⟩
  | .hbm, ⟨90, _⟩ => ⟨S4x256x1, .f32⟩
  | .hbm, ⟨91, _⟩ => ⟨S4x256x1, .f32⟩
  | .hbm, ⟨92, _⟩ => ⟨S4x256x256, .f32⟩
  | .hbm, ⟨93, _⟩ => ⟨S1x256x1, .f32⟩
  | .hbm, ⟨94, _⟩ => ⟨S_, .f32⟩
  | .hbm, ⟨95, _⟩ => ⟨S1x256x1, .f32⟩
  | .hbm, ⟨96, _⟩ => ⟨S1x256x1, .f32⟩
  | .hbm, ⟨97, _⟩ => ⟨S4x256x1, .f32⟩
  | .hbm, ⟨98, _⟩ => ⟨S4x256x1, .f32⟩
  | .hbm, ⟨99, _⟩ => ⟨S4x256x1, .f32⟩
  | .hbm, ⟨100, _⟩ => ⟨S4x256x1, .f32⟩
  | .hbm, ⟨101, _⟩ => ⟨S4x256x256, .f32⟩
  | .hbm, ⟨102, _⟩ => ⟨S2048x1024, .bf16⟩
  | .hbm, ⟨103, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S4x256x256, .f32⟩
  | .local _ .vmem, ⟨9, _⟩ => ⟨S4x256x256, .f32⟩
  | .local _ .vmem, ⟨10, _⟩ => ⟨S4x256x256, .f32⟩
  | .local _ .vmem, ⟨11, _⟩ => ⟨S2048x1024, .bf16⟩
  | .local _ .vmem, ⟨12, _⟩ => ⟨S256x1024, .f32⟩
  | .local _ .vmem, ⟨13, _⟩ => ⟨S256x1024, .f32⟩
  | .local _ .vmem, ⟨14, _⟩ => ⟨S1x1x1024, .f32⟩
  | .local _ .vmem, ⟨15, _⟩ => ⟨S1x1x1024, .f32⟩
  | .local _ .vmem, ⟨16, _⟩ => ⟨S256x1024, .f32⟩
  | .local _ .vmem, ⟨17, _⟩ => ⟨S256x1024, .f32⟩
  | .local _ .vmem, ⟨18, _⟩ => ⟨S4x256x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_2 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_c : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_0 : Ref sig .tc := ⟨.hbm, 61, rfl⟩
abbrev main_call1_v12 : Ref sig .tc := ⟨.hbm, 62, rfl⟩
abbrev main_call1_v13 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_3 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v35 : Ref sig .tc := ⟨.hbm, 83, rfl⟩
abbrev main_v36 : Ref sig .tc := ⟨.hbm, 84, rfl⟩
abbrev main_cst_4 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_5 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RetIdeal.lean ====
variable {F : FTy → Type} [FloatOps F] [Named F]
def κ : String → Option EReal := fun
  | "gl0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "gl1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "gl2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "gl3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | _ => none
-- ==== RetRefIdeal.lean ====
abbrev S16384x1024 : Shape := ⟨2, ![16384, 1024]⟩
abbrev S16384x2048 : Shape := ⟨2, ![16384, 2048]⟩
abbrev S2048x1024 : Shape := ⟨2, ![2048, 1024]⟩
abbrev S2x1x1024 : Shape := ⟨3, ![2, 1, 1024]⟩
abbrev S2x8192x4x256 : Shape := ⟨4, ![2, 8192, 4, 256]⟩
abbrev S2x8192x4x512 : Shape := ⟨4, ![2, 8192, 4, 512]⟩
abbrev S4 : Shape := ⟨1, ![4]⟩
abbrev S_ : Shape := ⟨0, ![]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S1x4 : Shape := ⟨2, ![1, 4]⟩
abbrev S64x4 : Shape := ⟨2, ![64, 4]⟩
abbrev S2x4x256x512 : Shape := ⟨4, ![2, 4, 256, 512]⟩
abbrev S2x128x64x4x256 : Shape := ⟨5, ![2, 128, 64, 4, 256]⟩
abbrev S128x2x64x4x256 : Shape := ⟨5, ![128, 2, 64, 4, 256]⟩
abbrev S2x128x64x4x512 : Shape := ⟨5, ![2, 128, 64, 4, 512]⟩
abbrev S128x2x64x4x512 : Shape := ⟨5, ![128, 2, 64, 4, 512]⟩
abbrev S1x2x64x4x256 : Shape := ⟨5, ![1, 2, 64, 4, 256]⟩
abbrev S2x64x4x256 : Shape := ⟨4, ![2, 64, 4, 256]⟩
abbrev S1x2x64x4x512 : Shape := ⟨5, ![1, 2, 64, 4, 512]⟩
abbrev S2x64x4x512 : Shape := ⟨4, ![2, 64, 4, 512]⟩
abbrev S2x4x64x64 : Shape := ⟨4, ![2, 4, 64, 64]⟩
abbrev S1x4x64x64 : Shape := ⟨4, ![1, 4, 64, 64]⟩
abbrev S2x4x512x64 : Shape := ⟨4, ![2, 4, 512, 64]⟩
abbrev S1x64x4x1 : Shape := ⟨4, ![1, 64, 4, 1]⟩
abbrev S1x4x1x1 : Shape := ⟨4, ![1, 4, 1, 1]⟩
abbrev S2x8192x4 : Shape := ⟨3, ![2, 8192, 4]⟩
abbrev S2x8192x4x1 : Shape := ⟨4, ![2, 8192, 4, 1]⟩
abbrev S2x8192x2048 : Shape := ⟨3, ![2, 8192, 2048]⟩
abbrev S2x8192x1024 : Shape := ⟨3, ![2, 8192, 1024]⟩

abbrev nBuf : Space → Nat
  | .hbm => 162
  | .vmem => 0
  | .smem => 0
  | _ => 0

abbrev hbmTy0_0 (i : Nat) : BufTy := match i % 128 with
  | 0 => ⟨S16384x1024, .bf16⟩
  | 1 => ⟨S16384x1024, .bf16⟩
  | 2 => ⟨S16384x2048, .bf16⟩
  | 3 => ⟨S16384x2048, .bf16⟩
  | 4 => ⟨S2048x1024, .f32⟩
  | 5 => ⟨S16384x1024, .f32⟩
  | 6 => ⟨S2x1x1024, .f32⟩
  | 7 => ⟨S16384x1024, .f32⟩
  | 8 => ⟨S2x8192x4x256, .f32⟩
  | 9 => ⟨S16384x1024, .f32⟩
  | 10 => ⟨S2x8192x4x256, .f32⟩
  | 11 => ⟨S16384x2048, .f32⟩
  | 12 => ⟨S2x8192x4x512, .f32⟩
  | 13 => ⟨S4, .f32⟩
  | 14 => ⟨S_, .f32⟩
  | 15 => ⟨S4, .f32⟩
  | 16 => ⟨S4, .f32⟩
  | 17 => ⟨S_, .f32⟩
  | 18 => ⟨S4, .f32⟩
  | 19 => ⟨S4, .f32⟩
  | 20 => ⟨S_, .f32⟩
  | 21 => ⟨S4, .f32⟩
  | 22 => ⟨S4, .f32⟩
  | 23 => ⟨S4, .f32⟩
  | 24 => ⟨S64, .f32⟩
  | 25 => ⟨S4x1x1, .f32⟩
  | 26 => ⟨S64x1, .f32⟩
  | 27 => ⟨S1x64, .f32⟩
  | 28 => ⟨S64x64, .f32⟩
  | 29 => ⟨S64x64, .f32⟩
  | 30 => ⟨S64x64, .f32⟩
  | 31 => ⟨S64x64, .f32⟩
  | 32 => ⟨S1x64x64, .f32⟩
  | 33 => ⟨S4x64x64, .f32⟩
  | 34 => ⟨S4x64x64, .f32⟩
  | 35 => ⟨S4x64x64, .f32⟩
  | 36 => ⟨S4x64x64, .f32⟩
  | 37 => ⟨S1x4, .f32⟩
  | 38 => ⟨S64x1, .f32⟩
  | 39 => ⟨S_, .f32⟩
  | 40 => ⟨S64x1, .f32⟩
  | 41 => ⟨S64x1, .f32⟩
  | 42 => ⟨S64x4, .f32⟩
  | 43 => ⟨S64x4, .f32⟩
  | 44 => ⟨S64x4, .f32⟩
  | 45 => ⟨S64x4, .f32⟩
  | 46 => ⟨S1x4, .f32⟩
  | 47 => ⟨S64x1, .f32⟩
  | 48 => ⟨S_, .f32⟩
  | 49 => ⟨S64x1, .f32⟩
  | 50 => ⟨S64x1, .f32⟩
  | 51 => ⟨S64x4, .f32⟩
  | 52 => ⟨S64x4, .f32⟩
  | 53 => ⟨S64x4, .f32⟩
  | 54 => ⟨S64x4, .f32⟩
  | 55 => ⟨S_, .f32⟩
  | 56 => ⟨S4, .f32⟩
  | 57 => ⟨S4, .f32⟩
  | 58 => ⟨S4, .f32⟩
  | 59 => ⟨S_, .f32⟩
  | 60 => ⟨S2x4x256x512, .f32⟩
  | 61 => ⟨S2x128x64x4x256, .f32⟩
  | 62 => ⟨S128x2x64x4x256, .f32⟩
  | 63 => ⟨S2x128x64x4x256, .f32⟩
  | 64 => ⟨S128x2x64x4x256, .f32⟩
  | 65 => ⟨S2x128x64x4x512, .f32⟩
  | 66 => ⟨S128x2x64x4x512, .f32⟩
  | 67 => ⟨S_, .f32⟩
  | 68 => ⟨S128x2x64x4x512, .f32⟩
  | 69 => ⟨S_, .i32⟩
  | 70 => ⟨S128x2x64x4x256, .f32⟩
  | 71 => ⟨S128x2x64x4x256, .f32⟩
  | 72 => ⟨S128x2x64x4x512, .f32⟩
  | 73 => ⟨S4x64x64, .f32⟩
  | 74 => ⟨S64x4, .f32⟩
  | 75 => ⟨S4, .f32⟩
  | 76 => ⟨S64x4, .f32⟩
  | 77 => ⟨S_, .i32⟩
  | 78 => ⟨S2x4x256x512, .f32⟩
  | 79 => ⟨S128x2x64x4x512, .f32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S1x2x64x4x256, .f32⟩
  | 87 => ⟨S2x64x4x256, .f32⟩
  | 88 => ⟨S_, .i32⟩
  | 89 => ⟨S_, .i32⟩
  | 90 => ⟨S_, .i32⟩
  | 91 => ⟨S_, .i32⟩
  | 92 => ⟨S1x2x64x4x256, .f32⟩
  | 93 => ⟨S2x64x4x256, .f32⟩
  | 94 => ⟨S_, .i32⟩
  | 95 => ⟨S_, .i32⟩
  | 96 => ⟨S_, .i32⟩
  | 97 => ⟨S_, .i32⟩
  | 98 => ⟨S1x2x64x4x512, .f32⟩
  | 99 => ⟨S2x64x4x512, .f32⟩
  | 100 => ⟨S2x4x64x64, .f32⟩
  | 101 => ⟨S1x4x64x64, .f32⟩
  | 102 => ⟨S2x4x64x64, .f32⟩
  | 103 => ⟨S2x4x64x64, .f32⟩
  | 104 => ⟨S2x4x512x64, .f32⟩
  | 105 => ⟨S2x64x4x512, .f32⟩
  | 106 => ⟨S1x64x4x1, .f32⟩
  | 107 => ⟨S2x64x4x256, .f32⟩
  | 108 => ⟨S2x64x4x256, .f32⟩
  | 109 => ⟨S2x4x512x64, .f32⟩
  | 110 => ⟨S2x64x4x512, .f32⟩
  | 111 => ⟨S1x4x1x1, .f32⟩
  | 112 => ⟨S2x4x256x512, .f32⟩
  | 113 => ⟨S2x4x256x512, .f32⟩
  | 114 => ⟨S1x64x4x1, .f32⟩
  | 115 => ⟨S2x64x4x256, .f32⟩
  | 116 => ⟨S2x64x4x256, .f32⟩
  | 117 => ⟨S2x4x256x512, .f32⟩
  | 118 => ⟨S2x4x256x512, .f32⟩
  | 119 => ⟨S2x64x4x512, .f32⟩
  | 120 => ⟨S1x2x64x4x512, .f32⟩
  | 121 => ⟨S_, .i32⟩
  | 122 => ⟨S_, .i32⟩
  | 123 => ⟨S_, .i32⟩
  | 124 => ⟨S_, .i32⟩
  | 125 => ⟨S128x2x64x4x512, .f32⟩
  | 126 => ⟨S_, .i32⟩
  | 127 => ⟨S_, .i32⟩
  | _ => ⟨S16384x1024, .bf16⟩

abbrev hbmTy0_1 (i : Nat) : BufTy := match i % 128 with
  | 0 => ⟨S2x128x64x4x512, .f32⟩
  | 1 => ⟨S2x8192x4x512, .f32⟩
  | 2 => ⟨S2x8192x4x512, .f32⟩
  | 3 => ⟨S_, .f32⟩
  | 4 => ⟨S2x8192x4, .f32⟩
  | 5 => ⟨S2x8192x4x1, .f32⟩
  | 6 => ⟨S_, .f32⟩
  | 7 => ⟨S2x8192x4x1, .f32⟩
  | 8 => ⟨S2x8192x4x1, .f32⟩
  | 9 => ⟨S_, .f32⟩
  | 10 => ⟨S2x8192x4x1, .f32⟩
  | 11 => ⟨S2x8192x4x1, .f32⟩
  | 12 => ⟨S2x8192x4x1, .f32⟩
  | 13 => ⟨S2x8192x4x512, .f32⟩
  | 14 => ⟨S2x8192x4x512, .f32⟩
  | 15 => ⟨S2x8192x2048, .f32⟩
  | 16 => ⟨S16384x2048, .f32⟩
  | 17 => ⟨S2x8192x2048, .f32⟩
  | 18 => ⟨S2x8192x2048, .f32⟩
  | 19 => ⟨S2x8192x2048, .f32⟩
  | 20 => ⟨S_, .f32⟩
  | 21 => ⟨S2x8192x2048, .f32⟩
  | 22 => ⟨S2x8192x2048, .f32⟩
  | 23 => ⟨S_, .f32⟩
  | 24 => ⟨S2x8192x2048, .f32⟩
  | 25 => ⟨S2x8192x2048, .f32⟩
  | 26 => ⟨S2x8192x2048, .f32⟩
  | 27 => ⟨S2x8192x2048, .f32⟩
  | 28 => ⟨S2x8192x1024, .f32⟩
  | 29 => ⟨S2x8192x1024, .f32⟩
  | 30 => ⟨S2x8192x1024, .f32⟩
  | 31 => ⟨S2x8192x1024, .f32⟩
  | 32 => ⟨S2x8192x1024, .f32⟩
  | 33 => ⟨S16384x1024, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_c : Ref sig .tc := ⟨.hbm, 69, rfl⟩
abbrev main_v54_0 : Ref sig .tc := ⟨.hbm, 70, rfl⟩
abbrev main_v54_1 : Ref sig .tc := ⟨.hbm, 71, rfl⟩
abbrev main_v54_2 : Ref sig .tc := ⟨.hbm, 72, rfl⟩
abbrev main_v54_3 : Ref sig .tc := ⟨.hbm, 73, rfl⟩
abbrev main_v54_4 : Ref sig .tc := ⟨.hbm, 74, rfl⟩
abbrev main_v54_5 : Ref sig .tc := ⟨.hbm, 75, rfl⟩
abbrev main_v54_6 : Ref sig .tc := ⟨.hbm, 76, rfl⟩
abbrev main_v54_7 : Ref sig .tc := ⟨.hbm, 77, rfl⟩
abbrev main_v54_8 : Ref sig .tc := ⟨.hbm, 78, rfl⟩
abbrev main_v54_9 : Ref sig .tc := ⟨.hbm, 79, rfl⟩
abbrev main_while0c_c_19 : Ref sig .tc := ⟨.hbm, 80, rfl⟩
abbrev main_while0c_v78 : Ref sig .tc := ⟨.hbm, 81, rfl⟩
abbrev main_while0b_call0_c : Ref sig .tc := ⟨.hbm, 82, rfl⟩
abbrev main_while0b_call0_c_0 : Ref sig .tc := ⟨.hbm, 83, rfl⟩
abbrev main_while0b_call0_c_1 : Ref sig .tc := ⟨.hbm, 84, rfl⟩
abbrev main_while0b_call0_c_2 : Ref sig .tc := ⟨.hbm, 85, rfl⟩
abbrev main_while0b_call0_v0 : Ref sig .tc := ⟨.hbm, 86, rfl⟩
abbrev main_while0b_v78 : Ref sig .tc := ⟨.hbm, 87, rfl⟩
abbrev main_while0b_call1_c : Ref sig .tc := ⟨.hbm, 88, rfl⟩
abbrev main_while0b_call1_c_0 : Ref sig .tc := ⟨.hbm, 89, rfl⟩
abbrev main_while0b_call1_c_1 : Ref sig .tc := ⟨.hbm, 90, rfl⟩
abbrev main_while0b_call1_c_2 : Ref sig .tc := ⟨.hbm, 91, rfl⟩
abbrev main_while0b_call1_v0 : Ref sig .tc := ⟨.hbm, 92, rfl⟩
abbrev main_while0b_v79 : Ref sig .tc := ⟨.hbm, 93, rfl⟩
abbrev main_while0b_call2_c : Ref sig .tc := ⟨.hbm, 94, rfl⟩
abbrev main_while0b_call2_c_0 : Ref sig .tc := ⟨.hbm, 95, rfl⟩
abbrev main_while0b_call2_c_1 : Ref sig .tc := ⟨.hbm, 96, rfl⟩
abbrev main_while0b_call2_c_2 : Ref sig .tc := ⟨.hbm, 97, rfl⟩
abbrev main_while0b_call2_v0 : Ref sig .tc := ⟨.hbm, 98, rfl⟩
abbrev main_while0b_v80 : Ref sig .tc := ⟨.hbm, 99, rfl⟩
abbrev main_while0b_v81 : Ref sig .tc := ⟨.hbm, 100, rfl⟩
abbrev main_while0b_v82 : Ref sig .tc := ⟨.hbm, 101, rfl⟩
abbrev main_while0b_v83 : Ref sig .tc := ⟨.hbm, 102, rfl⟩
abbrev main_while0b_v84 : Ref sig .tc := ⟨.hbm, 103, rfl⟩
abbrev main_while0b_v85 : Ref sig .tc := ⟨.hbm, 104, rfl⟩
abbrev main_while0b_v86 : Ref sig .tc := ⟨.hbm, 105, rfl⟩
abbrev main_while0b_v87 : Ref sig .tc := ⟨.hbm, 106, rfl⟩
abbrev main_while0b_v88 : Ref sig .tc := ⟨.hbm, 107, rfl⟩
abbrev main_while0b_v89 : Ref sig .tc := ⟨.hbm, 108, rfl⟩
abbrev main_while0b_v90 : Ref sig .tc := ⟨.hbm, 109, rfl⟩
abbrev main_while0b_v91 : Ref sig .tc := ⟨.hbm, 110, rfl⟩
abbrev main_while0b_v92 : Ref sig .tc := ⟨.hbm, 111, rfl⟩
abbrev main_while0b_v93 : Ref sig .tc := ⟨.hbm, 112, rfl⟩
abbrev main_while0b_v94 : Ref sig .tc := ⟨.hbm, 113, rfl⟩
abbrev main_while0b_v95 : Ref sig .tc := ⟨.hbm, 114, rfl⟩
abbrev main_while0b_v96 : Ref sig .tc := ⟨.hbm, 115, rfl⟩
abbrev main_while0b_v97 : Ref sig .tc := ⟨.hbm, 116, rfl⟩
abbrev main_while0b_v98 : Ref sig .tc := ⟨.hbm, 117, rfl⟩
abbrev main_while0b_v99 : Ref sig .tc := ⟨.hbm, 118, rfl⟩
abbrev main_while0b_v100 : Ref sig .tc := ⟨.hbm, 119, rfl⟩
abbrev main_while0b_call3_v0 : Ref sig .tc := ⟨.hbm, 120, rfl⟩
abbrev main_while0b_call3_c : Ref sig .tc := ⟨.hbm, 121, rfl⟩
abbrev main_while0b_call3_c_0 : Ref sig .tc := ⟨.hbm, 122, rfl⟩
abbrev main_while0b_call3_c_1 : Ref sig .tc := ⟨.hbm, 123, rfl⟩
abbrev main_while0b_call3_c_2 : Ref sig .tc := ⟨.hbm, 124, rfl⟩
abbrev main_while0b_v101 : Ref sig .tc := ⟨.hbm, 125, rfl⟩
abbrev main_while0b_c_19 : Ref sig .tc := ⟨.hbm, 126, rfl⟩
abbrev main_while0b_v102 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_cst_7 : Ref sig .tc := ⟨.hbm, 131, rfl⟩
abbrev main_v58 : Ref sig .tc := ⟨.hbm, 132, rfl⟩
abbrev main_v59 : Ref sig .tc := ⟨.hbm, 133, rfl⟩
abbrev main_cst_8 : Ref sig .tc := ⟨.hbm, 134, rfl⟩
abbrev main_v60 : Ref sig .tc := ⟨.hbm, 135, rfl⟩
abbrev main_v61 : Ref sig .tc := ⟨.hbm, 136, rfl⟩
abbrev main_cst_9 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_call4_v0 : Ref sig .tc := ⟨.hbm, 146, rfl⟩
abbrev main_call4_v1 : Ref sig .tc := ⟨.hbm, 147, rfl⟩
abbrev main_call4_cst : Ref sig .tc := ⟨.hbm, 148, rfl⟩
abbrev main_call4_v2 : Ref sig .tc := ⟨.hbm, 149, rfl⟩
abbrev main_call4_v3 : Ref sig .tc := ⟨.hbm, 150, rfl⟩
abbrev main_call4_cst_0 : Ref sig .tc := ⟨.hbm, 151, rfl⟩
abbrev main_call4_v4 : Ref sig .tc := ⟨.hbm, 152, rfl⟩
abbrev main_call4_v5 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩

abbrev nD : Nat := 1
abbrev τ : Topo := Topo.v7x

variable {F : FTy → Type} [FloatOps F]

abbrev main_while0_count : Scf.Loop 32 := ⟨0#32, 128#32, 1#32⟩
-- ==== Sgu.lean ====
abbrev S16384x1024 : Shape := ⟨2, ![16384, 1024]⟩
abbrev S1024 : Shape := ⟨1, ![1024]⟩
abbrev S2x1x1024 : Shape := ⟨3, ![2, 1, 1024]⟩
abbrev S1024x6144 : Shape := ⟨2, ![1024, 6144]⟩
abbrev S6144 : Shape := ⟨1, ![6144]⟩
abbrev S3072 : Shape := ⟨1, ![3072]⟩
abbrev S8x128x128 : Shape := ⟨3, ![8, 128, 128]⟩
abbrev S8x128 : Shape := ⟨2, ![8, 128]⟩
abbrev S3072x1024 : Shape := ⟨2, ![3072, 1024]⟩
abbrev S1x1024 : Shape := ⟨2, ![1, 1024]⟩
abbrev S1x6144 : Shape := ⟨2, ![1, 6144]⟩
abbrev S1x3072 : Shape := ⟨2, ![1, 3072]⟩
abbrev S128x8 : Shape := ⟨2, ![128, 8]⟩
abbrev S512x1024 : Shape := ⟨2, ![512, 1024]⟩
abbrev S1x1x1024 : Shape := ⟨3, ![1, 1, 1024]⟩
abbrev S128x128 : Shape := ⟨2, ![128, 128]⟩
abbrev S1x128x128 : Shape := ⟨3, ![1, 128, 128]⟩
abbrev S256x1024 : Shape := ⟨2, ![256, 1024]⟩
abbrev S256 : Shape := ⟨1, ![256]⟩
abbrev S256x1 : Shape := ⟨2, ![256, 1]⟩
abbrev S1024x3072 : Shape := ⟨2, ![1024, 3072]⟩
abbrev S256x3072 : Shape := ⟨2, ![256, 3072]⟩
abbrev S128x384 : Shape := ⟨2, ![128, 384]⟩
abbrev S128x1 : Shape := ⟨2, ![128, 1]⟩
abbrev S128x3072 : Shape := ⟨2, ![128, 3072]⟩

abbrev nBuf : Space → Nat
  | .hbm => 20
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1024x6144, .f32⟩
  | .hbm, ⟨6, _⟩ => ⟨S6144, .f32⟩
  | .hbm, ⟨7, _⟩ => ⟨S3072, .f32⟩
  | .hbm, ⟨8, _⟩ => ⟨S3072, .f32⟩
  | .hbm, ⟨9, _⟩ => ⟨S8x128x128, .f32⟩
  | .hbm, ⟨10, _⟩ => ⟨S8x128, .f32⟩
  | .hbm, ⟨11, _⟩ => ⟨S3072x1024, .f32⟩
  | .hbm, ⟨12, _⟩ => ⟨S1x1024, .f32⟩
  | .hbm, ⟨13, _⟩ => ⟨S1024x6144, .bf16⟩
  | .hbm, ⟨14, _⟩ => ⟨S1x6144, .f32⟩
  | .hbm, ⟨15, _⟩ => ⟨S1x3072, .f32⟩
  | .hbm, ⟨16, _⟩ => ⟨S1x3072, .f32⟩
  | .hbm, ⟨17, _⟩ => ⟨S128x8, .f32⟩
  | .hbm, ⟨18, _⟩ => ⟨S3072x1024, .bf16⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x6144, .bf16⟩
  | .local _ .vmem, ⟨10, _⟩ => ⟨S1x6144, .f32⟩
  | .local _ .vmem, ⟨11, _⟩ => ⟨S1x3072, .f32⟩
  | .local _ .vmem, ⟨12, _⟩ => ⟨S1x3072, .f32⟩
  | .local _ .vmem, ⟨13, _⟩ => ⟨S8x128x128, .f32⟩
  | .local _ .vmem, ⟨14, _⟩ => ⟨S128x8, .f32⟩
  | .local _ .vmem, ⟨15, _⟩ => ⟨S3072x1024, .bf16⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3072x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== SguIdeal.lean ====
variable {F : FTy → Type} [FloatOps F] [Named F]
def κ : String → Option EReal := fun
  | "gelu_a1" => some ((-((6693141 / 4194304) * (Real.log 2)⁻¹) : ℝ) : EReal)
  | "gelu_a3" => some ((-(((6693141 / 4194304) * (Real.log 2)⁻¹) * (12003091 / 268435456)) : ℝ) : EReal)
  | _ => none
-- ==== SguRefIdeal.lean ====
abbrev S16384x1024 : Shape := ⟨2, ![16384, 1024]⟩
abbrev S1024 : Shape := ⟨1, ![1024]⟩
abbrev S2x1x1024 : Shape := ⟨3, ![2, 1, 1024]⟩
abbrev S1024x6144 : Shape := ⟨2, ![1024, 6144]⟩
abbrev S6144 : Shape := ⟨1, ![6144]⟩
abbrev S3072 : Shape := ⟨1, ![3072]⟩
abbrev S8x128x128 : Shape := ⟨3, ![8, 128, 128]⟩
abbrev S8x128 : Shape := ⟨2, ![8, 128]⟩
abbrev S3072x1024 : Shape := ⟨2, ![3072, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x6144 : Shape := ⟨3, ![2, 8192, 6144]⟩
abbrev S1x1x6144 : Shape := ⟨3, ![1, 1, 6144]⟩
abbrev S2x8192x3072 : Shape := ⟨3, ![2, 8192, 3072]⟩
abbrev S1x1x3072 : Shape := ⟨3, ![1, 1, 3072]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S2x64x128x8x384 : Shape := ⟨5, ![2, 64, 128, 8, 384]⟩
abbrev S1x128x128 : Shape := ⟨3, ![1, 128, 128]⟩
abbrev S8x2x64x384x128 : Shape := ⟨5, ![8, 2, 64, 384, 128]⟩
abbrev S128x8 : Shape := ⟨2, ![128, 8]⟩
abbrev S1x1x128x8x1 : Shape := ⟨5, ![1, 1, 128, 8, 1]⟩

abbrev nBuf : Space → Nat
  | .hbm => 128
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1024x6144, .f32⟩
  | .hbm, ⟨6, _⟩ => ⟨S6144, .f32⟩
  | .hbm, ⟨7, _⟩ => ⟨S3072, .f32⟩
  | .hbm, ⟨8, _⟩ => ⟨S3072, .f32⟩
  | .hbm, ⟨9, _⟩ => ⟨S8x128x128, .f32⟩
  | .hbm, ⟨10, _⟩ => ⟨S8x128, .f32⟩
  | .hbm, ⟨11, _⟩ => ⟨S3072x1024, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x1024, .f32⟩
  | .hbm, ⟨25, _⟩ => ⟨S2x8192x1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x6144, .f32⟩
  | .hbm, ⟨37, _⟩ => ⟨S1x1x6144, .f32⟩
  | .hbm, ⟨38, _⟩ => ⟨S2x8192x6144, .f32⟩
  | .hbm, ⟨39, _⟩ => ⟨S2x8192x6144, .f32⟩
  | .hbm, ⟨40, _⟩ => ⟨S2x8192x6144, .f32⟩
  | .hbm, ⟨41, _⟩ => ⟨S2x8192x6144, .f32⟩
  | .hbm, ⟨42, _⟩ => ⟨S_, .f32⟩
  | .hbm, ⟨43, _⟩ => ⟨S2x8192x6144, .f32⟩
  | .hbm, ⟨44, _⟩ => ⟨S2x8192x6144, .f32⟩
  | .hbm, ⟨45, _⟩ => ⟨S2x8192x6144, .f32⟩
  | .hbm, ⟨46, _⟩ => ⟨S_, .f32⟩
  | .hbm, ⟨47, _⟩ => ⟨S2x8192x6144, .f32⟩
  | .hbm, ⟨48, _⟩ => ⟨S2x8192x6144, .f32⟩
  | .hbm, ⟨49, _⟩ => ⟨S2x8192x6144, .f32⟩
  | .hbm, ⟨50, _⟩ => ⟨S_, .f32⟩
  | .hbm, ⟨51, _⟩ => ⟨S2x8192x6144, .f32⟩
  | .hbm, ⟨52, _⟩ => ⟨S2x8192x6144, .f32⟩
  | .hbm, ⟨53, _⟩ => ⟨S_, .f32⟩
  | .hbm, ⟨54, _⟩ => ⟨S2x8192x6144, .f32⟩
  | .hbm, ⟨55, _⟩ => ⟨S2x8192x6144, .f32⟩
  | .hbm, ⟨56, _⟩ => ⟨S2x8192x6144, .f32⟩
  | .hbm, ⟨57, _⟩ => ⟨S2x8192x3072, .f32⟩
  | .hbm, ⟨58, _⟩ => ⟨S2x8192x3072, .f32⟩
  | .hbm, ⟨59, _⟩ => ⟨S_, .f32⟩
  | .hbm, ⟨60, _⟩ => ⟨S2x8192, .f32⟩
  | .hbm, ⟨61, _⟩ => ⟨S2x8192x1, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S2x8192x3072, .f32⟩
  | .hbm, ⟨66, _⟩ => ⟨S2x8192x3072, .f32⟩
  | .hbm, ⟨67, _⟩ => ⟨S2x8192x3072, .f32⟩
  | .hbm, ⟨68, _⟩ => ⟨S_, .f32⟩
  | .hbm, ⟨69, _⟩ => ⟨S2x8192, .f32⟩
  | .hbm, ⟨70, _⟩ => ⟨S2x8192x1, .f32⟩
  | .hbm, ⟨71, _⟩ => ⟨S_, .f32⟩
  | .hbm, ⟨72, _⟩ => ⟨S2x8192x1, .f32⟩
  | .hbm, ⟨73, _⟩ => ⟨S2x8192x1, .f32⟩
  | .hbm, ⟨74, _⟩ => ⟨S_, .f32⟩
  | .hbm, ⟨75, _⟩ => ⟨S2x8192x1, .f32⟩
  | .hbm, ⟨76, _⟩ => ⟨S2x8192x1, .f32⟩
  | .hbm, ⟨77, _⟩ => ⟨S2x8192x1, .f32⟩
  | .hbm, ⟨78, _⟩ => ⟨S2x8192x3072, .f32⟩
  | .hbm, ⟨79, _⟩ => ⟨S2x8192x3072, .f32⟩
  | .hbm, ⟨80, _⟩ => ⟨S1x1x3072, .f32⟩
  | .hbm, ⟨81, _⟩ => ⟨S2x8192x3072, .f32⟩
  | .hbm, ⟨82, _⟩ => ⟨S2x8192x3072, .f32⟩
  | .hbm, ⟨83, _⟩ => ⟨S1x1x3072, .f32⟩
  | .hbm, ⟨84, _⟩ => ⟨S2x8192x3072, .f32⟩
  | .hbm, ⟨85, _⟩ => ⟨S2x8192x3072, .f32⟩
  | .hbm, ⟨86, _⟩ => ⟨S128, .i32⟩
  | .hbm, ⟨87, _⟩ => ⟨S_, .i32⟩
  | .hbm, ⟨88, _⟩ => ⟨S_, .i32⟩
  | .hbm, ⟨89, _⟩ => ⟨S128, .i32⟩
  | .hbm, ⟨90, _⟩ => ⟨S128, .i32⟩
  | .hbm, ⟨91, _⟩ => ⟨S128, .i32⟩
  | .hbm, ⟨92, _⟩ => ⟨S_, .i32⟩
  | .hbm, ⟨93, _⟩ => ⟨S128, .i32⟩
  | .hbm, ⟨94, _⟩ => ⟨S128, .i1⟩
  | .hbm, ⟨95, _⟩ => ⟨S128, .i32⟩
  | .hbm, ⟨96, _⟩ => ⟨S128, .i32⟩
  | .hbm, ⟨97, _⟩ => ⟨S_, .i32⟩
  | .hbm, ⟨98, _⟩ => ⟨S128, .i32⟩
  | .hbm, ⟨99, _⟩ => ⟨S128, .i1⟩
  | .hbm, ⟨100, _⟩ => ⟨S128, .i1⟩
  | .hbm, ⟨101, _⟩ => ⟨S_, .i32⟩
  | .hbm, ⟨102, _⟩ => ⟨S128, .i32⟩
  | .hbm, ⟨103, _⟩ => ⟨S128, .i32⟩
  | .hbm, ⟨104, _⟩ => ⟨S128, .i32⟩
  | .hbm, ⟨105, _⟩ => ⟨S1x128, .i32⟩
  | .hbm, ⟨106, _⟩ => ⟨S128x1, .i32⟩
  | .hbm, ⟨107, _⟩ => ⟨S128x128, .i32⟩
  | .hbm, ⟨108, _⟩ => ⟨S128x128, .i32⟩
  | .hbm, ⟨109, _⟩ => ⟨S128x128, .i1⟩
  | .hbm, ⟨110, _⟩ => ⟨S128x128, .f32⟩
  | .hbm, ⟨111, _⟩ => ⟨S2x64x128x8x384, .f32⟩
  | .hbm, ⟨112, _⟩ => ⟨S1x128x128, .f32⟩
  | .hbm, ⟨113, _⟩ => ⟨S8x128x128, .f32⟩
  | .hbm, ⟨114, _⟩ => ⟨S8x128x128, .f32⟩
  | .hbm, ⟨115, _⟩ => ⟨S8x2x64x384x128, .f32⟩
  | .hbm, ⟨116, _⟩ => ⟨S2x64x128x8x384, .f32⟩
  | .hbm, ⟨117, _⟩ => ⟨S128x8, .f32⟩
  | .hbm, ⟨118, _⟩ => ⟨S1x1x128x8x1, .f32⟩
  | .hbm, ⟨119, _⟩ => ⟨S2x64x128x8x384, .f32⟩
  | .hbm, ⟨120, _⟩ => ⟨S2x64x128x8x384, .f32⟩
  | .hbm, ⟨121, _⟩ => ⟨S2x8192x3072, .f32⟩
  | .hbm, ⟨122, _⟩ => ⟨S2x8192x3072, .f32⟩
  | .hbm, ⟨123, _⟩ => ⟨S2x8192x1024, .f32⟩
  | .hbm, ⟨124, _⟩ => ⟨S2x8192x1024, .f32⟩
  | .hbm, ⟨125, _⟩ => ⟨S2x8192x1024, .f32⟩
  | .hbm, ⟨126, _⟩ => ⟨S2x8192x1024, .f32⟩
  | .hbm, ⟨127, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_v8 : Ref sig .tc := ⟨.hbm, 96, rfl⟩
abbrev main_call0_c : Ref sig .tc := ⟨.hbm, 97, rfl⟩
abbrev main_call0_v9 : Ref sig .tc := ⟨.hbm, 98, rfl⟩
abbrev main_call0_v10 : Ref sig .tc := ⟨.hbm, 99, rfl⟩
abbrev main_call0_v11 : Ref sig .tc := ⟨.hbm, 100, rfl⟩
abbrev main_call0_c_0 : Ref sig .tc := ⟨.hbm, 101, rfl⟩
abbrev main_call0_v12 : Ref sig .tc := ⟨.hbm, 102, rfl⟩
abbrev main_call0_v13 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩

abbrev nD : Nat := 1
abbrev τ : Topo := Topo.v7x

variable {F : FTy → Type} [FloatOps F]
-- ==== Inproj.lean ====
abbrev S16384x1024 : Shape := ⟨2, ![16384, 1024]⟩
abbrev S2x8192 : Shape := ⟨2, ![2, 8192]⟩
abbrev S1024 : Shape := ⟨1, ![1024]⟩
abbrev S2x1x1024 : Shape := ⟨3, ![2, 1, 1024]⟩
abbrev S1024x6144 : Shape := ⟨2, ![1024, 6144]⟩
abbrev S128 : Shape := ⟨1, ![128]⟩
abbrev S_ : Shape := ⟨0, ![]⟩
abbrev S1x128 : Shape := ⟨2, ![1, 128]⟩
abbrev S16384x1 : Shape := ⟨2, ![16384, 1]⟩
abbrev S1x1024 : Shape := ⟨2, ![1, 1024]⟩
abbrev S16384x2048 : Shape := ⟨2, ![16384, 2048]⟩
abbrev S512x1024 : Shape := ⟨2, ![512, 1024]⟩
abbrev S512x1 : Shape := ⟨2, ![512, 1]⟩
abbrev S1x1x1024 : Shape := ⟨3, ![1, 1, 1024]⟩
abbrev S512x2048 : Shape := ⟨2, ![512, 2048]⟩
abbrev S512 : Shape := ⟨1, ![512]⟩
abbrev S512x128 : Shape := ⟨2, ![512, 128]⟩
abbrev S1024x256 : Shape := ⟨2, ![1024, 256]⟩
abbrev S512x256 : Shape := ⟨2, ![512, 256]⟩
abbrev S1024x512 : Shape := ⟨2, ![1024, 512]⟩
abbrev S512x512 : Shape := ⟨2, ![512, 512]⟩

abbrev nBuf : Space → Nat
  | .hbm => 24
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S2x8192, .i32⟩
  | .hbm, ⟨2, _⟩ => ⟨S1024, .f32⟩
  | .hbm, ⟨3, _⟩ => ⟨S2x1x1024, .f32⟩
  | .hbm, ⟨4, _⟩ => ⟨S2x1x1024, .f32⟩
  | .hbm, ⟨5, _⟩ => ⟨S1024x6144, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S1x128, .f32⟩
  | .hbm, ⟨17, _⟩ => ⟨S16384x1, .i32⟩
  | .hbm, ⟨18, _⟩ => ⟨S1x1024, .f32⟩
  | .hbm, ⟨19, _⟩ => ⟨S1024x6144, .bf16⟩
  | .hbm, ⟨20, _⟩ => ⟨S16384x1024, .bf16⟩
  | .hbm, ⟨21, _⟩ => ⟨S16384x1024, .bf16⟩
  | .hbm, ⟨22, _⟩ => ⟨S16384x2048, .bf16⟩
  | .hbm, ⟨23, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x128, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x6144, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InprojRefIdeal.lean ====
abbrev S16384x1024 : Shape := ⟨2, ![16384, 1024]⟩
abbrev S2x8192 : Shape := ⟨2, ![2, 8192]⟩
abbrev S1024 : Shape := ⟨1, ![1024]⟩
abbrev S2x1x1024 : Shape := ⟨3, ![2, 1, 1024]⟩
abbrev S1024x6144 : Shape := ⟨2, ![1024, 6144]⟩
abbrev S2x8192x1024 : Shape := ⟨3, ![2, 8192, 1024]⟩
abbrev S_ : Shape := ⟨0, ![]⟩
abbrev S2x8192x1 : Shape := ⟨3, ![2, 8192, 1]⟩
abbrev S1x1x1024 : Shape := ⟨3, ![1, 1, 1024]⟩
abbrev S2x8192x6144 : Shape := ⟨3, ![2, 8192, 6144]⟩
abbrev S2x8192x2048 : Shape := ⟨3, ![2, 8192, 2048]⟩
abbrev S2x8192x4x256 : Shape := ⟨4, ![2, 8192, 4, 256]⟩
abbrev S128 : Shape := ⟨1, ![128]⟩
abbrev S1x1x128 : Shape := ⟨3, ![1, 1, 128]⟩
abbrev S2x8192x128 : Shape := ⟨3, ![2, 8192, 128]⟩
abbrev S2x8192x1x128 : Shape := ⟨4, ![2, 8192, 1, 128]⟩
abbrev S2x8192x4x128 : Shape := ⟨4, ![2, 8192, 4, 128]⟩
abbrev S16384x2048 : Shape := ⟨2, ![16384, 2048]⟩

abbrev nBuf : Space → Nat
  | .hbm => 114
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8192, .i32⟩
  | .hbm, ⟨2, _⟩ => ⟨S1024, .f32⟩
  | .hbm, ⟨3, _⟩ => ⟨S2x1x1024, .f32⟩
  | .hbm, ⟨4, _⟩ => ⟨S2x1x1024, .f32⟩
  | .hbm, ⟨5, _⟩ => ⟨S1024x6144, .f32⟩
  | .hbm, ⟨6, _⟩ => ⟨S2x8192x1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x6144, .f32⟩
  | .hbm, ⟨31, _⟩ => ⟨S2x8192x1024, .f32⟩
  | .hbm, ⟨32, _⟩ => ⟨S2x8192x1024, .f32⟩
  | .hbm, ⟨33, _⟩ => ⟨S2x8192x2048, .f32⟩
  | .hbm, ⟨34, _⟩ => ⟨S2x8192x2048, .f32⟩
  | .hbm, ⟨35, _⟩ => ⟨S2x8192x4x256, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S2x8192, .f32⟩
  | .hbm, ⟨47, _⟩ => ⟨S2x8192x1, .f32⟩
  | .hbm, ⟨48, _⟩ => ⟨S1x1x128, .f32⟩
  | .hbm, ⟨49, _⟩ => ⟨S2x8192x128, .f32⟩
  | .hbm, ⟨50, _⟩ => ⟨S2x8192x128, .f32⟩
  | .hbm, ⟨51, _⟩ => ⟨S2x8192x128, .f32⟩
  | .hbm, ⟨52, _⟩ => ⟨S2x8192x128, .f32⟩
  | .hbm, ⟨53, _⟩ => ⟨S2x8192x1x128, .f32⟩
  | .hbm, ⟨54, _⟩ => ⟨S2x8192x128, .f32⟩
  | .hbm, ⟨55, _⟩ => ⟨S2x8192x1x128, .f32⟩
  | .hbm, ⟨56, _⟩ => ⟨S2x8192x4x128, .f32⟩
  | .hbm, ⟨57, _⟩ => ⟨S2x8192x4x128, .f32⟩
  | .hbm, ⟨58, _⟩ => ⟨S2x8192x4x128, .f32⟩
  | .hbm, ⟨59, _⟩ => ⟨S2x8192x4x128, .f32⟩
  | .hbm, ⟨60, _⟩ => ⟨S2x8192x4x128, .f32⟩
  | .hbm, ⟨61, _⟩ => ⟨S2x8192x4x128, .f32⟩
  | .hbm, ⟨62, _⟩ => ⟨S2x8192x4x128, .f32⟩
  | .hbm, ⟨63, _⟩ => ⟨S2x8192x4x128, .f32⟩
  | .hbm, ⟨64, _⟩ => ⟨S2x8192x4x128, .f32⟩
  | .hbm, ⟨65, _⟩ => ⟨S2x8192x4x128, .f32⟩
  | .hbm, ⟨66, _⟩ => ⟨S2x8192x4x128, .f32⟩
  | .hbm, ⟨67, _⟩ => ⟨S2x8192x4x128, .f32⟩
  | .hbm, ⟨68, _⟩ => ⟨S2x8192x4x256, .f32⟩
  | .hbm, ⟨69, _⟩ => ⟨S2x8192x4x256, .f32⟩
  | .hbm, ⟨70, _⟩ => ⟨S128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S2x8192, .f32⟩
  | .hbm, ⟨81, _⟩ => ⟨S2x8192x1, .f32⟩
  | .hbm, ⟨82, _⟩ => ⟨S1x1x128, .f32⟩
  | .hbm, ⟨83, _⟩ => ⟨S2x8192x128, .f32⟩
  | .hbm, ⟨84, _⟩ => ⟨S2x8192x128, .f32⟩
  | .hbm, ⟨85, _⟩ => ⟨S2x8192x128, .f32⟩
  | .hbm, ⟨86, _⟩ => ⟨S2x8192x128, .f32⟩
  | .hbm, ⟨87, _⟩ => ⟨S2x8192x1x128, .f32⟩
  | .hbm, ⟨88, _⟩ => ⟨S2x8192x128, .f32⟩
  | .hbm, ⟨89, _⟩ => ⟨S2x8192x1x128, .f32⟩
  | .hbm, ⟨90, _⟩ => ⟨S2x8192x4x128, .f32⟩
  | .hbm, ⟨91, _⟩ => ⟨S2x8192x4x128, .f32⟩
  | .hbm, ⟨92, _⟩ => ⟨S2x8192x4x128, .f32⟩
  | .hbm, ⟨93, _⟩ => ⟨S2x8192x4x128, .f32⟩
  | .hbm, ⟨94, _⟩ => ⟨S2x8192x4x128, .f32⟩
  | .hbm, ⟨95, _⟩ => ⟨S2x8192x4x128, .f32⟩
  | .hbm, ⟨96, _⟩ => ⟨S2x8192x4x128, .f32⟩
  | .hbm, ⟨97, _⟩ => ⟨S2x8192x4x128, .f32⟩
  | .hbm, ⟨98, _⟩ => ⟨S2x8192x4x128, .f32⟩
  | .hbm, ⟨99, _⟩ => ⟨S2x8192x4x128, .f32⟩
  | .hbm, ⟨100, _⟩ => ⟨S2x8192x4x128, .f32⟩
  | .hbm, ⟨101, _⟩ => ⟨S2x8192x4x128, .f32⟩
  | .hbm, ⟨102, _⟩ => ⟨S2x8192x4x256, .f32⟩
  | .hbm, ⟨103, _⟩ => ⟨S_, .f32⟩
  | .hbm, ⟨104, _⟩ => ⟨S2x8192x4x256, .f32⟩
  | .hbm, ⟨105, _⟩ => ⟨S2x8192x4x256, .f32⟩
  | .hbm, ⟨106, _⟩ => ⟨S16384x1024, .f32⟩
  | .hbm, ⟨107, _⟩ => ⟨S16384x1024, .bf16⟩
  | .hbm, ⟨108, _⟩ => ⟨S16384x1024, .f32⟩
  | .hbm, ⟨109, _⟩ => ⟨S16384x1024, .bf16⟩
  | .hbm, ⟨110, _⟩ => ⟨S16384x2048, .f32⟩
  | .hbm, ⟨111, _⟩ => ⟨S16384x2048, .bf16⟩
  | .hbm, ⟨112, _⟩ => ⟨S16384x2048, .f32⟩
  | .hbm, ⟨113, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_6 : Ref sig .tc := ⟨.hbm, 71, rfl⟩
abbrev main_v58 : Ref sig .tc := ⟨.hbm, 72, rfl⟩
abbrev main_v59 : Ref sig .tc := ⟨.hbm, 73, rfl⟩
abbrev main_cst_7 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_9 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩

abbrev nD : Nat := 1
abbrev τ : Topo := Topo.v7x

variable {F : FTy → Type} [FloatOps F]
-- ==== Mods.lean ====
abbrev S2x1024 : Shape := ⟨2, ![2, 1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩
abbrev S2x2x6144 : Shape := ⟨3, ![2, 2, 6144]⟩
abbrev S2x2x6x1x1024 : Shape := ⟨5, ![2, 2, 6, 1, 1024]⟩

abbrev nBuf : Space → Nat
  | .hbm => 12
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S_, .f32⟩
  | .hbm, ⟨4, _⟩ => ⟨S8x1024, .f32⟩
  | .hbm, ⟨5, _⟩ => ⟨S_, .i32⟩
  | .hbm, ⟨6, _⟩ => ⟨S1, .i32⟩
  | .hbm, ⟨7, _⟩ => ⟨S8x1024, .f32⟩
  | .hbm, ⟨8, _⟩ => ⟨S2x1x6144, .f32⟩
  | .hbm, ⟨9, _⟩ => ⟨S2x8x6144, .f32⟩
  | .hbm, ⟨10, _⟩ => ⟨S2x2x6144, .f32⟩
  | .hbm, ⟨11, _⟩ => ⟨S2x2x6x1x1024, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModsRefIdeal.lean ====
abbrev S2x1024 : Shape := ⟨2, ![2, 1024]⟩
abbrev S2x1024x6144 : Shape := ⟨3, ![2, 1024, 6144]⟩
abbrev S2x6144 : Shape := ⟨2, ![2, 6144]⟩
abbrev S_ : Shape := ⟨0, ![]⟩
abbrev S2x6144x2 : Shape := ⟨3, ![2, 6144, 2]⟩
abbrev S2x2x6144 : Shape := ⟨3, ![2, 2, 6144]⟩
abbrev S2x1x6144 : Shape := ⟨3, ![2, 1, 6144]⟩
abbrev S2x2x6x1x1024 : Shape := ⟨5, ![2, 2, 6, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x6144x2, .f32⟩
  | .hbm, ⟨13, _⟩ => ⟨S2x2x6144, .f32⟩
  | .hbm, ⟨14, _⟩ => ⟨S2x1x6144, .f32⟩
  | .hbm, ⟨15, _⟩ => ⟨S2x2x6144, .f32⟩
  | .hbm, ⟨16, _⟩ => ⟨S2x2x6144, .f32⟩
  | .hbm, ⟨17, _⟩ => ⟨S2x2x6x1x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Score.lean ====
abbrev S1024x2048 : Shape := ⟨2, ![1024, 2048]⟩
abbrev S8x2x128x128 : Shape := ⟨4, ![8, 2, 128, 128]⟩
abbrev S16x128x1024 : Shape := ⟨3, ![16, 128, 1024]⟩
abbrev S1x1x128x128 : Shape := ⟨4, ![1, 1, 128, 128]⟩
abbrev S1024x128 : Shape := ⟨2, ![1024, 128]⟩
abbrev S1x128x1024 : Shape := ⟨3, ![1, 128, 1024]⟩
abbrev S128x128 : Shape := ⟨2, ![128, 128]⟩
abbrev S128x1024 : Shape := ⟨2, ![128, 1024]⟩
abbrev S8x2x128x1024 : Shape := ⟨4, ![8, 2, 128, 1024]⟩
abbrev S2x128x8x1024 : Shape := ⟨4, ![2, 128, 8, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S8x2x128x128, .f32⟩
  | .hbm, ⟨2, _⟩ => ⟨S16x128x1024, .f32⟩
  | .hbm, ⟨3, _⟩ => ⟨S8x2x128x1024, .f32⟩
  | .hbm, ⟨4, _⟩ => ⟨S2x128x8x1024, .f32⟩
  | .hbm, ⟨5, _⟩ => ⟨S2048x1024, .f32⟩
  | .hbm, ⟨6, _⟩ => ⟨S2048x1024, .bf16⟩
  | .local _ .vmem, ⟨0, _⟩ => ⟨S1x1x128x128, .f32⟩
  | .local _ .vmem, ⟨1, _⟩ => ⟨S1x1x128x128, .f32⟩
  | .local _ .vmem, ⟨2, _⟩ => ⟨S1024x128, .f32⟩
  | .local _ .vmem, ⟨3, _⟩ => ⟨S1024x128, .f32⟩
  | .local _ .vmem, ⟨4, _⟩ => ⟨S1x128x1024, .f32⟩
  | .local _ .vmem, ⟨5, _⟩ => ⟨S1x128x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ScoreRefIdeal.lean ====
abbrev S1024x2048 : Shape := ⟨2, ![1024, 2048]⟩
abbrev S8x2x128x128 : Shape := ⟨4, ![8, 2, 128, 128]⟩
abbrev S1024x8x2x128 : Shape := ⟨4, ![1024, 8, 2, 128]⟩
abbrev S8x2x128x1024 : Shape := ⟨4, ![8, 2, 128, 1024]⟩
abbrev S2x128x8x1024 : Shape := ⟨4, ![2, 128, 8, 1024]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S8x2x128x128, .f32⟩
  | .hbm, ⟨2, _⟩ => ⟨S1024x8x2x128, .f32⟩
  | .hbm, ⟨3, _⟩ => ⟨S8x2x128x1024, .f32⟩
  | .hbm, ⟨4, _⟩ => ⟨S1024x8x2x128, .f32⟩
  | .hbm, ⟨5, _⟩ => ⟨S2x128x8x1024, .f32⟩
  | .hbm, ⟨6, _⟩ => ⟨S2048x1024, .f32⟩
  | .hbm, ⟨7, _⟩ => ⟨S2048x1024, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.Ret.RefRun.lean ====
/-
The reference's own loop, run: the values a trip computes are those of the step read as a function
of the carried state, so the state after any number of trips is that function iterated.  The text
follows the generated set-up of the launch; the store into the stacked result is closed by
definition, since its start indices are read through the buffers' declared types.
-/
module

public import proofs.«01_k».proof.Proof.Gen.RetRefIdeal.Run
public import proofs.«01_k».proof.Proof.Gen.RetRefIdeal.Step

@[expose] public section

noncomputable section

namespace Cert.RetRefIdeal.RefRun

open Idealize.ShloMosaic Idealize.ShloMosaic.TcCoe Idealize.SL.Sem Idealize.ShloMosaic.StableHlo
open Cert.RetRefIdeal Cert.RetRefIdeal.Gen Cert.RetRefIdeal.Value
open Cert.RetRefIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v54_8) = s.main_v54_8
  f_9 : V0 (Proc.devRef .tc main_v54_9) = s.main_v54_9
  f_0 : V0 (Proc.devRef .tc main_v54_0) = s.main_v54_0
  f_1 : V0 (Proc.devRef .tc main_v54_1) = s.main_v54_1
  f_2 : V0 (Proc.devRef .tc main_v54_2) = s.main_v54_2
  n_7 : V0 (Proc.devRef .tc main_v54_7) = constantI S_ 32 (BitVec.ofNat 32 j)
  k_3 : V0 (Proc.devRef .tc main_v54_3) = Cert.RetRefIdeal.Step.K_main_v26 (F := F)
  k_4 : V0 (Proc.devRef .tc main_v54_4) = Cert.RetRefIdeal.Step.K_main_v34 (F := F)
  k_5 : V0 (Proc.devRef .tc main_v54_5) = Cert.RetRefIdeal.Step.K_main_v45 (F := F)
  k_6 : V0 (Proc.devRef .tc main_v54_6) = Cert.RetRefIdeal.Step.K_main_v42 (F := F)

variable {V0 s j}

set_option maxRecDepth 8192 in
theorem al_0 (h : Holds V0 s j) : (constantI S_ 32 0#32 : (Proc.devRef .tc main_while0b_call0_c : DevRef τ sig).ty.Contents (Elt F)) = Cert.RetRefIdeal.Step.b0 j s := by
  unfold Cert.RetRefIdeal.Step.b0
  rfl
set_option maxRecDepth 8192 in
theorem al_1 (h : Holds V0 s j) : (constantI S_ 32 0#32 : (Proc.devRef .tc main_while0b_call0_c_0 : DevRef τ sig).ty.Contents (Elt F)) = Cert.RetRefIdeal.Step.b1 j s := by
  unfold Cert.RetRefIdeal.Step.b1
  rfl
set_option maxRecDepth 8192 in
theorem al_2 (h : Holds V0 s j) : (constantI S_ 32 0#32 : (Proc.devRef .tc main_while0b_call0_c_1 : DevRef τ sig).ty.Contents (Elt F)) = Cert.RetRefIdeal.Step.b2 j s := by
  unfold Cert.RetRefIdeal.Step.b2
  rfl
set_option maxRecDepth 8192 in
theorem al_3 (h : Holds V0 s j) : (constantI S_ 32 0#32 : (Proc.devRef .tc main_while0b_call0_c_2 : DevRef τ sig).ty.Contents (Elt F)) = Cert.RetRefIdeal.Step.b3 j s := by
  unfold Cert.RetRefIdeal.Step.b3
  rfl
set_option maxRecDepth 8192 in
theorem al_4 (h : Holds V0 s j) : (Host.dynamicSlice S1x2x64x4x256 (V0 (Proc.devRef .tc main_v54_0)) (fun k => (((![V0 (Proc.devRef .tc main_v54_7), constantI S_ 32 0#32, constantI S_ 32 0#32, constantI S_ 32 0#32, constantI S_ 32 0#32] : Fin 5 → (⟨S_, .i32⟩ : BufTy).Contents (Elt F))) k (Shape.Idx.first h_S_)).toInt) sliceFits_S128x2x64x4x256_S1x2x64x4x256 : (Proc.devRef .tc main_while0b_call0_v0 : DevRef τ sig).ty.Contents (Elt F)) = Cert.RetRefIdeal.Step.b4 j s := by
  unfold Cert.RetRefIdeal.Step.b4
  rw [← al_0 h, ← al_1 h, ← al_2 h, ← al_3 h, h.f_0, h.n_7]
  try rfl
set_option maxRecDepth 8192 in
theorem al_5 (h : Holds V0 s j) : (res_main_while0b_v78 V0 : (Proc.devRef .tc main_while0b_v78 : DevRef τ sig).ty.Contents (Elt F)) = Cert.RetRefIdeal.Step.b5 j s := by
  unfold res_main_while0b_v78 Cert.RetRefIdeal.Step.b5
  rw [← al_4 h]
  try rfl
set_option maxRecDepth 8192 in
theorem al_6 (h : Holds V0 s j) : (constantI S_ 32 0#32 : (Proc.devRef .tc main_while0b_call1_c : DevRef τ sig).ty.Contents (Elt F)) = Cert.RetRefIdeal.Step.b6 j s := by
  unfold Cert.RetRefIdeal.Step.b6
  rfl
set_option maxRecDepth 8192 in
theorem al_7 (h : Holds V0 s j) : (constantI S_ 32 0#32 : (Proc.devRef .tc main_while0b_call1_c_0 : DevRef τ sig).ty.Contents (Elt F)) = Cert.RetRefIdeal.Step.b7 j s := by
  unfold Cert.RetRefIdeal.Step.b7
  rfl
set_option maxRecDepth 8192 in
theorem al_8 (h : Holds V0 s j) : (constantI S_ 32 0#32 : (Proc.devRef .tc main_while0b_call1_c_1 : DevRef τ sig).ty.Contents (Elt F)) = Cert.RetRefIdeal.Step.b8 j s := by
  unfold Cert.RetRefIdeal.Step.b8
  rfl
set_option maxRecDepth 8192 in
theorem al_9 (h : Holds V0 s j) : (constantI S_ 32 0#32 : (Proc.devRef .tc main_while0b_call1_c_2 : DevRef τ sig).ty.Contents (Elt F)) = Cert.RetRefIdeal.Step.b9 j s := by
  unfold Cert.RetRefIdeal.Step.b9
  rfl
set_option maxRecDepth 8192 in
theorem al_10 (h : Holds V0 s j) : (Host.dynamicSlice S1x2x64x4x256 (V0 (Proc.devRef .tc main_v54_1)) (fun k => (((![V0 (Proc.devRef .tc main_v54_7), constantI S_ 32 0#32, constantI S_ 32 0#32, constantI S_ 32 0#32, constantI S_ 32 0#32] : Fin 5 → (⟨S_, .i32⟩ : BufTy).Contents (Elt F))) k (Shape.Idx.first h_S_)).toInt) sliceFits_S128x2x64x4x256_S1x2x64x4x256 : (Proc.devRef .tc main_while0b_call1_v0 : DevRef τ sig).ty.Contents (Elt F)) = Cert.RetRefIdeal.Step.b10 j s := by
  unfold Cert.RetRefIdeal.Step.b10
  rw [← al_6 h, ← al_7 h, ← al_8 h, ← al_9 h, h.f_1, h.n_7]
  try rfl
set_option maxRecDepth 8192 in
theorem al_11 (h : Holds V0 s j) : (res_main_while0b_v79 V0 : (Proc.devRef .tc main_while0b_v79 : DevRef τ sig).ty.Contents (Elt F)) = Cert.RetRefIdeal.Step.b11 j s := by
  unfold res_main_while0b_v79 Cert.RetRefIdeal.Step.b11
  rw [← al_10 h]
  try rfl
set_option maxRecDepth 8192 in
theorem al_12 (h : Holds V0 s j) : (constantI S_ 32 0#32 : (Proc.devRef .tc main_while0b_call2_c : DevRef τ sig).ty.Contents (Elt F)) = Cert.RetRefIdeal.Step.b12 j s := by
  unfold Cert.RetRefIdeal.Step.b12
  rfl
set_option maxRecDepth 8192 in
theorem al_13 (h : Holds V0 s j) : (constantI S_ 32 0#32 : (Proc.devRef .tc main_while0b_call2_c_0 : DevRef τ sig).ty.Contents (Elt F)) = Cert.RetRefIdeal.Step.b13 j s := by
  unfold Cert.RetRefIdeal.Step.b13
  rfl
set_option maxRecDepth 8192 in
theorem al_14 (h : Holds V0 s j) : (constantI S_ 32 0#32 : (Proc.devRef .tc main_while0b_call2_c_1 : DevRef τ sig).ty.Contents (Elt F)) = Cert.RetRefIdeal.Step.b14 j s := by
  unfold Cert.RetRefIdeal.Step.b14
  rfl
set_option maxRecDepth 8192 in
theorem al_15 (h : Holds V0 s j) : (constantI S_ 32 0#32 : (Proc.devRef .tc main_while0b_call2_c_2 : DevRef τ sig).ty.Contents (Elt F)) = Cert.RetRefIdeal.Step.b15 j s := by
  unfold Cert.RetRefIdeal.Step.b15
  rfl
set_option maxRecDepth 8192 in
theorem al_16 (h : Holds V0 s j) : (Host.dynamicSlice S1x2x64x4x512 (V0 (Proc.devRef .tc main_v54_2)) (fun k => (((![V0 (Proc.devRef .tc main_v54_7), constantI S_ 32 0#32, constantI S_ 32 0#32, constantI S_ 32 0#32, constantI S_ 32 0#32] : Fin 5 → (⟨S_, .i32⟩ : BufTy).Contents (Elt F))) k (Shape.Idx.first h_S_)).toInt) sliceFits_S128x2x64x4x512_S1x2x64x4x512 : (Proc.devRef .tc main_while0b_call2_v0 : DevRef τ sig).ty.Contents (Elt F)) = Cert.RetRefIdeal.Step.b16 j s := by
  unfold Cert.RetRefIdeal.Step.b16
  rw [← al_12 h, ← al_13 h, ← al_14 h, ← al_15 h, h.f_2, h.n_7]
  try rfl
set_option maxRecDepth 8192 in
theorem al_17 (h : Holds V0 s j) : (res_main_while0b_v80 V0 : (Proc.devRef .tc main_while0b_v80 : DevRef τ sig).ty.Contents (Elt F)) = Cert.RetRefIdeal.Step.b17 j s := by
  unfold res_main_while0b_v80 Cert.RetRefIdeal.Step.b17
  rw [← al_16 h]
  try rfl
set_option maxRecDepth 8192 in
theorem al_18 (h : Holds V0 s j) : (Host.dotGeneral dot_S2x64x4x256_S2x64x4x256_S2x4x64x64_3_3_1_1_02_02 none (res_main_while0b_v78 V0) (res_main_while0b_v79 V0) : (Proc.devRef .tc main_while0b_v81 : DevRef τ sig).ty.Contents (Elt F)) = Cert.RetRefIdeal.Step.b18 j s := by
  unfold Cert.RetRefIdeal.Step.b18
  rw [← al_5 h, ← al_11 h]
  try rfl
set_option maxRecDepth 8192 in
theorem al_19 (h : Holds V0 s j) : (broadcastInDim S1x4x64x64 ![1, 2, 3] bcast_S4x64x64_S1x4x64x64_1_2_3 (V0 (Proc.devRef .tc main_v54_3)) : (Proc.devRef .tc main_while0b_v82 : DevRef τ sig).ty.Contents (Elt F)) = Cert.RetRefIdeal.Step.b19 j s := by
  unfold Cert.RetRefIdeal.Step.b19
  rw [h.k_3]
  try rfl
set_option maxRecDepth 8192 in
theorem al_20 (h : Holds V0 s j) : (broadcastInDim S2x4x64x64 ![0, 1, 2, 3] bcast_S1x4x64x64_S2x4x64x64_0_1_2_3 (broadcastInDim S1x4x64x64 ![1, 2, 3] bcast_S4x64x64_S1x4x64x64_1_2_3 (V0 (Proc.devRef .tc main_v54_3))) : (Proc.devRef .tc main_while0b_v83 : DevRef τ sig).ty.Contents (Elt F)) = Cert.RetRefIdeal.Step.b20 j s := by
  unfold Cert.RetRefIdeal.Step.b20
  rw [← al_19 h]
  try rfl
set_option maxRecDepth 8192 in
theorem al_21 (h : Holds V0 s j) : (mulf (Host.dotGeneral dot_S2x64x4x256_S2x64x4x256_S2x4x64x64_3_3_1_1_02_02 none (res_main_while0b_v78 V0) (res_main_while0b_v79 V0)) (broadcastInDim S2x4x64x64 ![0, 1, 2, 3] bcast_S1x4x64x64_S2x4x64x64_0_1_2_3 (broadcastInDim S1x4x64x64 ![1, 2, 3] bcast_S4x64x64_S1x4x64x64_1_2_3 (V0 (Proc.devRef .tc main_v54_3)))) : (Proc.devRef .tc main_while0b_v84 : DevRef τ sig).ty.Contents (Elt F)) = Cert.RetRefIdeal.Step.b21 j s := by
  unfold Cert.RetRefIdeal.Step.b21
  rw [← al_18 h, ← al_20 h]
  try rfl
set_option maxRecDepth 8192 in
theorem al_22 (h : Holds V0 s j) : (Host.dotGeneral dot_S2x64x4x512_S2x4x64x64_S2x4x512x64_1_3_3_2_02_01 none (res_main_while0b_v80 V0) (mulf (Host.dotGeneral dot_S2x64x4x256_S2x64x4x256_S2x4x64x64_3_3_1_1_02_02 none (res_main_while0b_v78 V0) (res_main_while0b_v79 V0)) (broadcastInDim S2x4x64x64 ![0, 1, 2, 3] bcast_S1x4x64x64_S2x4x64x64_0_1_2_3 (broadcastInDim S1x4x64x64 ![1, 2, 3] bcast_S4x64x64_S1x4x64x64_1_2_3 (V0 (Proc.devRef .tc main_v54_3))))) : (Proc.devRef .tc main_while0b_v85 : DevRef τ sig).ty.Contents (Elt F)) = Cert.RetRefIdeal.Step.b22 j s := by
  unfold Cert.RetRefIdeal.Step.b22
  rw [← al_17 h, ← al_21 h]
  try rfl
set_option maxRecDepth 8192 in
theorem al_23 (h : Holds V0 s j) : (transpose S2x64x4x512 [0, 3, 1, 2] (Host.dotGeneral dot_S2x64x4x512_S2x4x64x64_S2x4x512x64_1_3_3_2_02_01 none (res_main_while0b_v80 V0) (mulf (Host.dotGeneral dot_S2x64x4x256_S2x64x4x256_S2x4x64x64_3_3_1_1_02_02 none (res_main_while0b_v78 V0) (res_main_while0b_v79 V0)) (broadcastInDim S2x4x64x64 ![0, 1, 2, 3] bcast_S1x4x64x64_S2x4x64x64_0_1_2_3 (broadcastInDim S1x4x64x64 ![1, 2, 3] bcast_S4x64x64_S1x4x64x64_1_2_3 (V0 (Proc.devRef .tc main_v54_3)))))) transposes_S2x4x512x64_S2x64x4x512_0_3_1_2 : (Proc.devRef .tc main_while0b_v86 : DevRef τ sig).ty.Contents (Elt F)) = Cert.RetRefIdeal.Step.b23 j s := by
  unfold Cert.RetRefIdeal.Step.b23
  rw [← al_22 h]
  try rfl
set_option maxRecDepth 8192 in
theorem al_24 (h : Holds V0 s j) : (broadcastInDim S1x64x4x1 ![1, 2] bcast_S64x4_S1x64x4x1_1_2 (V0 (Proc.devRef .tc main_v54_4)) : (Proc.devRef .tc main_while0b_v87 : DevRef τ sig).ty.Contents (Elt F)) = Cert.RetRefIdeal.Step.b24 j s := by
  unfold Cert.RetRefIdeal.Step.b24
  rw [h.k_4]
  try rfl
set_option maxRecDepth 8192 in
theorem al_25 (h : Holds V0 s j) : (broadcastInDim S2x64x4x256 ![0, 1, 2, 3] bcast_S1x64x4x1_S2x64x4x256_0_1_2_3 (broadcastInDim S1x64x4x1 ![1, 2] bcast_S64x4_S1x64x4x1_1_2 (V0 (Proc.devRef .tc main_v54_4))) : (Proc.devRef .tc main_while0b_v88 : DevRef τ sig).ty.Contents (Elt F)) = Cert.RetRefIdeal.Step.b25 j s := by
  unfold Cert.RetRefIdeal.Step.b25
  rw [← al_24 h]
  try rfl
set_option maxRecDepth 8192 in
theorem al_26 (h : Holds V0 s j) : (mulf (res_main_while0b_v78 V0) (broadcastInDim S2x64x4x256 ![0, 1, 2, 3] bcast_S1x64x4x1_S2x64x4x256_0_1_2_3 (broadcastInDim S1x64x4x1 ![1, 2] bcast_S64x4_S1x64x4x1_1_2 (V0 (Proc.devRef .tc main_v54_4)))) : (Proc.devRef .tc main_while0b_v89 : DevRef τ sig).ty.Contents (Elt F)) = Cert.RetRefIdeal.Step.b26 j s := by
  unfold Cert.RetRefIdeal.Step.b26
  rw [← al_5 h, ← al_25 h]
  try rfl
set_option maxRecDepth 8192 in
theorem al_27 (h : Holds V0 s j) : (Host.dotGeneral dot_S2x4x256x512_S2x64x4x256_S2x4x512x64_2_3_3_1_01_02 none (V0 (Proc.devRef .tc main_v54_8)) (mulf (res_main_while0b_v78 V0) (broadcastInDim S2x64x4x256 ![0, 1, 2, 3] bcast_S1x64x4x1_S2x64x4x256_0_1_2_3 (broadcastInDim S1x64x4x1 ![1, 2] bcast_S64x4_S1x64x4x1_1_2 (V0 (Proc.devRef .tc main_v54_4))))) : (Proc.devRef .tc main_while0b_v90 : DevRef τ sig).ty.Contents (Elt F)) = Cert.RetRefIdeal.Step.b27 j s := by
  unfold Cert.RetRefIdeal.Step.b27
  rw [← al_26 h, h.f_8]
  try rfl
set_option maxRecDepth 8192 in
theorem al_28 (h : Holds V0 s j) : (transpose S2x64x4x512 [0, 3, 1, 2] (Host.dotGeneral dot_S2x4x256x512_S2x64x4x256_S2x4x512x64_2_3_3_1_01_02 none (V0 (Proc.devRef .tc main_v54_8)) (mulf (res_main_while0b_v78 V0) (broadcastInDim S2x64x4x256 ![0, 1, 2, 3] bcast_S1x64x4x1_S2x64x4x256_0_1_2_3 (broadcastInDim S1x64x4x1 ![1, 2] bcast_S64x4_S1x64x4x1_1_2 (V0 (Proc.devRef .tc main_v54_4)))))) transposes_S2x4x512x64_S2x64x4x512_0_3_1_2 : (Proc.devRef .tc main_while0b_v91 : DevRef τ sig).ty.Contents (Elt F)) = Cert.RetRefIdeal.Step.b28 j s := by
  unfold Cert.RetRefIdeal.Step.b28
  rw [← al_27 h]
  try rfl
set_option maxRecDepth 8192 in
theorem al_29 (h : Holds V0 s j) : (broadcastInDim S1x4x1x1 ![1] bcast_S4_S1x4x1x1_1 (V0 (Proc.devRef .tc main_v54_5)) : (Proc.devRef .tc main_while0b_v92 : DevRef τ sig).ty.Contents (Elt F)) = Cert.RetRefIdeal.Step.b29 j s := by
  unfold Cert.RetRefIdeal.Step.b29
  rw [h.k_5]
  try rfl
set_option maxRecDepth 8192 in
theorem al_30 (h : Holds V0 s j) : (broadcastInDim S2x4x256x512 ![0, 1, 2, 3] bcast_S1x4x1x1_S2x4x256x512_0_1_2_3 (broadcastInDim S1x4x1x1 ![1] bcast_S4_S1x4x1x1_1 (V0 (Proc.devRef .tc main_v54_5))) : (Proc.devRef .tc main_while0b_v93 : DevRef τ sig).ty.Contents (Elt F)) = Cert.RetRefIdeal.Step.b30 j s := by
  unfold Cert.RetRefIdeal.Step.b30
  rw [← al_29 h]
  try rfl
set_option maxRecDepth 8192 in
theorem al_31 (h : Holds V0 s j) : (mulf (V0 (Proc.devRef .tc main_v54_8)) (broadcastInDim S2x4x256x512 ![0, 1, 2, 3] bcast_S1x4x1x1_S2x4x256x512_0_1_2_3 (broadcastInDim S1x4x1x1 ![1] bcast_S4_S1x4x1x1_1 (V0 (Proc.devRef .tc main_v54_5)))) : (Proc.devRef .tc main_while0b_v94 : DevRef τ sig).ty.Contents (Elt F)) = Cert.RetRefIdeal.Step.b31 j s := by
  unfold Cert.RetRefIdeal.Step.b31
  rw [← al_30 h, h.f_8]
  try rfl
set_option maxRecDepth 8192 in
theorem al_32 (h : Holds V0 s j) : (broadcastInDim S1x64x4x1 ![1, 2] bcast_S64x4_S1x64x4x1_1_2 (V0 (Proc.devRef .tc main_v54_6)) : (Proc.devRef .tc main_while0b_v95 : DevRef τ sig).ty.Contents (Elt F)) = Cert.RetRefIdeal.Step.b32 j s := by
  unfold Cert.RetRefIdeal.Step.b32
  rw [h.k_6]
  try rfl
set_option maxRecDepth 8192 in
theorem al_33 (h : Holds V0 s j) : (broadcastInDim S2x64x4x256 ![0, 1, 2, 3] bcast_S1x64x4x1_S2x64x4x256_0_1_2_3 (broadcastInDim S1x64x4x1 ![1, 2] bcast_S64x4_S1x64x4x1_1_2 (V0 (Proc.devRef .tc main_v54_6))) : (Proc.devRef .tc main_while0b_v96 : DevRef τ sig).ty.Contents (Elt F)) = Cert.RetRefIdeal.Step.b33 j s := by
  unfold Cert.RetRefIdeal.Step.b33
  rw [← al_32 h]
  try rfl
set_option maxRecDepth 8192 in
theorem al_34 (h : Holds V0 s j) : (mulf (res_main_while0b_v79 V0) (broadcastInDim S2x64x4x256 ![0, 1, 2, 3] bcast_S1x64x4x1_S2x64x4x256_0_1_2_3 (broadcastInDim S1x64x4x1 ![1, 2] bcast_S64x4_S1x64x4x1_1_2 (V0 (Proc.devRef .tc main_v54_6)))) : (Proc.devRef .tc main_while0b_v97 : DevRef τ sig).ty.Contents (Elt F)) = Cert.RetRefIdeal.Step.b34 j s := by
  unfold Cert.RetRefIdeal.Step.b34
  rw [← al_11 h, ← al_33 h]
  try rfl
set_option maxRecDepth 8192 in
theorem al_35 (h : Holds V0 s j) : (Host.dotGeneral dot_S2x64x4x256_S2x64x4x512_S2x4x256x512_1_1_3_3_02_02 none (mulf (res_main_while0b_v79 V0) (broadcastInDim S2x64x4x256 ![0, 1, 2, 3] bcast_S1x64x4x1_S2x64x4x256_0_1_2_3 (broadcastInDim S1x64x4x1 ![1, 2] bcast_S64x4_S1x64x4x1_1_2 (V0 (Proc.devRef .tc main_v54_6))))) (res_main_while0b_v80 V0) : (Proc.devRef .tc main_while0b_v98 : DevRef τ sig).ty.Contents (Elt F)) = Cert.RetRefIdeal.Step.b35 j s := by
  unfold Cert.RetRefIdeal.Step.b35
  rw [← al_34 h, ← al_17 h]
  try rfl
set_option maxRecDepth 8192 in
theorem al_36 (h : Holds V0 s j) : (addf (mulf (V0 (Proc.devRef .tc main_v54_8)) (broadcastInDim S2x4x256x512 ![0, 1, 2, 3] bcast_S1x4x1x1_S2x4x256x512_0_1_2_3 (broadcastInDim S1x4x1x1 ![1] bcast_S4_S1x4x1x1_1 (V0 (Proc.devRef .tc main_v54_5))))) (Host.dotGeneral dot_S2x64x4x256_S2x64x4x512_S2x4x256x512_1_1_3_3_02_02 none (mulf (res_main_while0b_v79 V0) (broadcastInDim S2x64x4x256 ![0, 1, 2, 3] bcast_S1x64x4x1_S2x64x4x256_0_1_2_3 (broadcastInDim S1x64x4x1 ![1, 2] bcast_S64x4_S1x64x4x1_1_2 (V0 (Proc.devRef .tc main_v54_6))))) (res_main_while0b_v80 V0)) : (Proc.devRef .tc main_while0b_v99 : DevRef τ sig).ty.Contents (Elt F)) = Cert.RetRefIdeal.Step.b36 j s := by
  unfold Cert.RetRefIdeal.Step.b36
  rw [← al_31 h, ← al_35 h]
  try rfl
set_option maxRecDepth 8192 in
theorem al_37 (h : Holds V0 s j) : (addf (transpose S2x64x4x512 [0, 3, 1, 2] (Host.dotGeneral dot_S2x64x4x512_S2x4x64x64_S2x4x512x64_1_3_3_2_02_01 none (res_main_while0b_v80 V0) (mulf (Host.dotGeneral dot_S2x64x4x256_S2x64x4x256_S2x4x64x64_3_3_1_1_02_02 none (res_main_while0b_v78 V0) (res_main_while0b_v79 V0)) (broadcastInDim S2x4x64x64 ![0, 1, 2, 3] bcast_S1x4x64x64_S2x4x64x64_0_1_2_3 (broadcastInDim S1x4x64x64 ![1, 2, 3] bcast_S4x64x64_S1x4x64x64_1_2_3 (V0 (Proc.devRef .tc main_v54_3)))))) transposes_S2x4x512x64_S2x64x4x512_0_3_1_2) (transpose S2x64x4x512 [0, 3, 1, 2] (Host.dotGeneral dot_S2x4x256x512_S2x64x4x256_S2x4x512x64_2_3_3_1_01_02 none (V0 (Proc.devRef .tc main_v54_8)) (mulf (res_main_while0b_v78 V0) (broadcastInDim S2x64x4x256 ![0, 1, 2, 3] bcast_S1x64x4x1_S2x64x4x256_0_1_2_3 (broadcastInDim S1x64x4x1 ![1, 2] bcast_S64x4_S1x64x4x1_1_2 (V0 (Proc.devRef .tc main_v54_4)))))) transposes_S2x4x512x64_S2x64x4x512_0_3_1_2) : (Proc.devRef .tc main_while0b_v100 : DevRef τ sig).ty.Contents (Elt F)) = Cert.RetRefIdeal.Step.b37 j s := by
  unfold Cert.RetRefIdeal.Step.b37
  rw [← al_23 h, ← al_28 h]
  try rfl
set_option maxRecDepth 8192 in
theorem al_38 (h : Holds V0 s j) : (broadcastInDim S1x2x64x4x512 ![1, 2, 3, 4] bcast_S2x64x4x512_S1x2x64x4x512_1_2_3_4 (addf (transpose S2x64x4x512 [0, 3, 1, 2] (Host.dotGeneral dot_S2x64x4x512_S2x4x64x64_S2x4x512x64_1_3_3_2_02_01 none (res_main_while0b_v80 V0) (mulf (Host.dotGeneral dot_S2x64x4x256_S2x64x4x256_S2x4x64x64_3_3_1_1_02_02 none (res_main_while0b_v78 V0) (res_main_while0b_v79 V0)) (broadcastInDim S2x4x64x64 ![0, 1, 2, 3] bcast_S1x4x64x64_S2x4x64x64_0_1_2_3 (broadcastInDim S1x4x64x64 ![1, 2, 3] bcast_S4x64x64_S1x4x64x64_1_2_3 (V0 (Proc.devRef .tc main_v54_3)))))) transposes_S2x4x512x64_S2x64x4x512_0_3_1_2) (transpose S2x64x4x512 [0, 3, 1, 2] (Host.dotGeneral dot_S2x4x256x512_S2x64x4x256_S2x4x512x64_2_3_3_1_01_02 none (V0 (Proc.devRef .tc main_v54_8)) (mulf (res_main_while0b_v78 V0) (broadcastInDim S2x64x4x256 ![0, 1, 2, 3] bcast_S1x64x4x1_S2x64x4x256_0_1_2_3 (broadcastInDim S1x64x4x1 ![1, 2] bcast_S64x4_S1x64x4x1_1_2 (V0 (Proc.devRef .tc main_v54_4)))))) transposes_S2x4x512x64_S2x64x4x512_0_3_1_2)) : (Proc.devRef .tc main_while0b_call3_v0 : DevRef τ sig).ty.Contents (Elt F)) = Cert.RetRefIdeal.Step.b38 j s := by
  unfold Cert.RetRefIdeal.Step.b38
  rw [← al_37 h]
  try rfl
set_option maxRecDepth 8192 in
theorem al_39 (h : Holds V0 s j) : (constantI S_ 32 0#32 : (Proc.devRef .tc main_while0b_call3_c : DevRef τ sig).ty.Contents (Elt F)) = Cert.RetRefIdeal.Step.b39 j s := by
  unfold Cert.RetRefIdeal.Step.b39
  rfl
set_option maxRecDepth 8192 in
theorem al_40 (h : Holds V0 s j) : (constantI S_ 32 0#32 : (Proc.devRef .tc main_while0b_call3_c_0 : DevRef τ sig).ty.Contents (Elt F)) = Cert.RetRefIdeal.Step.b40 j s := by
  unfold Cert.RetRefIdeal.Step.b40
  rfl
set_option maxRecDepth 8192 in
theorem al_41 (h : Holds V0 s j) : (constantI S_ 32 0#32 : (Proc.devRef .tc main_while0b_call3_c_1 : DevRef τ sig).ty.Contents (Elt F)) = Cert.RetRefIdeal.Step.b41 j s := by
  unfold Cert.RetRefIdeal.Step.b41
  rfl
set_option maxRecDepth 8192 in
theorem al_42 (h : Holds V0 s j) : (constantI S_ 32 0#32 : (Proc.devRef .tc main_while0b_call3_c_2 : DevRef τ sig).ty.Contents (Elt F)) = Cert.RetRefIdeal.Step.b42 j s := by
  unfold Cert.RetRefIdeal.Step.b42
  rfl
set_option maxRecDepth 8192 in
theorem al_43 (h : Holds V0 s j) : (Host.dynamicUpdateSlice (V0 (Proc.devRef .tc main_v54_9)) (broadcastInDim S1x2x64x4x512 ![1, 2, 3, 4] bcast_S2x64x4x512_S1x2x64x4x512_1_2_3_4 (addf (transpose S2x64x4x512 [0, 3, 1, 2] (Host.dotGeneral dot_S2x64x4x512_S2x4x64x64_S2x4x512x64_1_3_3_2_02_01 none (res_main_while0b_v80 V0) (mulf (Host.dotGeneral dot_S2x64x4x256_S2x64x4x256_S2x4x64x64_3_3_1_1_02_02 none (res_main_while0b_v78 V0) (res_main_while0b_v79 V0)) (broadcastInDim S2x4x64x64 ![0, 1, 2, 3] bcast_S1x4x64x64_S2x4x64x64_0_1_2_3 (broadcastInDim S1x4x64x64 ![1, 2, 3] bcast_S4x64x64_S1x4x64x64_1_2_3 (V0 (Proc.devRef .tc main_v54_3)))))) transposes_S2x4x512x64_S2x64x4x512_0_3_1_2) (transpose S2x64x4x512 [0, 3, 1, 2] (Host.dotGeneral dot_S2x4x256x512_S2x64x4x256_S2x4x512x64_2_3_3_1_01_02 none (V0 (Proc.devRef .tc main_v54_8)) (mulf (res_main_while0b_v78 V0) (broadcastInDim S2x64x4x256 ![0, 1, 2, 3] bcast_S1x64x4x1_S2x64x4x256_0_1_2_3 (broadcastInDim S1x64x4x1 ![1, 2] bcast_S64x4_S1x64x4x1_1_2 (V0 (Proc.devRef .tc main_v54_4)))))) transposes_S2x4x512x64_S2x64x4x512_0_3_1_2))) (fun k => (((![V0 (Proc.devRef .tc main_v54_7), constantI S_ 32 0#32, constantI S_ 32 0#32, constantI S_ 32 0#32, constantI S_ 32 0#32] : Fin 5 → (⟨S_, .i32⟩ : BufTy).Contents (Elt F))) k (Shape.Idx.first h_S_)).toInt) updateFits_S128x2x64x4x512_S1x2x64x4x512 : (Proc.devRef .tc main_while0b_v101 : DevRef τ sig).ty.Contents (Elt F)) = Cert.RetRefIdeal.Step.b43 j s := by
  unfold Cert.RetRefIdeal.Step.b43
  rw [← al_38 h, ← al_39 h, ← al_40 h, ← al_41 h, ← al_42 h, h.f_9, h.n_7]
  try rfl

/-! One trip's step of the carried values is `step`, field by field; a counter steps to the next number. -/

theorem step_8 (h : Holds V0 s j) : step_main_v54_8 V0 = (step j s).main_v54_8 := by
  unfold step_main_v54_8 Cert.RetRefIdeal.Step.step
  show id (addf (mulf (V0 (Proc.devRef .tc main_v54_8)) (broadcastInDim S2x4x256x512 ![0, 1, 2, 3] bcast_S1x4x1x1_S2x4x256x512_0_1_2_3 (broadcastInDim S1x4x1x1 ![1] bcast_S4_S1x4x1x1_1 (V0 (Proc.devRef .tc main_v54_5))))) (Host.dotGeneral dot_S2x64x4x256_S2x64x4x512_S2x4x256x512_1_1_3_3_02_02 none (mulf (res_main_while0b_v79 V0) (broadcastInDim S2x64x4x256 ![0, 1, 2, 3] bcast_S1x64x4x1_S2x64x4x256_0_1_2_3 (broadcastInDim S1x64x4x1 ![1, 2] bcast_S64x4_S1x64x4x1_1_2 (V0 (Proc.devRef .tc main_v54_6))))) (res_main_while0b_v80 V0))) = _
  rw [al_36 h]
  try rfl
theorem step_9 (h : Holds V0 s j) : step_main_v54_9 V0 = (step j s).main_v54_9 :=
  al_43 h
theorem step_7 (h : Holds V0 s j) : step_main_v54_7 V0 = constantI S_ 32 (BitVec.ofNat 32 (j + 1)) := by
  unfold step_main_v54_7
  rw [h.n_7]
  funext i
  show BitVec.ofNat 32 j + 1#32 = BitVec.ofNat 32 (j + 1)
  simp only [BitVec.ofNat_add]

set_option maxRecDepth 8192 in
theorem out_main_v77_holds (h : Holds V0 s j) {x_main_arg3 : (⟨S16384x2048, .bf16⟩ : BufTy).Contents (Elt F)} (h_main_arg3 : V0 (Proc.devRef .tc main_arg3) = x_main_arg3) {x_main_arg4 : (⟨S2048x1024, .f32⟩ : BufTy).Contents (Elt F)} (h_main_arg4 : V0 (Proc.devRef .tc main_arg4) = x_main_arg4) {x_main_arg5 : (⟨S16384x1024, .f32⟩ : BufTy).Contents (Elt F)} (h_main_arg5 : V0 (Proc.devRef .tc main_arg5) = x_main_arg5) {x_main_arg6 : (⟨S2x1x1024, .f32⟩ : BufTy).Contents (Elt F)} (h_main_arg6 : V0 (Proc.devRef .tc main_arg6) = x_main_arg6) : out_main_v77 V0 = Cert.RetRefIdeal.Step.R_main_v77 s x_main_arg3 x_main_arg4 x_main_arg5 x_main_arg6 := by
  unfold out_main_v77 Cert.RetRefIdeal.Step.R_main_v77
  rw [h.f_9, h_main_arg3, h_main_arg4, h_main_arg5, h_main_arg6]
  try rfl

/-- One trip keeps the valuation holding: `step` of the state, the same set-up values, the next number. -/
theorem holds_step (h : Holds V0 s j) : Holds (STEP V0) (step j s) (j + 1) where
  f_8 := (STEP_main_v54_8 V0).trans (step_8 h)
  f_9 := (STEP_main_v54_9 V0).trans (step_9 h)
  n_7 := (STEP_main_v54_7 V0).trans (step_7 h)
  k_3 := (STEP_main_v54_3 V0).trans h.k_3
  k_4 := (STEP_main_v54_4 V0).trans h.k_4
  k_5 := (STEP_main_v54_5 V0).trans h.k_5
  k_6 := (STEP_main_v54_6 V0).trans h.k_6
  f_0 := (STEP_main_v54_0 V0).trans h.f_0
  f_1 := (STEP_main_v54_1 V0).trans h.f_1
  f_2 := (STEP_main_v54_2 V0).trans h.f_2

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `RetRefIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v77) = Cert.RetRefIdeal.Step.R_main_v77 (it c 128) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 128
    ⟨(h c).1.trans (out_main_v77_holds hk (iter_main_arg3 m c 128) (iter_main_arg4 m c 128) (iter_main_arg5 m c 128) (iter_main_arg6 m c 128)), (h c).2.1, (h c).2.2.1, (h c).2.2.2.1, (h c).2.2.2.2.1, (h c).2.2.2.2.2.1, (h c).2.2.2.2.2.2.1, (h c).2.2.2.2.2.2.2⟩) (Value.run m ρ)

end Cert.RetRefIdeal.RefRun

end
-- ==== Proof.Ret.Consts.lean ====
/- The float words of the retention's two programs as real numbers, and its decays: head `h` decays by
   `1 - 2 ^ (-5 - h)`, and the exponential of its logarithm times a number of positions is a power. -/
module

public import Idealize.ShloMosaic.PureOps.Ideal
public import Mathlib.Algebra.BigOperators.Fin
public import Mathlib.Tactic.FinCases
public import Mathlib.Tactic.Ring

@[expose] public section

noncomputable section

namespace Cert.Ret.Consts

open Idealize.ShloMosaic

theorem w_one : Ideal.ofBits .f32 0x3F800000#32 = ((1 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_neg_five : Ideal.ofBits .f32 0xC0A00000#32 = ((-5 : ℝ) : EReal) := by
  simp [Ideal.ofBits, Ideal.ieee, -EReal.coe_mul]; norm_num
theorem w_63 : Ideal.ofBits .f32 0x427C0000#32 = ((63 : ℝ) : EReal) := by
  simp [Ideal.ofBits, Ideal.ieee, -EReal.coe_mul]; norm_num
theorem w_64 : Ideal.ofBits .f32 0x42800000#32 = ((64 : ℝ) : EReal) := by
  simp [Ideal.ofBits, Ideal.ieee, -EReal.coe_mul]; norm_num
theorem w_255 : Ideal.ofBits .f32 0x437F0000#32 = ((255 : ℝ) : EReal) := by
  simp [Ideal.ofBits, Ideal.ieee, -EReal.coe_mul]; norm_num

/-- The decay of head `h`. -/
def decay (h : Fin 4) : ℝ := 1 - 1 / (32 * 2 ^ (h : ℕ))

theorem decay_pos (h : Fin 4) : 0 < decay h := by
  fin_cases h <;> norm_num [decay]

theorem two_pow (h : Fin 4) : Real.rpow 2 (-5 - ((h : ℕ) : ℝ)) = 1 / (32 * 2 ^ (h : ℕ)) := by
  show (2 : ℝ) ^ (-5 - ((h : ℕ) : ℝ)) = _
  rw [show (-5 - ((h : ℕ) : ℝ)) = -(((5 + (h : ℕ) : ℕ)) : ℝ) by push_cast; ring, Real.rpow_neg (by norm_num), Real.rpow_natCast,
    pow_add]
  norm_num

/-- The exponential of a decay's logarithm times a number of positions. -/
theorem exp_log_mul (h : Fin 4) (n : ℕ) : Real.exp (Real.log (decay h) * (n : ℝ)) = decay h ^ n := by
  rw [mul_comm, Real.exp_nat_mul, Real.exp_log (decay_pos h)]

theorem ideal_exp_log_mul (h : Fin 4) (x : ℝ) (n : ℕ) (hx : x = n) :
    Ideal.exp (((Real.log (decay h) : ℝ) : EReal) * ((x : ℝ) : EReal)) = ((decay h ^ n : ℝ) : EReal) := by
  rw [hx, ← EReal.coe_mul, Ideal.exp_coe, exp_log_mul]

/-- A counter's word as a number. -/
theorem sitofp_word (n : ℕ) (hn : n < 2147483648) :
    (FloatOps.sitofp .f32 (BitVec.ofNat 32 n) : Ideal .f32) = ((n : ℝ) : EReal) := by
  show (((BitVec.ofNat 32 n).toInt : ℝ) : EReal) = _
  have h : (BitVec.ofNat 32 n).toInt = (n : ℤ) := by
    rw [BitVec.toInt_eq_toNat_of_lt] <;> simp only [BitVec.toNat_ofNat] <;> omega
  rw [h, Int.cast_natCast]

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The logarithm both programs take of a head's decay. -/
theorem log_decay (h : Fin 4) (x : EReal) (hx : x = (((h : ℕ) : ℝ) : EReal)) :
    Ideal.log (1 - Ideal.pow (Ideal.ofBits .f32 0x40000000#32) (Ideal.ofBits .f32 0xC0A00000#32 - x)) = ((Real.log (decay h) : ℝ) : EReal) := by
  rw [hx, w_two, w_neg_five, ← EReal.coe_sub, Ideal.pow_coe_coe, two_pow, ← EReal.coe_one, ← EReal.coe_sub, Ideal.log_coe]
  exact if_neg (not_le.mpr (decay_pos h))

end Cert.Ret.Consts
-- ==== Proof.Ret.Decay.lean ====
/- Retention over the real numbers, for one batch row, one head and one value column.

   `ret` is what a position reads: every position up to the end of its own chunk of 64, weighted by the decay to the power
   of the distance between the two.  `carry` is the decayed sum of all positions before `N`.  Both are cut at any block
   whose length is a whole number of chunks: the block's own positions directly (`ret_block`'s first sum), everything
   before it through `carry`, and `carry` itself moves on by one block (`carry_block`).  A block of 64 is the reference's
   step and a block of 256 the kernel's. -/
module

public import Idealize.ShloMosaic.PureOps.Ideal
public import Mathlib.Algebra.BigOperators.Fin
public import Mathlib.Tactic.Ring

@[expose] public section

noncomputable section

namespace Cert.Ret.Decay

open Finset

/-- What position `t` reads. -/
def ret (γ : ℝ) (Q K : ℕ → Fin 256 → ℝ) (V : ℕ → ℝ) (t : ℕ) : ℝ :=
  ∑ s ∈ range (64 * (t / 64 + 1)), γ ^ ((t - s) + (s - t)) * (∑ d, Q t d * K s d) * V s

/-- The decayed sum of the positions before `N`. -/
def carry (γ : ℝ) (K : ℕ → Fin 256 → ℝ) (V : ℕ → ℝ) (N : ℕ) (d : Fin 256) : ℝ :=
  ∑ s ∈ range N, γ ^ (N - 1 - s) * (K s d * V s)

/-- The weight of position `j` of a block for position `i` of it. -/
def mask (γ : ℝ) (i j : ℕ) : ℝ := if j / 64 ≤ i / 64 then γ ^ ((i - j) + (j - i)) else 0

theorem carry_zero (γ : ℝ) (K : ℕ → Fin 256 → ℝ) (V : ℕ → ℝ) (d : Fin 256) : carry γ K V 0 d = 0 := by
  simp [carry]

theorem carry_block (γ : ℝ) (K : ℕ → Fin 256 → ℝ) (V : ℕ → ℝ) (N L : ℕ) (d : Fin 256) :
    carry γ K V (N + L) d
      = carry γ K V N d * γ ^ L + ∑ j : Fin L, (K (N + j) d * γ ^ (L - 1 - (j : ℕ))) * V (N + j) := by
  unfold carry
  rw [Finset.sum_range_add, Finset.sum_mul,
    Fin.sum_univ_eq_sum_range (fun j => (K (N + j) d * γ ^ (L - 1 - j)) * V (N + j)) L]
  congr 1
  · refine Finset.sum_congr rfl fun s hs => ?_
    have hs' := Finset.mem_range.mp hs
    rw [show N + L - 1 - s = (N - 1 - s) + L by omega, pow_add]
    ring
  · refine Finset.sum_congr rfl fun j hj => ?_
    have hj' := Finset.mem_range.mp hj
    rw [show N + L - 1 - (N + j) = L - 1 - j by omega]
    ring

theorem ret_block (γ : ℝ) (Q K : ℕ → Fin 256 → ℝ) (V : ℕ → ℝ) (n c i : ℕ) (hi : i < 64 * c) :
    ret γ Q K V (64 * n + i)
      = (∑ j : Fin (64 * c), ((∑ d, Q (64 * n + i) d * K (64 * n + j) d) * mask γ i j) * V (64 * n + j))
        + ∑ d, (Q (64 * n + i) d * γ ^ (i + 1)) * carry γ K V (64 * n) d := by
  unfold ret carry
  rw [Fin.sum_univ_eq_sum_range
    (fun j => ((∑ d, Q (64 * n + i) d * K (64 * n + j) d) * mask γ i j) * V (64 * n + j)) (64 * c)]
  have hr : 64 * ((64 * n + i) / 64 + 1) = 64 * n + 64 * (i / 64 + 1) := by omega
  rw [hr, Finset.sum_range_add, add_comm]
  congr 1
  · have hsub : range (64 * (i / 64 + 1)) ⊆ range (64 * c) := by
      intro x hx
      rw [Finset.mem_range] at hx ⊢
      omega
    rw [← Finset.sum_subset hsub]
    · refine Finset.sum_congr rfl fun j hj => ?_
      have hj' := Finset.mem_range.mp hj
      have hm : j / 64 ≤ i / 64 := by omega
      rw [mask, if_pos hm, show (64 * n + i - (64 * n + j)) + (64 * n + j - (64 * n + i)) = (i - j) + (j - i) by omega]
      ring
    · intro j _ hj
      have hj' : ¬ j < 64 * (i / 64 + 1) := fun h => hj (Finset.mem_range.mpr h)
      have hm : ¬ j / 64 ≤ i / 64 := by omega
      rw [mask, if_neg hm]
      ring
  · simp only [Finset.mul_sum, Finset.sum_mul]
    rw [Finset.sum_comm]
    refine Finset.sum_congr rfl fun d _ => Finset.sum_congr rfl fun s hs => ?_
    have hs' := Finset.mem_range.mp hs
    rw [show (64 * n + i - s) + (s - (64 * n + i)) = (64 * n - 1 - s) + (i + 1) by omega, pow_add]
    ring

end Cert.Ret.Decay

end
-- ==== Proof.Ret.Inputs.lean ====
/- The retention's queries, keys and values as real numbers: row `8192 b + s` of an array is position `s` of sequence `b`, and a
   head's columns lie side by side. -/
module

public import proofs.«01_k».proof.Proof.Ret.Consts
public import proofs.«01_k».proof.Proof.Ret.Decay
public import Idealize.ShloMosaic.Lib.Pointwise

@[expose] public section

noncomputable section

namespace Cert.Ret.Inputs

open Idealize.ShloMosaic Cert.Ret.Consts

/-- No entry is infinite. -/
def Real' {S : Shape} (x : S.Idx → EReal) : Prop := ∀ i, x i ≠ ⊤ ∧ x i ≠ ⊥

/-- Queries and keys: 256 columns a head. -/
def key (x : (⟨2, ![16384, 1024]⟩ : Shape).Idx → EReal) (b : Fin 2) (h : Fin 4) (s : ℕ) (d : Fin 256) : ℝ :=
  (x (ix2 ⟨(b.val * 8192 + s) % 16384, Nat.mod_lt _ (by norm_num)⟩ ⟨h.val * 256 + d.val, by omega⟩)).toReal

/-- Values: 512 columns a head. -/
def value (x : (⟨2, ![16384, 2048]⟩ : Shape).Idx → EReal) (b : Fin 2) (h : Fin 4) (e : Fin 512) (s : ℕ) : ℝ :=
  (x (ix2 ⟨(b.val * 8192 + s) % 16384, Nat.mod_lt _ (by norm_num)⟩ ⟨h.val * 512 + e.val, by omega⟩)).toReal

theorem key_eq {x : (⟨2, ![16384, 1024]⟩ : Shape).Idx → EReal} (hx : Real' x) (b : Fin 2) (h : Fin 4) (s : ℕ) (d : Fin 256)
    (t : Fin 16384) (u : Fin 1024) (ht : t.val = b.val * 8192 + s) (hu : u.val = h.val * 256 + d.val) :
    x (ix2 t u) = ((key x b h s d : ℝ) : EReal) := by
  have e1 : t = ⟨(b.val * 8192 + s) % 16384, Nat.mod_lt _ (by norm_num)⟩ := Fin.ext (by
    show t.val = (b.val * 8192 + s) % 16384; omega)
  have e2 : u = ⟨h.val * 256 + d.val, by omega⟩ := Fin.ext hu
  rw [e1, e2, key, EReal.coe_toReal (hx _).1 (hx _).2]

theorem value_eq {x : (⟨2, ![16384, 2048]⟩ : Shape).Idx → EReal} (hx : Real' x) (b : Fin 2) (h : Fin 4) (s : ℕ) (e : Fin 512)
    (t : Fin 16384) (u : Fin 2048) (ht : t.val = b.val * 8192 + s) (hu : u.val = h.val * 512 + e.val) :
    x (ix2 t u) = ((value x b h e s : ℝ) : EReal) := by
  have e1 : t = ⟨(b.val * 8192 + s) % 16384, Nat.mod_lt _ (by norm_num)⟩ := Fin.ext (by
    show t.val = (b.val * 8192 + s) % 16384; omega)
  have e2 : u = ⟨h.val * 512 + e.val, by omega⟩ := Fin.ext hu
  rw [e1, e2, value, EReal.coe_toReal (hx _).1 (hx _).2]

/-- The state before position `N` of sequence `b`: head `h`, key column `d`, value column `e`. -/
def state (k : (⟨2, ![16384, 1024]⟩ : Shape).Idx → EReal) (v : (⟨2, ![16384, 2048]⟩ : Shape).Idx → EReal)
    (b : Fin 2) (h : Fin 4) (N : ℕ) (d : Fin 256) (e : Fin 512) : ℝ :=
  Decay.carry (decay h) (key k b h) (value v b h e) N d

/-- The retention at position `s` of sequence `b`: head `h`, value column `e`. -/
def retained (q k : (⟨2, ![16384, 1024]⟩ : Shape).Idx → EReal) (v : (⟨2, ![16384, 2048]⟩ : Shape).Idx → EReal)
    (b : Fin 2) (h : Fin 4) (s : ℕ) (e : Fin 512) : ℝ :=
  Decay.ret (decay h) (key q b h) (key k b h) (value v b h e) s

/-- A row of gates against a row of normalized retention: what the last product takes. -/
def gateRow (g y : Fin 512 → EReal) (e : Fin 512) : EReal :=
  g e * Ideal.div 1 (1 + Ideal.exp (-(g e)))
    * (y e * Ideal.rsqrt (Ideal.div (∑ x : Fin 512, y x * y x) (Ideal.ofBits .f32 0x44000000#32) + Ideal.ofBits .f32 0x358637BD#32))

/-- The value columns, taken head by head. -/
theorem sum_heads (f : Fin 2048 → EReal) : ∑ m : Fin 2048, f m = ∑ h : Fin 4, ∑ e : Fin 512, f ⟨h.val * 512 + e.val, by omega⟩ := by
  rw [← (finProdFinEquiv (m := 4) (n := 512)).sum_comp f, Fintype.sum_prod_type]
  refine Finset.sum_congr rfl fun h _ => Finset.sum_congr rfl fun e _ => congrArg f (Fin.ext ?_)
  show e.val + 512 * h.val = h.val * 512 + e.val
  omega

/-- The layer's retention with its gate, its output product and its residual: row `t`, column `n` of the result, from a retention
    `y` that gives a row's head and value column. -/
def layer (y : Fin 16384 → Fin 4 → Fin 512 → EReal) (g : (⟨2, ![16384, 2048]⟩ : Shape).Idx → EReal)
    (w : (⟨2, ![2048, 1024]⟩ : Shape).Idx → EReal) (x : (⟨2, ![16384, 1024]⟩ : Shape).Idx → EReal)
    (gate : (⟨3, ![2, 1, 1024]⟩ : Shape).Idx → EReal) (t : Fin 16384) (n : Fin 1024) : EReal :=
  x (ix2 t n) + gate (ix3 ⟨t.val / 8192, by omega⟩ 0 n)
    * ∑ h : Fin 4, ∑ e : Fin 512, gateRow (fun e => g (ix2 t ⟨h.val * 512 + e.val, by omega⟩)) (y t h) e
        * w (ix2 ⟨h.val * 512 + e.val, by omega⟩ n)

end Cert.Ret.Inputs

end
-- ==== Proof.Ret.Tables.lean ====
module

public import proofs.«01_k».proof.Proof.Gen.RetIdeal.Value
public import proofs.«01_k».proof.Proof.Ret.Inputs
public import Idealize.ShloMosaic.Lib.Pointwise
public import Idealize.ShloMosaic.Lib.StableHlo.ReadAt
public import Idealize.ShloMosaic.Lib.Tactic

@[expose] public section

set_option maxRecDepth 65536
set_option maxHeartbeats 1000000

noncomputable section

namespace Cert.RetIdeal.Block

open Idealize.ShloMosaic Idealize.ShloMosaic.TcCoe Idealize.ShloMosaic.Tactic
open Cert.RetIdeal Cert.RetIdeal.Gen Cert.Ret.Decay Cert.Ret.Consts

variable (m : (ℓ : Loc nD τ sig) → Buf (Elt Ideal) ℓ)

/-- The block of position `n`, as the floored division by 64 computes it. -/
theorem block_word (n : ℕ) (hn : n < 256) :
    Scalar.select
      (IntOp.andi
        (IntOp.cmpi CmpIPredicate.ne
          (if BitVec.ofNat 32 n = 0 then (0 : BitVec 32) else if (BitVec.ofNat 32 n).msb = true then -1 else 1)
          (if (64#32 : BitVec 32) = 0 then (0 : BitVec 32) else if BitVec.msb (64#32 : BitVec 32) = true then -1 else 1))
        (IntOp.cmpi CmpIPredicate.ne (IntOp.remsi ArithUnit.host (BitVec.ofNat 32 n) 64#32) 0#32))
      (IntOp.subi (IntOp.divsi ArithUnit.host (BitVec.ofNat 32 n) 64#32) 1#32)
      (IntOp.divsi ArithUnit.host (BitVec.ofNat 32 n) 64#32) = BitVec.ofNat 32 (n / 64) := by
  have : ∀ n : Fin 256, Scalar.select
      (IntOp.andi
        (IntOp.cmpi CmpIPredicate.ne
          (if BitVec.ofNat 32 n.val = 0 then (0 : BitVec 32) else if (BitVec.ofNat 32 n.val).msb = true then -1 else 1)
          (if (64#32 : BitVec 32) = 0 then (0 : BitVec 32) else if BitVec.msb (64#32 : BitVec 32) = true then -1 else 1))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32) = BitVec.ofNat 32 (n.val / 64) := by decide +kernel
  exact this ⟨n, hn⟩

/-- The table a block's queries read the carried state through. -/
theorem xi_apply (c : Dev nD) (h : Fin 4) (i d : Fin 256) :
    (V m c main_v43 : Vec Ideal S4x256x256 .f32) (ix3 h i d) = ((decay h ^ (i.val + 1) : ℝ) : EReal) := by
  unfold V
  after_reads_at
  rw [sitofp_word i.val (by omega), log_decay h _ (sitofp_word h.val (by omega)), ← EReal.coe_one, ← EReal.coe_add]
  exact ideal_exp_log_mul h _ _ (by push_cast; ring)

/-- The table a block's keys leave the block through. -/
theorem zt_apply (c : Dev nD) (h : Fin 4) (j d : Fin 256) :
    (V m c main_v51 : Vec Ideal S4x256x256 .f32) (ix3 h j d) = ((decay h ^ (255 - j.val) : ℝ) : EReal) := by
  unfold V
  after_reads_at
  rw [sitofp_word j.val (by omega), log_decay h _ (sitofp_word h.val (by omega))]
  erw [w_255]
  rw [← EReal.coe_sub]
  exact ideal_exp_log_mul h _ _ (by rw [Nat.cast_sub (by omega)]; norm_num)

/-- The rounded output weight. -/
theorem wout_apply (c : Dev nD) (e : Fin 2048) (n : Fin 1024) :
    (V m c main_v52 : Vec Ideal S2048x1024 .bf16) (ix2 e n) = (m ((c.tc : Thread nD τ).loc main_arg4) : Vec Ideal S2048x1024 .f32) (ix2 e n) := by
  unfold V
  after_reads_at

/-- The table of the weights inside a block. -/
theorem dm_apply (c : Dev nD) (h : Fin 4) (i j : Fin 256) :
    (V m c main_v35 : Vec Ideal S4x256x256 .f32) (ix3 h i j) = ((mask (decay h) i.val j.val : ℝ) : EReal) := by
  have hi := i.isLt
  have hj := j.isLt
  unfold V
  after_reads_at
  simp only [show id (constantI S_ 32 64#32) ix0 = (64#32 : BitVec 32) from rfl]
  rw [block_word i.val i.isLt, block_word j.val j.isLt, sitofp_word i.val (by omega), sitofp_word j.val (by omega),
    log_decay h _ (sitofp_word h.val (by omega))]
  unfold Scalar.select mask
  rw [show ((1 : BitVec 1)) = 1#1 from rfl]
  simp only [WordCmp.cmpi_sle_ofNat_eq_one_iff (w := 32) (a := j.val / 64) (b := i.val / 64) (by norm_num; omega) (by norm_num; omega),
    WordCmp.cmpi_eq_ofNat_eq_one_iff (w := 32) (a := i.val / 64) (b := j.val / 64) (by norm_num; omega) (by norm_num; omega)]
  by_cases hle : j.val / 64 ≤ i.val / 64
  · rw [if_pos hle, if_pos hle]
    by_cases he : i.val / 64 = j.val / 64
    · rw [if_pos he, Ideal.absf_def, ← EReal.coe_sub, ← EReal.coe_neg, ← EReal.coe_strictMono.monotone.map_max]
      refine ideal_exp_log_mul h _ _ ?_
      show |((i.val : ℝ) - (j.val : ℝ))| = _
      rcases le_total i.val j.val with hij | hij
      · rw [abs_sub_comm, abs_of_nonneg (sub_nonneg.mpr (Nat.cast_le.mpr hij)), Nat.sub_eq_zero_of_le hij, zero_add, Nat.cast_sub hij]
      · rw [abs_of_nonneg (sub_nonneg.mpr (Nat.cast_le.mpr hij)), Nat.sub_eq_zero_of_le hij, add_zero, Nat.cast_sub hij]
    · have hij : j.val ≤ i.val := by omega
      rw [if_neg he, ← EReal.coe_sub]
      exact ideal_exp_log_mul h _ _ (by rw [Nat.sub_eq_zero_of_le hij, add_zero, Nat.cast_sub hij])
  · rw [if_neg hle, if_neg hle]
    show Ideal.ofBits .f32 0#32 = _
    simp [Ideal.ofBits, Ideal.ieee]

end Cert.RetIdeal.Block
-- ==== Proof.Ret.Blocks.lean ====
/- What a point of the retention kernel finds in its windows: the block of rows of its number, the whole tables and output weight, and
   its sequence's gate. -/
module

public import proofs.«01_k».proof.Proof.Ret.Tables
public import Idealize.ShloMosaic.Lib.Pipeline.Value
public import Idealize.ShloMosaic.Lib.Pipeline.ValueKit.Point

@[expose] public section

set_option maxRecDepth 16384

noncomputable section

namespace Cert.RetIdeal.Block

open Idealize.ShloMosaic Idealize.ShloMosaic.TcCoe Idealize.ShloMosaic.Tactic
open Cert.RetIdeal Cert.RetIdeal.Gen Cert.Ret.Decay Cert.Ret.Consts

variable (m : (ℓ : Loc nD τ sig) → Buf (Elt Ideal) ℓ)

theorem idx_rows : ∀ t : Fin cfg0.N, win0_0.index t = ![t.val, 0] ∧ win0_1.index t = ![t.val, 0] ∧ win0_2.index t = ![t.val, 0]
    ∧ win0_3.index t = ![t.val, 0] ∧ win0_8.index t = ![t.val, 0] := by decide +kernel
theorem idx_whole : ∀ t : Fin cfg0.N, win0_4.index t = ![0, 0, 0] ∧ win0_5.index t = ![0, 0, 0] ∧ win0_6.index t = ![0, 0, 0]
    ∧ win0_7.index t = ![0, 0] := by decide +kernel
theorem idx_gate : ∀ t : Fin cfg0.N, win0_9.index t = ![t.val / 32, 0, 0] := by decide +kernel

theorem blk_q (c : Dev nD) (t : Fin cfg0.N) (r : Fin 256) (u : Fin 1024) (R : Fin 16384) (hR : R.val = t.val * 256 + r.val) :
    (iblk m c 0 t : Vec Ideal S256x1024 .bf16) (ix2 r u) = (m ((c.tc : Thread nD τ).loc main_arg0) : Vec Ideal S16384x1024 .bf16) (ix2 R u) := by
  blk_ext [iblk, V, idx_rows t]

theorem blk_k (c : Dev nD) (t : Fin cfg0.N) (r : Fin 256) (u : Fin 1024) (R : Fin 16384) (hR : R.val = t.val * 256 + r.val) :
    (iblk m c 1 t : Vec Ideal S256x1024 .bf16) (ix2 r u) = (m ((c.tc : Thread nD τ).loc main_arg1) : Vec Ideal S16384x1024 .bf16) (ix2 R u) := by
  blk_ext [iblk, V, idx_rows t]

theorem blk_v (c : Dev nD) (t : Fin cfg0.N) (r : Fin 256) (u : Fin 2048) (R : Fin 16384) (hR : R.val = t.val * 256 + r.val) :
    (iblk m c 2 t : Vec Ideal S256x2048 .bf16) (ix2 r u) = (m ((c.tc : Thread nD τ).loc main_arg2) : Vec Ideal S16384x2048 .bf16) (ix2 R u) := by
  blk_ext [iblk, V, idx_rows t]

theorem blk_g (c : Dev nD) (t : Fin cfg0.N) (r : Fin 256) (u : Fin 2048) (R : Fin 16384) (hR : R.val = t.val * 256 + r.val) :
    (iblk m c 3 t : Vec Ideal S256x2048 .bf16) (ix2 r u) = (m ((c.tc : Thread nD τ).loc main_arg3) : Vec Ideal S16384x2048 .bf16) (ix2 R u) := by
  blk_ext [iblk, V, idx_rows t]

theorem blk_x (c : Dev nD) (t : Fin cfg0.N) (r : Fin 256) (u : Fin 1024) (R : Fin 16384) (hR : R.val = t.val * 256 + r.val) :
    (iblk m c 8 t : Vec Ideal S256x1024 .f32) (ix2 r u) = (m ((c.tc : Thread nD τ).loc main_arg5) : Vec Ideal S16384x1024 .f32) (ix2 R u) := by
  blk_ext [iblk, V, idx_rows t]

theorem blk_dm (c : Dev nD) (t : Fin cfg0.N) (h : Fin 4) (i j : Fin 256) :
    (iblk m c 4 t : Vec Ideal S4x256x256 .f32) (ix3 h i j) = ((mask (decay h) i.val j.val : ℝ) : EReal) := by
  rw [← dm_apply m c]
  blk_ext [iblk, idx_whole t]

theorem blk_xi (c : Dev nD) (t : Fin cfg0.N) (h : Fin 4) (i d : Fin 256) :
    (iblk m c 5 t : Vec Ideal S4x256x256 .f32) (ix3 h i d) = ((decay h ^ (i.val + 1) : ℝ) : EReal) := by
  rw [← xi_apply m c h i d]
  blk_ext [iblk, idx_whole t]

theorem blk_zt (c : Dev nD) (t : Fin cfg0.N) (h : Fin 4) (j d : Fin 256) :
    (iblk m c 6 t : Vec Ideal S4x256x256 .f32) (ix3 h j d) = ((decay h ^ (255 - j.val) : ℝ) : EReal) := by
  rw [← zt_apply m c h j d]
  blk_ext [iblk, idx_whole t]

theorem blk_w (c : Dev nD) (t : Fin cfg0.N) (e : Fin 2048) (n : Fin 1024) :
    (iblk m c 7 t : Vec Ideal S2048x1024 .bf16) (ix2 e n) = (m ((c.tc : Thread nD τ).loc main_arg4) : Vec Ideal S2048x1024 .f32) (ix2 e n) := by
  rw [← wout_apply m c e n]
  blk_ext [iblk, idx_whole t]

theorem blk_gate (c : Dev nD) (t : Fin cfg0.N) (u : Fin 1024) (b : Fin 2) (hb : b.val = t.val / 32) :
    (iblk m c 9 t : Vec Ideal S1x1x1024 .f32) (ix3 0 0 u) = (m ((c.tc : Thread nD τ).loc main_arg6) : Vec Ideal S2x1x1024 .f32) (ix3 b 0 u) := by
  blk_ext [iblk, V, idx_gate t]

end Cert.RetIdeal.Block
-- ==== Proof.Ret.Block.lean ====
/- One head of one block of the retention kernel, as functions of the block's values: what the block's own positions give a
   position, what the carried state gives it, the state after the block, and what the head adds to the output after its
   norm, its gate and its rows of the output weight.  Each is read at an index. -/
module

public import proofs.«01_k».proof.Proof.Gen.RetIdeal.Skeleton
public import proofs.«01_k».proof.Proof.Ret.Inputs
public import Idealize.ShloMosaic.Lib.Pointwise

@[expose] public section

set_option maxRecDepth 16384

noncomputable section

namespace Cert.RetIdeal.Block

open Idealize.ShloMosaic Cert.RetIdeal Cert.RetIdeal.Gen

section
variable {F : FTy → Type} [FloatOps F] [Named F]

/-- What the block's own positions and the carried state give its positions. -/
def readY (q k : FVec F S256x256 .bf16) (v : FVec F S256x512 .bf16) (dm xi : FVec F S1x256x256 .f32)
    (st : FVec F S1x256x512 .f32) : FVec F S256x512 .f32 :=
  addf (k0_pay3 q k v dm) (k0_pay5 q st xi)

/-- The state after the block. -/
def nextS (g : F .f32) (k : FVec F S256x256 .bf16) (v : FVec F S256x512 .bf16) (zt : FVec F S1x256x256 .f32)
    (st : FVec F S1x256x512 .f32) : FVec F S1x256x512 .f32 :=
  shapeCast S1x256x512
    (addf (mulf (shapeCast S256x512 st shapeCasts_S1x256x512_S256x512) (broadcast S256x512 g))
      (matmul dot_S256x256_S256x512_S256x512_0_0_1_1_n_n none
        (truncf .bf16 (mulf (extf .f32 k bitsLt_bf16_f32) (shapeCast S256x256 zt shapeCasts_S1x256x256_S256x256)) bitsLt_bf16_f32)
        v (constant S256x512 .f32 0x00000000#32)))
    shapeCasts_S256x512_S1x256x512

/-- The head's reading after its norm and its gate. -/
def gated (y : FVec F S256x512 .f32) (g : FVec F S256x512 .bf16) : FVec F S256x512 .bf16 :=
  have v34 : FVec F S256x512 .f32 := mulf y y
  have v35 : FVec F S256 .f32 := multiReduction .add [1] S256 v34 0x00000000#32 reduces_S256x512_S256 (.inl rfl) rfl
  have v36 : FVec F S256x1 .f32 := shapeCast S256x1 v35 shapeCasts_S256_S256x1
  have v38 : FVec F S256x1 .f32 := divf v36 (broadcast S256x1 (Scalar.ofBits .f32 0x44000000#32))
  have v40 : FVec F S256x1 .f32 := addf v38 (broadcast S256x1 (Scalar.ofBits .f32 0x358637BD#32))
  have v43 : FVec F S256x512 .f32 := mulf y (broadcastTo S256x512 (rsqrt v40) broadcasts_S256x1_S256x512)
  have v45 : FVec F S256x512 .f32 := extf .f32 g bitsLt_bf16_f32
  have v48 : FVec F S256x512 .f32 := exp (subf (broadcast S256x512 (Scalar.ofBits .f32 0x00000000#32)) v45)
  have v50 : FVec F S256x512 .f32 := addf (broadcast S256x512 (Scalar.ofBits .f32 0x3F800000#32)) v48
  have v52 : FVec F S256x512 .f32 := divf (broadcast S256x512 (Scalar.ofBits .f32 0x3F800000#32)) v50
  truncf .bf16 (mulf (mulf v45 v52) v43) bitsLt_bf16_f32

/-- What the head adds to the output. -/
def part (y : FVec F S256x512 .f32) (g : FVec F S256x512 .bf16) (w : FVec F S512x1024 .bf16) : FVec F S256x1024 .f32 :=
  matmul dot_S256x512_S512x1024_S256x1024_1_0_0_1_n_n none (gated y g)
    (shapeCast S512x1024 w shapeCasts_S512x1024_S512x1024) (constant S256x1024 .f32 0x00000000#32)

/-- The block of the output from the heads' sum. -/
def outB (p : FVec F S256x1024 .f32) (x : FVec F S256x1024 .f32) (gate : FVec F S1x1x1024 .f32) : FVec F S256x1024 .f32 :=
  addf x (mulf (broadcastTo S256x1024 (shapeCast S1x1024 gate shapeCasts_S1x1x1024_S1x1024) broadcasts_S1x1024_S256x1024) p)

end

/-! ## Read at an index -/

theorem readY_apply (q k : FVec Ideal S256x256 .bf16) (v : FVec Ideal S256x512 .bf16) (dm xi : FVec Ideal S1x256x256 .f32)
    (st : FVec Ideal S1x256x512 .f32) (r : Fin 256) (e : Fin 512) :
    readY q k v dm xi st (ix2 r e)
      = (∑ j : Fin 256, ((∑ d : Fin 256, q (ix2 r d) * k (ix2 j d)) * dm (ix3 0 r j)) * v (ix2 j e))
        + ∑ d : Fin 256, (q (ix2 r d) * xi (ix3 0 r d)) * st (ix3 0 d e) := by
  unfold readY
  unfold_payloads
  pointwise [dot_S256x256_S256x256_S256x256_1_1_0_0_n_n, dot_S256x256_S256x512_S256x512_1_0_0_1_n_n]

theorem nextS_apply (g : Ideal .f32) (k : FVec Ideal S256x256 .bf16) (v : FVec Ideal S256x512 .bf16) (zt : FVec Ideal S1x256x256 .f32)
    (st : FVec Ideal S1x256x512 .f32) (d : Fin 256) (e : Fin 512) :
    nextS g k v zt st (ix3 0 d e)
      = st (ix3 0 d e) * g + ∑ j : Fin 256, (k (ix2 j d) * zt (ix3 0 j d)) * v (ix2 j e) := by
  unfold nextS
  pointwise [dot_S256x256_S256x512_S256x512_0_0_1_1_n_n]

theorem part_apply (y : FVec Ideal S256x512 .f32) (g : FVec Ideal S256x512 .bf16) (w : FVec Ideal S512x1024 .bf16) (r : Fin 256) (n : Fin 1024) :
    part y g w (ix2 r n) = ∑ e : Fin 512, Cert.Ret.Inputs.gateRow (fun e => g (ix2 r e)) (fun e => y (ix2 r e)) e * w (ix2 e n) := by
  unfold part gated Cert.Ret.Inputs.gateRow
  simp only [← zero_sub]
  pointwise [dot_S256x512_S512x1024_S256x1024_1_0_0_1_n_n]

theorem outB_apply (p : FVec Ideal S256x1024 .f32) (x : FVec Ideal S256x1024 .f32) (gate : FVec Ideal S1x1x1024 .f32) (r : Fin 256) (n : Fin 1024) :
    outB p x gate (ix2 r n) = x (ix2 r n) + gate (ix3 0 0 n) * p (ix2 r n) := by
  unfold outB
  pointwise

end Cert.RetIdeal.Block

end
-- ==== Proof.Ret.Case.lean ====
/- One block of the retention kernel, all four heads, and that the kernel's two kinds of points — the first block of a sequence,
   which starts from zero states, and the others — leave it. -/
module

public import proofs.«01_k».proof.Proof.Gen.RetIdeal.Value
public import proofs.«01_k».proof.Proof.Ret.Block
public import Idealize.ShloMosaic.Lib.Pipeline.Value
public import Idealize.ShloMosaic.Lib.Pipeline.ValueKit.Tiles
public import Idealize.ShloMosaic.Lib.Pipeline.ValueKit.Acc
public import Idealize.ShloMosaic.Lib.Pipeline.ReadBack
public import Idealize.ShloMosaic.Lib.Tactic

@[expose] public section

set_option maxRecDepth 16384

noncomputable section

namespace Cert.RetIdeal.Block

open Idealize.ShloMosaic Idealize.ShloMosaic.TcCoe Cert.RetIdeal Cert.RetIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The blocks a head reads -/

/-- A head's columns of the queries or the keys. -/
def colQ {e : EltTy} (x : Vec F S256x1024 e) (h : Fin 4) : Vec F S256x256 e :=
  fun j => x (ix2 (j 0) ⟨h.val * 256 + (j 1).val, by have : (j 1).val < 256 := (j 1).isLt; omega⟩)
/-- A head's columns of the values or the gates. -/
def colV {e : EltTy} (x : Vec F S256x2048 e) (h : Fin 4) : Vec F S256x512 e :=
  fun j => x (ix2 (j 0) ⟨h.val * 512 + (j 1).val, by have : (j 1).val < 512 := (j 1).isLt; omega⟩)
/-- A head's rows of the output weight. -/
def rowsW {e : EltTy} (x : Vec F S2048x1024 e) (h : Fin 4) : Vec F S512x1024 e :=
  fun j => x (ix2 ⟨h.val * 512 + (j 0).val, by have : (j 0).val < 512 := (j 0).isLt; omega⟩ (j 1))
/-- A head's table. -/
def tab {e : EltTy} (x : Vec F S4x256x256 e) (h : Fin 4) : Vec F S1x256x256 e := fun j => x (ix3 h (j 1) (j 2))
/-- A head's state. -/
def tabS {e : EltTy} (x : Vec F S4x256x512 e) (h : Fin 4) : Vec F S1x256x512 e := fun j => x (ix3 h (j 1) (j 2))

theorem ld_colQ {e : EltTy} (x : Vec F S256x1024 e) (h : Fin 4) (o : ℕ) (inb) (ho : o = h.val * 256) :
    View.ld (Val := Elt F) x (Rect.unit ![0, o] ![256, 256] inb) = colQ x h :=
  funext fun j => View.ld_unit_apply_of x _ _ inb j _ fun a => by
    match a with
    | ⟨0, _⟩ => show (j 0).val = 0 + (j 0).val; omega
    | ⟨1, _⟩ => show h.val * 256 + (j 1).val = o + (j 1).val; omega
theorem ld_colV {e : EltTy} (x : Vec F S256x2048 e) (h : Fin 4) (o : ℕ) (inb) (ho : o = h.val * 512) :
    View.ld (Val := Elt F) x (Rect.unit ![0, o] ![256, 512] inb) = colV x h :=
  funext fun j => View.ld_unit_apply_of x _ _ inb j _ fun a => by
    match a with
    | ⟨0, _⟩ => show (j 0).val = 0 + (j 0).val; omega
    | ⟨1, _⟩ => show h.val * 512 + (j 1).val = o + (j 1).val; omega
theorem ld_rowsW {e : EltTy} (x : Vec F S2048x1024 e) (h : Fin 4) (o : ℕ) (inb) (ho : o = h.val * 512) :
    View.ld (Val := Elt F) x (Rect.unit ![o, 0] ![512, 1024] inb) = rowsW x h :=
  funext fun j => View.ld_unit_apply_of x _ _ inb j _ fun a => by
    match a with
    | ⟨0, _⟩ => show h.val * 512 + (j 0).val = o + (j 0).val; omega
    | ⟨1, _⟩ => show (j 1).val = 0 + (j 1).val; omega
theorem ld_tab {e : EltTy} (x : Vec F S4x256x256 e) (h : Fin 4) (o : ℕ) (inb) (ho : o = h.val) :
    View.ld (Val := Elt F) x (Rect.unit ![o, 0, 0] ![1, 256, 256] inb) = tab x h :=
  funext fun j => View.ld_unit_apply_of x _ _ inb j _ fun a => by
    match a with
    | ⟨0, _⟩ => show h.val = o + (j 0).val; have : (j 0).val < 1 := (j 0).isLt; omega
    | ⟨1, _⟩ => show (j 1).val = 0 + (j 1).val; omega
    | ⟨2, _⟩ => show (j 2).val = 0 + (j 2).val; omega
theorem ld_tabS {e : EltTy} (x : Vec F S4x256x512 e) (h : Fin 4) (o : ℕ) (inb) (ho : o = h.val) :
    View.ld (Val := Elt F) x (Rect.unit ![o, 0, 0] ![1, 256, 512] inb) = tabS x h :=
  funext fun j => View.ld_unit_apply_of x _ _ inb j _ fun a => by
    match a with
    | ⟨0, _⟩ => show h.val = o + (j 0).val; have : (j 0).val < 1 := (j 0).isLt; omega
    | ⟨1, _⟩ => show (j 1).val = 0 + (j 1).val; omega
    | ⟨2, _⟩ => show (j 2).val = 0 + (j 2).val; omega

/-! ## A block, all heads together -/

/-- The heads' decays over a block, as the kernel writes them. -/
def gl (h : Fin 4) : F .f32 :=
  ![Named.named κ "gl0" 0x399ACCA1#32, Named.named κ "gl1" 0x3C9160A5#32, Named.named κ "gl2" 0x3E097FCE#32,
    Named.named κ "gl3" 0x3EBBFC5D#32] h

/-- A head's state after the block. -/
def headS (k : Vec F S256x1024 .bf16) (v : Vec F S256x2048 .bf16) (zt : Vec F S4x256x256 .f32) (st : Vec F S4x256x512 .f32)
    (h : Fin 4) : FVec F S1x256x512 .f32 :=
  nextS (gl h) (colQ k h) (colV v h) (tab zt h) (tabS st h)

/-- The states after the block. -/
def stepS (k : Vec F S256x1024 .bf16) (v : Vec F S256x2048 .bf16) (zt : Vec F S4x256x256 .f32) (st : Vec F S4x256x512 .f32) :
    Vec F S4x256x512 .f32 :=
  fun j => headS k v zt st (j 0) (ix3 0 (j 1) (j 2))

theorem stepS_at (k : Vec F S256x1024 .bf16) (v : Vec F S256x2048 .bf16) (zt : Vec F S4x256x256 .f32) (st : Vec F S4x256x512 .f32)
    (h : Fin 4) (o : ℕ) (inb) (ho : o = h.val) (x : (⟨3, ![1, 256, 512]⟩ : Shape).Idx) :
    headS k v zt st h x = stepS k v zt st ((Rect.unit (s := S4x256x512) ![o, 0, 0] ![1, 256, 512] inb).emb x) := by
  have e0 : (Rect.unit (s := S4x256x512) ![o, 0, 0] ![1, 256, 512] inb).emb x = ix3 h (x 1) (x 2) := funext fun a => Fin.ext (by
    refine (Rect.idx_unit_val _ _ inb x a).trans ?_
    match a with
    | ⟨0, _⟩ => show o + (x 0).val = h.val; have : (x 0).val < 1 := (x 0).isLt; omega
    | ⟨1, _⟩ => show 0 + (x 1).val = (x 1).val; omega
    | ⟨2, _⟩ => show 0 + (x 2).val = (x 2).val; omega)
  rw [e0]
  show _ = headS k v zt st h (ix3 0 (x 1) (x 2))
  refine congrArg _ (funext fun a => ?_)
  match a with
  | ⟨0, _⟩ => exact Fin.ext (by show (x 0).val = 0; have : (x 0).val < 1 := (x 0).isLt; omega)
  | ⟨1, _⟩ => rfl
  | ⟨2, _⟩ => rfl

/-- What a head adds to the block of the output. -/
def headO (q k : Vec F S256x1024 .bf16) (v g : Vec F S256x2048 .bf16) (dm xi : Vec F S4x256x256 .f32) (w : Vec F S2048x1024 .bf16)
    (st : Vec F S4x256x512 .f32) (h : Fin 4) : FVec F S256x1024 .f32 :=
  part (readY (colQ q h) (colQ k h) (colV v h) (tab dm h) (tab xi h) (tabS st h)) (colV g h) (rowsW w h)

/-- The block of the output. -/
def stepO (q k : Vec F S256x1024 .bf16) (v g : Vec F S256x2048 .bf16) (dm xi : Vec F S4x256x256 .f32) (w : Vec F S2048x1024 .bf16)
    (x : Vec F S256x1024 .f32) (gate : Vec F S1x1x1024 .f32) (st : Vec F S4x256x512 .f32) : Vec F S256x1024 .f32 :=
  outB (addf (addf (addf (headO q k v g dm xi w st 0) (headO q k v g dm xi w st 1)) (headO q k v g dm xi w st 2))
    (headO q k v g dm xi w st 3)) x gate

/-! ## What the two kinds of points leave -/

/-- A head's state is read past the states of the other heads. -/
theorem skip_head {κ : Kind} {sp : Space} (v : View sig κ sp S4x256x512 .f32) (o o' : ℕ) (inb) (inb')
    (w : (⟨3, ![1, 256, 512]⟩ : Shape).Idx → Elt F .f32) (L : List (View.Piece (Elt F) S4x256x512 .f32)) (ho : o < o') :
    v.readCov (⟨Rect.unit ![o, 0, 0] ![1, 256, 512] inb, w⟩ :: L) (Rect.unit (s := S4x256x512) ![o', 0, 0] ![1, 256, 512] inb').toLoadRect
      = v.readCov L (Rect.unit (s := S4x256x512) ![o', 0, 0] ![1, 256, 512] inb').toLoadRect :=
  View.readCov_cons_of_disjoint v _ L _ (Finset.disjoint_left.mpr fun y hy hy' => by
    obtain ⟨x, hx⟩ := (Rect.unit (s := S4x256x512) ![o, 0, 0] ![1, 256, 512] inb).exists_idx_of_mem hy
    obtain ⟨x', hx'⟩ := (Rect.unit (s := S4x256x512) ![o', 0, 0] ![1, 256, 512] inb').exists_idx_of_mem hy'
    have e1 := Rect.idx_unit_val (s := S4x256x512) ![o, 0, 0] ![1, 256, 512] inb x (0 : Fin 3)
    have e2 := Rect.idx_unit_val (s := S4x256x512) ![o', 0, 0] ![1, 256, 512] inb' x' (0 : Fin 3)
    rw [hx] at e1
    rw [hx', e1] at e2
    have h1 : (x (0 : Fin 3)).val < 1 := (x (0 : Fin 3)).isLt
    have h2 : o + (x (0 : Fin 3)).val = o' + (x' (0 : Fin 3)).val := e2
    omega)

/-- Where nothing but the zero fill was stored, zeros are read. -/
theorem read_fill {κ : Kind} {sp : Space} (v : View sig κ sp S4x256x512 .f32) (o : ℕ) (inb) (inb') (Z : Vec F S4x256x512 .f32) :
    v.readCov [⟨Rect.unit ![0, 0, 0] ![4, 256, 512] inb, Z⟩] (Rect.unit (s := S4x256x512) ![o, 0, 0] ![1, 256, 512] inb').toLoadRect
      = View.ld (Val := Elt F) Z (Rect.unit ![o, 0, 0] ![1, 256, 512] inb') :=
  View.readCov_fill v inb Z [] _ (by decide)

theorem state_B (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S2048x1024 .bf16) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S256x1024 .f32) (harg12 : arg12.IsWhole) (arg13 : Memref sig .tc .vmem S4x256x512 .f32) (harg13 : arg13.IsWhole) (hc0 : ¬cond0_0 i)
    (x0 : Vec F S256x1024 .bf16) (x1 : Vec F S256x1024 .bf16) (x2 : Vec F S256x2048 .bf16) (x3 : Vec F S256x2048 .bf16) (x4 : Vec F S4x256x256 .f32) (x5 : Vec F S4x256x256 .f32) (x6 : Vec F S4x256x256 .f32) (x7 : Vec F S2048x1024 .bf16) (x8 : Vec F S256x1024 .f32) (x9 : Vec F S1x1x1024 .f32) (xs0 : Vec F S4x256x512 .f32) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 = stepS x1 x2 x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0)]
  have hc := scover0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0
  revert hc
  unfold kernelRun0_B
  dsimp only
  sl_unfold_words
  simp only [View.readAt_eq_ld, Memref.IsWhole.read_unread]
  simp only [ld_colQ _ 0 0 _ rfl, ld_colQ _ 1 256 _ rfl, ld_colQ _ 2 512 _ rfl, ld_colQ _ 3 768 _ rfl,
    ld_colV _ 0 0 _ rfl, ld_colV _ 1 512 _ rfl, ld_colV _ 2 1024 _ rfl, ld_colV _ 3 1536 _ rfl,
    ld_rowsW _ 0 0 _ rfl, ld_rowsW _ 1 512 _ rfl, ld_rowsW _ 2 1024 _ rfl, ld_rowsW _ 3 1536 _ rfl,
    ld_tab _ 0 0 _ rfl, ld_tab _ 1 1 _ rfl, ld_tab _ 2 2 _ rfl, ld_tab _ 3 3 _ rfl,
    ld_tabS _ 0 0 _ rfl, ld_tabS _ 1 1 _ rfl, ld_tabS _ 2 2 _ rfl, ld_tabS _ 3 3 _ rfl]
  intro hc
  funext y
  refine (View.canon_append_of_piecesOf _ [] [_, _, _, _] ⟨?_, ?_, ?_, ?_, trivial⟩ y ?_)
  · exact fun x => stepS_at _ _ _ _ 3 3 inb_S4x256x512_S1x256x512_3_0_0 rfl x
  · exact fun x => stepS_at _ _ _ _ 2 2 inb_S4x256x512_S1x256x512_2_0_0 rfl x
  · exact fun x => stepS_at _ _ _ _ 1 1 inb_S4x256x512_S1x256x512_1_0_0 rfl x
  · exact fun x => stepS_at _ _ _ _ 0 0 inb_S4x256x512_S1x256x512_0_0_0 rfl x
  · exact hc y

theorem out_B (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S2048x1024 .bf16) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S256x1024 .f32) (harg12 : arg12.IsWhole) (arg13 : Memref sig .tc .vmem S4x256x512 .f32) (harg13 : arg13.IsWhole) (hc0 : ¬cond0_0 i)
    (x0 : Vec F S256x1024 .bf16) (x1 : Vec F S256x1024 .bf16) (x2 : Vec F S256x2048 .bf16) (x3 : Vec F S256x2048 .bf16) (x4 : Vec F S4x256x256 .f32) (x5 : Vec F S4x256x256 .f32) (x6 : Vec F S4x256x256 .f32) (x7 : Vec F S2048x1024 .bf16) (x8 : Vec F S256x1024 .f32) (x9 : Vec F S1x1x1024 .f32) (xs0 : Vec F S4x256x512 .f32) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 = stepO x0 x1 x2 x3 x4 x5 x7 x8 x9 xs0 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0)]
  unfold kernelRun0_B
  dsimp only
  sl_unfold_words
  simp only [View.readAt_eq_ld, Memref.IsWhole.read_unread]
  simp only [ld_colQ _ 0 0 _ rfl, ld_colQ _ 1 256 _ rfl, ld_colQ _ 2 512 _ rfl, ld_colQ _ 3 768 _ rfl,
    ld_colV _ 0 0 _ rfl, ld_colV _ 1 512 _ rfl, ld_colV _ 2 1024 _ rfl, ld_colV _ 3 1536 _ rfl,
    ld_rowsW _ 0 0 _ rfl, ld_rowsW _ 1 512 _ rfl, ld_rowsW _ 2 1024 _ rfl, ld_rowsW _ 3 1536 _ rfl,
    ld_tab _ 0 0 _ rfl, ld_tab _ 1 1 _ rfl, ld_tab _ 2 2 _ rfl, ld_tab _ 3 3 _ rfl,
    ld_tabS _ 0 0 _ rfl, ld_tabS _ 1 1 _ rfl, ld_tabS _ 2 2 _ rfl, ld_tabS _ 3 3 _ rfl]
  rw [View.canon_cons_unit_lit _ _ _ (by decide), View.ld_unit_lit _ x8 (by decide), View.ld_unit_lit _ x9 (by decide)]
  rfl

theorem state_A (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S2048x1024 .bf16) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S256x1024 .f32) (harg12 : arg12.IsWhole) (arg13 : Memref sig .tc .vmem S4x256x512 .f32) (harg13 : arg13.IsWhole) (hc0 : cond0_0 i)
    (x0 : Vec F S256x1024 .bf16) (x1 : Vec F S256x1024 .bf16) (x2 : Vec F S256x2048 .bf16) (x3 : Vec F S256x2048 .bf16) (x4 : Vec F S4x256x256 .f32) (x5 : Vec F S4x256x256 .f32) (x6 : Vec F S4x256x256 .f32) (x7 : Vec F S2048x1024 .bf16) (x8 : Vec F S256x1024 .f32) (x9 : Vec F S1x1x1024 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = stepS x1 x2 x6 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  have hc := scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9
  revert hc
  unfold kernelRun0_A
  dsimp only
  sl_unfold_words
  simp only [↓skip_head _ 0 1 _ _ _ _ (show 0 < 1 by decide), ↓skip_head _ 0 2 _ _ _ _ (show 0 < 2 by decide), ↓skip_head _ 0 3 _ _ _ _ (show 0 < 3 by decide), ↓skip_head _ 1 2 _ _ _ _ (show 1 < 2 by decide), ↓skip_head _ 1 3 _ _ _ _ (show 1 < 3 by decide), ↓skip_head _ 2 3 _ _ _ _ (show 2 < 3 by decide), read_fill]
  simp only [View.readAt_eq_ld, Memref.IsWhole.read_unread]
  simp only [ld_colQ _ 0 0 _ rfl, ld_colQ _ 1 256 _ rfl, ld_colQ _ 2 512 _ rfl, ld_colQ _ 3 768 _ rfl,
    ld_colV _ 0 0 _ rfl, ld_colV _ 1 512 _ rfl, ld_colV _ 2 1024 _ rfl, ld_colV _ 3 1536 _ rfl,
    ld_rowsW _ 0 0 _ rfl, ld_rowsW _ 1 512 _ rfl, ld_rowsW _ 2 1024 _ rfl, ld_rowsW _ 3 1536 _ rfl,
    ld_tab _ 0 0 _ rfl, ld_tab _ 1 1 _ rfl, ld_tab _ 2 2 _ rfl, ld_tab _ 3 3 _ rfl,
    ld_tabS _ 0 0 _ rfl, ld_tabS _ 1 1 _ rfl, ld_tabS _ 2 2 _ rfl, ld_tabS _ 3 3 _ rfl]
  intro hc
  funext y
  refine View.canon_append_of_piecesOf _ [_] [_, _, _, _] ⟨?_, ?_, ?_, ?_, trivial⟩ y ?_
  · exact fun x => stepS_at _ _ _ _ 3 3 inb_S4x256x512_S1x256x512_3_0_0 rfl x
  · exact fun x => stepS_at _ _ _ _ 2 2 inb_S4x256x512_S1x256x512_2_0_0 rfl x
  · exact fun x => stepS_at _ _ _ _ 1 1 inb_S4x256x512_S1x256x512_1_0_0 rfl x
  · exact fun x => stepS_at _ _ _ _ 0 0 inb_S4x256x512_S1x256x512_0_0_0 rfl x
  · exact View.cover_of_tiledL (s := S4x256x512) _ S1x256x512.size (by sl_kernel_rfl) y

theorem out_A (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S2048x1024 .bf16) (harg9 : arg9.IsWhole) (arg10 : Memref sig .tc .vmem S256x1024 .f32) (harg10 : arg10.IsWhole) (arg11 : Memref sig .tc .vmem S1x1x1024 .f32) (harg11 : arg11.IsWhole) (arg12 : Memref sig .tc .vmem S256x1024 .f32) (harg12 : arg12.IsWhole) (arg13 : Memref sig .tc .vmem S4x256x512 .f32) (harg13 : arg13.IsWhole) (hc0 : cond0_0 i)
    (x0 : Vec F S256x1024 .bf16) (x1 : Vec F S256x1024 .bf16) (x2 : Vec F S256x2048 .bf16) (x3 : Vec F S256x2048 .bf16) (x4 : Vec F S4x256x256 .f32) (x5 : Vec F S4x256x256 .f32) (x6 : Vec F S4x256x256 .f32) (x7 : Vec F S2048x1024 .bf16) (x8 : Vec F S256x1024 .f32) (x9 : Vec F S1x1x1024 .f32) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = stepO x0 x1 x2 x3 x4 x5 x7 x8 x9 (k0_pay2 (F := F)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A
  dsimp only
  sl_unfold_words
  simp only [↓skip_head _ 0 1 _ _ _ _ (show 0 < 1 by decide), ↓skip_head _ 0 2 _ _ _ _ (show 0 < 2 by decide), ↓skip_head _ 0 3 _ _ _ _ (show 0 < 3 by decide), ↓skip_head _ 1 2 _ _ _ _ (show 1 < 2 by decide), ↓skip_head _ 1 3 _ _ _ _ (show 1 < 3 by decide), ↓skip_head _ 2 3 _ _ _ _ (show 2 < 3 by decide), read_fill]
  simp only [View.readAt_eq_ld, Memref.IsWhole.read_unread]
  simp only [ld_colQ _ 0 0 _ rfl, ld_colQ _ 1 256 _ rfl, ld_colQ _ 2 512 _ rfl, ld_colQ _ 3 768 _ rfl,
    ld_colV _ 0 0 _ rfl, ld_colV _ 1 512 _ rfl, ld_colV _ 2 1024 _ rfl, ld_colV _ 3 1536 _ rfl,
    ld_rowsW _ 0 0 _ rfl, ld_rowsW _ 1 512 _ rfl, ld_rowsW _ 2 1024 _ rfl, ld_rowsW _ 3 1536 _ rfl,
    ld_tab _ 0 0 _ rfl, ld_tab _ 1 1 _ rfl, ld_tab _ 2 2 _ rfl, ld_tab _ 3 3 _ rfl,
    ld_tabS _ 0 0 _ rfl, ld_tabS _ 1 1 _ rfl, ld_tabS _ 2 2 _ rfl, ld_tabS _ 3 3 _ rfl]
  rw [View.canon_cons_unit_lit _ _ _ (by decide), View.ld_unit_lit _ x8 (by decide), View.ld_unit_lit _ x9 (by decide)]
  rfl

end Cert.RetIdeal.Block

end
-- ==== Proof.Ret.Kernel.lean ====
/- One block of the retention kernel over real queries, keys and values: from the states before the block it leaves the states after
   it, and its block of the layer's result. -/
module

public import proofs.«01_k».proof.Proof.Ret.Case

@[expose] public section

set_option maxRecDepth 16384

noncomputable section

namespace Cert.RetIdeal.Block

open Idealize.ShloMosaic Idealize.ShloMosaic.TcCoe
open Cert.RetIdeal Cert.RetIdeal.Gen Cert.Ret.Decay Cert.Ret.Consts Cert.Ret.Inputs

/-- The decay over a whole block of 256 positions is the named constant. -/
theorem gl_eq (h : Fin 4) : (gl h : Ideal .f32) = ((decay h ^ 256 : ℝ) : EReal) := by
  fin_cases h
  · exact (IdealRules.named_const.ideal_named_scalar _ _ _ _ rfl).trans (congrArg _ (by norm_num [decay]))
  · exact (IdealRules.named_const.ideal_named_scalar _ _ _ _ rfl).trans (congrArg _ (by norm_num [decay]))
  · exact (IdealRules.named_const.ideal_named_scalar _ _ _ _ rfl).trans (congrArg _ (by norm_num [decay]))
  · exact (IdealRules.named_const.ideal_named_scalar _ _ _ _ rfl).trans (congrArg _ (by norm_num [decay]))

/-- The states a sequence starts from. -/
theorem pay2_apply (h : Fin 4) (d : Fin 256) (e : Fin 512) : (k0_pay2 : FVec Ideal S4x256x512 .f32) (ix3 h d e) = 0 := by
  unfold_payloads
  pointwise

/-- The array's row of a block's row. -/
def row (b : Fin 2) (I : ℕ) (hI : I < 32) (r : Fin 256) : Fin 16384 := ⟨b.val * 8192 + (256 * I + r.val), by omega⟩

variable {q k : (⟨2, ![16384, 1024]⟩ : Shape).Idx → EReal} {v : (⟨2, ![16384, 2048]⟩ : Shape).Idx → EReal}
  (hq : Real' q) (hk : Real' k) (hv : Real' v) (b : Fin 2) (I : ℕ) (hI : I < 32)
  {x0 x1 : Vec Ideal S256x1024 .bf16} {x2 x3 : Vec Ideal S256x2048 .bf16} {x4 x5 x6 : Vec Ideal S4x256x256 .f32}
  {x7 : Vec Ideal S2048x1024 .bf16} {x8 : Vec Ideal S256x1024 .f32} {x9 : Vec Ideal S1x1x1024 .f32} {st : Vec Ideal S4x256x512 .f32}

include hk hv in
theorem stepS_state (h1 : ∀ r u, x1 (ix2 r u) = k (ix2 (row b I hI r) u)) (h2 : ∀ r u, x2 (ix2 r u) = v (ix2 (row b I hI r) u))
    (h6 : ∀ h j d, x6 (ix3 h j d) = ((decay h ^ (255 - j.val) : ℝ) : EReal))
    (hst : ∀ h d e, st (ix3 h d e) = ((state k v b h (256 * I) d e : ℝ) : EReal)) (h : Fin 4) (d : Fin 256) (e : Fin 512) :
    stepS x1 x2 x6 st (ix3 h d e) = ((state k v b h (256 * (I + 1)) d e : ℝ) : EReal) := by
  have hk' : ∀ j : Fin 256, colQ x1 h (ix2 j d) = ((key k b h (256 * I + j.val) d : ℝ) : EReal) := fun j =>
    (h1 j _).trans (key_eq hk b h _ d _ _ rfl rfl)
  have hv' : ∀ j : Fin 256, colV x2 h (ix2 j e) = ((value v b h e (256 * I + j.val) : ℝ) : EReal) := fun j =>
    (h2 j _).trans (value_eq hv b h _ e _ _ rfl rfl)
  have hz' : ∀ j : Fin 256, tab x6 h (ix3 0 j d) = ((decay h ^ (255 - j.val) : ℝ) : EReal) := fun j => h6 h j d
  have hs' : tabS st h (ix3 0 d e) = ((state k v b h (256 * I) d e : ℝ) : EReal) := hst h d e
  refine (nextS_apply (gl h) (colQ x1 h) (colV x2 h) (tab x6 h) (tabS st h) d e).trans ?_
  rw [hs', gl_eq, Finset.sum_congr rfl fun j _ => show (colQ x1 h (ix2 j d) * tab x6 h (ix3 0 j d)) * colV x2 h (ix2 j e)
      = (((key k b h (256 * I + j.val) d * decay h ^ (255 - j.val)) * value v b h e (256 * I + j.val) : ℝ) : EReal) by
    rw [hk', hv', hz', EReal.coe_mul, EReal.coe_mul], ← coe_sum, ← EReal.coe_mul, ← EReal.coe_add]
  exact congrArg _ (carry_block (decay h) (key k b h) (value v b h e) (256 * I) 256 d).symm

include hq hk hv in
theorem readY_retained (h0 : ∀ r u, x0 (ix2 r u) = q (ix2 (row b I hI r) u)) (h1 : ∀ r u, x1 (ix2 r u) = k (ix2 (row b I hI r) u))
    (h2 : ∀ r u, x2 (ix2 r u) = v (ix2 (row b I hI r) u))
    (h4 : ∀ h i j, x4 (ix3 h i j) = ((mask (decay h) i.val j.val : ℝ) : EReal))
    (h5 : ∀ h i d, x5 (ix3 h i d) = ((decay h ^ (i.val + 1) : ℝ) : EReal))
    (hst : ∀ h d e, st (ix3 h d e) = ((state k v b h (256 * I) d e : ℝ) : EReal)) (h : Fin 4) (r : Fin 256) (e : Fin 512) :
    readY (F := Ideal) (colQ x0 h) (colQ x1 h) (colV x2 h) (tab x4 h) (tab x5 h) (tabS st h) (ix2 r e)
      = ((retained q k v b h (256 * I + r.val) e : ℝ) : EReal) := by
  have hq' : ∀ d : Fin 256, colQ x0 h (ix2 r d) = ((key q b h (256 * I + r.val) d : ℝ) : EReal) := fun d =>
    (h0 r _).trans (key_eq hq b h _ d _ _ rfl rfl)
  have hk' : ∀ (j d : Fin 256), colQ x1 h (ix2 j d) = ((key k b h (256 * I + j.val) d : ℝ) : EReal) := fun j d =>
    (h1 j _).trans (key_eq hk b h _ d _ _ rfl rfl)
  have hv' : ∀ j : Fin 256, colV x2 h (ix2 j e) = ((value v b h e (256 * I + j.val) : ℝ) : EReal) := fun j =>
    (h2 j _).trans (value_eq hv b h _ e _ _ rfl rfl)
  have hm' : ∀ j : Fin 256, tab x4 h (ix3 0 r j) = ((mask (decay h) r.val j.val : ℝ) : EReal) := fun j => h4 h r j
  have hx' : ∀ d : Fin 256, tab x5 h (ix3 0 r d) = ((decay h ^ (r.val + 1) : ℝ) : EReal) := fun d => h5 h r d
  have hs' : ∀ d : Fin 256, tabS st h (ix3 0 d e) = ((state k v b h (256 * I) d e : ℝ) : EReal) := fun d => hst h d e
  have hs : ∀ j : Fin 256, (∑ d : Fin 256, colQ x0 h (ix2 r d) * colQ x1 h (ix2 j d) : EReal)
      = ((∑ d : Fin 256, key q b h (256 * I + r.val) d * key k b h (256 * I + j.val) d : ℝ) : EReal) := fun j => by
    rw [coe_sum]; exact Finset.sum_congr rfl fun d _ => by rw [hq', hk', EReal.coe_mul]
  refine (readY_apply (colQ x0 h) (colQ x1 h) (colV x2 h) (tab x4 h) (tab x5 h) (tabS st h) r e).trans ?_
  rw [Finset.sum_congr rfl fun j _ => show ((∑ d : Fin 256, colQ x0 h (ix2 r d) * colQ x1 h (ix2 j d)) * tab x4 h (ix3 0 r j)) * colV x2 h (ix2 j e)
      = ((((∑ d : Fin 256, key q b h (256 * I + r.val) d * key k b h (256 * I + j.val) d) * mask (decay h) r.val j.val)
          * value v b h e (256 * I + j.val) : ℝ) : EReal) by rw [hs, hv', hm', EReal.coe_mul, EReal.coe_mul],
    Finset.sum_congr rfl fun d _ => show (colQ x0 h (ix2 r d) * tab x5 h (ix3 0 r d)) * tabS st h (ix3 0 d e)
      = (((key q b h (256 * I + r.val) d * decay h ^ (r.val + 1)) * state k v b h (256 * I) d e : ℝ) : EReal) by
        rw [hq', hx', hs', EReal.coe_mul, EReal.coe_mul], ← coe_sum, ← coe_sum, ← EReal.coe_add]
  have hb := ret_block (decay h) (key q b h) (key k b h) (value v b h e) (4 * I) 4 r.val (by omega)
  rw [show 64 * (4 * I) = 256 * I by ring] at hb
  exact congrArg _ hb.symm

include hq hk hv in
theorem stepO_layer {g : (⟨2, ![16384, 2048]⟩ : Shape).Idx → EReal}
    {w : (⟨2, ![2048, 1024]⟩ : Shape).Idx → EReal} {x : (⟨2, ![16384, 1024]⟩ : Shape).Idx → EReal}
    {gate : (⟨3, ![2, 1, 1024]⟩ : Shape).Idx → EReal}
    (h0 : ∀ r u, x0 (ix2 r u) = q (ix2 (row b I hI r) u)) (h1 : ∀ r u, x1 (ix2 r u) = k (ix2 (row b I hI r) u))
    (h2 : ∀ r u, x2 (ix2 r u) = v (ix2 (row b I hI r) u)) (h3 : ∀ r u, x3 (ix2 r u) = g (ix2 (row b I hI r) u))
    (h4 : ∀ h i j, x4 (ix3 h i j) = ((mask (decay h) i.val j.val : ℝ) : EReal))
    (h5 : ∀ h i d, x5 (ix3 h i d) = ((decay h ^ (i.val + 1) : ℝ) : EReal))
    (h7 : ∀ e n, x7 (ix2 e n) = w (ix2 e n)) (h8 : ∀ r u, x8 (ix2 r u) = x (ix2 (row b I hI r) u))
    (h9 : ∀ u, x9 (ix3 0 0 u) = gate (ix3 b 0 u))
    (hst : ∀ h d e, st (ix3 h d e) = ((state k v b h (256 * I) d e : ℝ) : EReal)) (r : Fin 256) (n : Fin 1024) :
    stepO x0 x1 x2 x3 x4 x5 x7 x8 x9 st (ix2 r n)
      = layer (fun t h e => ((retained q k v ⟨t.val / 8192, by omega⟩ h (t.val % 8192) e : ℝ) : EReal)) g w x gate (row b I hI r) n := by
  have hy : ∀ (h : Fin 4) (e : Fin 512), _ := readY_retained hq hk hv b I hI h0 h1 h2 h4 h5 hst (r := r)
  have e1 : (⟨(row b I hI r).val / 8192, by have := (row b I hI r).isLt; omega⟩ : Fin 2) = b := Fin.ext (by
    show (b.val * 8192 + (256 * I + r.val)) / 8192 = b.val; omega)
  have e2 : (row b I hI r).val % 8192 = 256 * I + r.val := by
    show (b.val * 8192 + (256 * I + r.val)) % 8192 = _; omega
  have hp : ∀ h : Fin 4, headO x0 x1 x2 x3 x4 x5 x7 st h (ix2 r n)
      = ∑ e : Fin 512, gateRow (fun e => g (ix2 (row b I hI r) ⟨h.val * 512 + e.val, by omega⟩))
          (fun e => ((retained q k v b h (256 * I + r.val) e : ℝ) : EReal)) e * w (ix2 ⟨h.val * 512 + e.val, by omega⟩ n) := fun h => by
    refine (part_apply _ (colV x3 h) (rowsW x7 h) r n).trans (Finset.sum_congr rfl fun e _ => ?_)
    rw [funext fun e => hy h e]
    refine congrArg₂ (· * ·) (congrArg (fun f => gateRow f _ e) (funext fun e => ?_)) ?_
    · exact h3 r _
    · exact h7 _ _
  refine (outB_apply _ x8 x9 r n).trans ?_
  show x8 (ix2 r n) + x9 (ix3 0 0 n) * (((headO x0 x1 x2 x3 x4 x5 x7 st 0 (ix2 r n) + headO x0 x1 x2 x3 x4 x5 x7 st 1 (ix2 r n))
    + headO x0 x1 x2 x3 x4 x5 x7 st 2 (ix2 r n)) + headO x0 x1 x2 x3 x4 x5 x7 st 3 (ix2 r n)) = _
  rw [hp 0, hp 1, hp 2, hp 3, h8, h9]
  unfold layer
  rw [Fin.sum_univ_four]
  simp only [e1, e2]

end Cert.RetIdeal.Block
-- ==== Proof.Ret.Points.lean ====
/- The points of the retention kernel one after another: the states each leaves, and the block of the result each writes. -/
module

public import proofs.«01_k».proof.Proof.Ret.Blocks
public import proofs.«01_k».proof.Proof.Ret.Kernel

@[expose] public section

set_option maxRecDepth 16384

noncomputable section

namespace Cert.RetIdeal.Block

open Idealize.ShloMosaic Idealize.ShloMosaic.TcCoe
open Cert.RetIdeal Cert.RetIdeal.Gen Cert.RetIdeal.Value Cert.Ret.Decay Cert.Ret.Consts Cert.Ret.Inputs

variable (m : (ℓ : Loc nD τ sig) → Buf (Elt Ideal) ℓ) (c : Dev nD)

/-- The arguments of the call, as arrays of extended reals. -/
abbrev aq : (⟨2, ![16384, 1024]⟩ : Shape).Idx → EReal := m ((c.tc : Thread nD τ).loc main_arg0)
abbrev ak : (⟨2, ![16384, 1024]⟩ : Shape).Idx → EReal := m ((c.tc : Thread nD τ).loc main_arg1)
abbrev av : (⟨2, ![16384, 2048]⟩ : Shape).Idx → EReal := m ((c.tc : Thread nD τ).loc main_arg2)
abbrev ag : (⟨2, ![16384, 2048]⟩ : Shape).Idx → EReal := m ((c.tc : Thread nD τ).loc main_arg3)
abbrev aw : (⟨2, ![2048, 1024]⟩ : Shape).Idx → EReal := m ((c.tc : Thread nD τ).loc main_arg4)
abbrev ax : (⟨2, ![16384, 1024]⟩ : Shape).Idx → EReal := m ((c.tc : Thread nD τ).loc main_arg5)
abbrev agate : (⟨3, ![2, 1, 1024]⟩ : Shape).Idx → EReal := m ((c.tc : Thread nD τ).loc main_arg6)

/-- The sequence a point works in. -/
def seq (t : Fin cfg0.N) : Fin 2 := ⟨t.val / 32, by have := lt_of_lt_of_eq t.isLt N_0; omega⟩

theorem in_seq (t : Fin cfg0.N) : t.val % 32 < 32 := Nat.mod_lt _ (by norm_num)

theorem row_seq (t : Fin cfg0.N) (r : Fin 256) : (row (seq t) (t.val % 32) (in_seq t) r).val = t.val * 256 + r.val := by
  show t.val / 32 * 8192 + (256 * (t.val % 32) + r.val) = _
  omega

variable (hq : Real' (aq m c)) (hk : Real' (ak m c)) (hv : Real' (av m c))

/-- The layer's result as the kernel's arguments determine it. -/
def resultAt (t : Fin 16384) (n : Fin 1024) : EReal :=
  layer (fun t h e => ((retained (aq m c) (ak m c) (av m c) ⟨t.val / 8192, by omega⟩ h (t.val % 8192) e : ℝ) : EReal))
    (ag m c) (aw m c) (ax m c) (agate m c) t n

/-- The states after a point. -/
def Carried (t : Fin cfg0.N) (st : Vec Ideal S4x256x512 .f32) (I : ℕ) : Prop :=
  ∀ h d e, st (ix3 h d e) = ((state (ak m c) (av m c) (seq t) h (256 * I) d e : ℝ) : EReal)

theorem start_carried (t : Fin cfg0.N) : Carried m c t (k0_pay2 : FVec Ideal S4x256x512 .f32) 0 := fun h d e => by
  rw [pay2_apply, state, mul_zero, carry_zero, EReal.coe_zero]

include hk hv in
theorem next_carried (t : Fin cfg0.N) (st : Vec Ideal S4x256x512 .f32) (hst : Carried m c t st (t.val % 32)) :
    Carried m c t (stepS (iblk m c 1 t) (iblk m c 2 t) (iblk m c 6 t) st) (t.val % 32 + 1) :=
  stepS_state hk hv (seq t) (t.val % 32) (in_seq t) (fun r u => blk_k m c t r u _ (row_seq t r)) (fun r u => blk_v m c t r u _ (row_seq t r))
    (fun h j d => blk_zt m c t h j d) hst

include hq hk hv in
theorem block_result (t : Fin cfg0.N) (st : Vec Ideal S4x256x512 .f32) (hst : Carried m c t st (t.val % 32)) (r : Fin 256) (n : Fin 1024) :
    stepO (iblk m c 0 t) (iblk m c 1 t) (iblk m c 2 t) (iblk m c 3 t) (iblk m c 4 t) (iblk m c 5 t) (iblk m c 7 t) (iblk m c 8 t)
      (iblk m c 9 t) st (ix2 r n) = resultAt m c (row (seq t) (t.val % 32) (in_seq t) r) n :=
  stepO_layer hq hk hv (seq t) (t.val % 32) (in_seq t) (fun r u => blk_q m c t r u _ (row_seq t r)) (fun r u => blk_k m c t r u _ (row_seq t r))
    (fun r u => blk_v m c t r u _ (row_seq t r)) (fun r u => blk_g m c t r u _ (row_seq t r)) (fun h i j => blk_dm m c t h i j)
    (fun h i d => blk_xi m c t h i d) (fun e n => blk_w m c t e n) (fun r u => blk_x m c t r u _ (row_seq t r))
    (fun u => blk_gate m c t u (seq t) rfl) hst r n

/-- What a point leaves: the states after its block, and its block of the result. -/
def Left (t : Fin cfg0.N) (acc : Vec Ideal S256x1024 .f32 × Vec Ideal S4x256x512 .f32) : Prop :=
  Carried m c t acc.2 (t.val % 32 + 1) ∧ ∀ r n, acc.1 (ix2 r n) = resultAt m c (row (seq t) (t.val % 32) (in_seq t) r) n

include hq hk hv in
theorem point_first (t : Fin cfg0.N) (acc) (h0 : t.val % 32 = 0) : Left m c t (stAt0 m c t.val t.isLt acc) := by
  have hs := start_carried m c t
  rw [← h0] at hs
  rw [stAt0_A m c t acc h0]
  constructor
  · dsimp only
    rw [state_A]
    exact next_carried m c hk hv t _ hs
  · dsimp only
    rw [out_A]
    exact block_result m c hq hk hv t _ hs

include hq hk hv in
theorem point_next (t : Fin cfg0.N) (acc : Vec Ideal S256x1024 .f32 × Vec Ideal S4x256x512 .f32) (h0 : ¬ t.val % 32 = 0)
    (hs : Carried m c t acc.2 (t.val % 32)) : Left m c t (stAt0 m c t.val t.isLt acc) := by
  rw [stAt0_B m c t acc h0]
  constructor
  · dsimp only
    rw [state_B]
    exact next_carried m c hk hv t _ hs
  · dsimp only
    rw [out_B]
    exact block_result m c hq hk hv t _ hs

include hq hk hv in
theorem left : ∀ (n : ℕ) (hn : n < cfg0.N), Left m c ⟨n, hn⟩ (outsAt0 m c n hn)
  | 0, hn => by rw [outsAt0_zero]; exact point_first m c hq hk hv ⟨0, hn⟩ _ rfl
  | n + 1, hn => by
    rw [outsAt0_succ]
    by_cases h0 : (n + 1) % 32 = 0
    · exact point_first m c hq hk hv ⟨n + 1, hn⟩ _ h0
    · refine point_next m c hq hk hv ⟨n + 1, hn⟩ _ h0 fun h d e => ?_
      have hl := (left n (Nat.lt_of_succ_lt hn)).1 h d e
      rw [hl]
      have e1 : seq ⟨n, Nat.lt_of_succ_lt hn⟩ = seq ⟨n + 1, hn⟩ := Fin.ext (by show n / 32 = (n + 1) / 32; omega)
      have e2 : n % 32 + 1 = (n + 1) % 32 := by omega
      show ((state _ _ (seq ⟨n, _⟩) h (256 * (n % 32 + 1)) d e : ℝ) : EReal) = ((state _ _ (seq ⟨n + 1, hn⟩) h (256 * ((n + 1) % 32)) d e : ℝ) : EReal)
      rw [e1, e2]

include hq hk hv in
/-- The array the kernel leaves is the layer's result. -/
theorem array_result (t : Fin 16384) (n : Fin 1024) : (G10 m c : Vec Ideal S16384x1024 .f32) (ix2 t n) = resultAt m c t n := by
  have hp : pt10Of (ix2 t n) = t.val / 256 := by
    show 1 * (t.val / 256 - 0) + 1 * (n.val / 1024 - 0) = t.val / 256
    omega
  have ht : t.val / 256 < cfg0.N := lt_of_lt_of_eq (show t.val / 256 < 64 by omega) N_0.symm
  have hlt : pt10Of (ix2 t n) < cfg0.N := lt_of_eq_of_lt hp ht
  refine (dif_pos hlt).trans ?_
  have hl := (left m c hq hk hv _ hlt).2 ⟨t.val % 256, Nat.mod_lt _ (by norm_num)⟩ n
  rw [outsAt0_sweep] at hl
  refine Eq.trans (congrArg _ (funext fun a => ?_)) (hl.trans (congrArg (fun T => resultAt m c T n) (Fin.ext ?_)))
  · match a with
    | ⟨0, _⟩ => rfl
    | ⟨1, _⟩ => exact Fin.ext (Nat.mod_eq_of_lt n.isLt)
  · rw [row_seq]
    show pt10Of (ix2 t n) * 256 + t.val % 256 = t.val
    rw [hp]; omega

end Cert.RetIdeal.Block

end
-- ==== Proof.Ret.Ref.lean ====
/- The retention's reference read place by place: its tables of decays, and what one trip of its loop computes from the trip's
   chunk of queries, keys and values and from the state before it. -/
module

public import proofs.«01_k».proof.Proof.Gen.RetRefIdeal.Step
public import proofs.«01_k».proof.Proof.Ret.Consts
public import Idealize.ShloMosaic.Lib.Pointwise

@[expose] public section

set_option maxRecDepth 16384

noncomputable section

namespace Cert.RetRefIdeal.Step

open Idealize.ShloMosaic Cert.RetRefIdeal Cert.RetRefIdeal.Gen Cert.Ret.Consts

/-! ## The tables -/

theorem log_apply (h : Fin 4) : K_main_v13 (F := Ideal) (ix1 h) = ((Real.log (decay h) : ℝ) : EReal) := by
  refine Eq.trans ?_ (log_decay h _ (sitofp_word h.val (by omega)))
  pointwise [K_main_v13, K_main_v12, K_main_v11, K_main_v10, K_main_v9, K_main_v8, K_main_v7, K_main_v6, K_main_cst, K_main_cst_0,
    K_main_cst_1]

/-- Inside a chunk the reference decays by the distance of the two positions. -/
theorem intra_apply (h : Fin 4) (i j : Fin 64) :
    K_main_v26 (F := Ideal) (ix3 h i j) = ((decay h ^ ((i.val - j.val) + (j.val - i.val)) : ℝ) : EReal) := by
  have e : K_main_v26 (F := Ideal) (ix3 h i j)
      = Ideal.exp (K_main_v13 (F := Ideal) (ix1 h)
        * FloatOps.absf ((FloatOps.sitofp .f32 (BitVec.ofNat 32 i.val) : Ideal .f32) - (FloatOps.sitofp .f32 (BitVec.ofNat 32 j.val) : Ideal .f32))) := by
    pointwise [K_main_v26, K_main_v25, K_main_v24, K_main_v23, K_main_v22, K_main_v21, K_main_v20, K_main_v19, K_main_v18, K_main_v17,
      K_main_v16, K_main_v15, K_main_v14]
  rw [e, log_apply, sitofp_word _ (by omega), sitofp_word _ (by omega)]
  rw [show (FloatOps.absf ((((i.val : ℝ) : EReal) - ((j.val : ℝ) : EReal) : EReal) : Ideal .f32) : Ideal .f32)
      = ((|(i.val : ℝ) - (j.val : ℝ)| : ℝ) : EReal) from ?_]
  · refine ideal_exp_log_mul h _ _ ?_
    rcases le_total i.val j.val with hij | hij
    · rw [Nat.sub_eq_zero_of_le hij, Nat.zero_add, Nat.cast_sub hij, abs_sub_comm]
      exact abs_of_nonneg (sub_nonneg.mpr (Nat.cast_le.mpr hij))
    · rw [Nat.sub_eq_zero_of_le hij, Nat.add_zero, Nat.cast_sub hij]
      exact abs_of_nonneg (sub_nonneg.mpr (Nat.cast_le.mpr hij))
  · rw [Ideal.absf_def, ← EReal.coe_sub, ← EReal.coe_neg]
    exact (EReal.coe_strictMono.monotone.map_max (a := (i.val : ℝ) - j.val) (b := -((i.val : ℝ) - j.val))).symm

theorem xi_apply (h : Fin 4) (i : Fin 64) : K_main_v34 (F := Ideal) (ix2 i h) = ((decay h ^ (i.val + 1) : ℝ) : EReal) := by
  have e : K_main_v34 (F := Ideal) (ix2 i h)
      = Ideal.exp (K_main_v13 (F := Ideal) (ix1 h) * ((FloatOps.sitofp .f32 (BitVec.ofNat 32 i.val) : Ideal .f32) + 1)) := by
    pointwise [K_main_v34, K_main_v33, K_main_v32, K_main_v31, K_main_v30, K_main_v29, K_main_v28, K_main_v27, K_main_cst_2, K_main_v14]
  rw [e, log_apply, sitofp_word _ (by omega)]
  refine ideal_exp_log_mul h ((i.val : ℝ) + 1) (i.val + 1) ?_
  push_cast; rfl

theorem zeta_apply (h : Fin 4) (j : Fin 64) : K_main_v42 (F := Ideal) (ix2 j h) = ((decay h ^ (64 - 1 - j.val) : ℝ) : EReal) := by
  have e : K_main_v42 (F := Ideal) (ix2 j h)
      = Ideal.exp (K_main_v13 (F := Ideal) (ix1 h) * (Ideal.ofBits .f32 0x427C0000#32 - (FloatOps.sitofp .f32 (BitVec.ofNat 32 j.val) : Ideal .f32))) := by
    pointwise [K_main_v42, K_main_v41, K_main_v40, K_main_v39, K_main_v38, K_main_v37, K_main_v36, K_main_v35, K_main_cst_3, K_main_v14]
  rw [e, log_apply, sitofp_word _ (by omega), w_63, ← EReal.coe_sub]
  refine ideal_exp_log_mul h _ (64 - 1 - j.val) ?_
  rw [Nat.cast_sub (by omega)]; norm_num

theorem whole_apply (h : Fin 4) : K_main_v45 (F := Ideal) (ix1 h) = ((decay h ^ 64 : ℝ) : EReal) := by
  have e : K_main_v45 (F := Ideal) (ix1 h) = Ideal.exp (K_main_v13 (F := Ideal) (ix1 h) * Ideal.ofBits .f32 0x42800000#32) := by
    pointwise [K_main_v45, K_main_v44, K_main_v43, K_main_cst_4]
  rw [e, log_apply, w_64]
  exact ideal_exp_log_mul h _ 64 (by norm_num)

theorem zeros_apply (b : Fin 2) (h : Fin 4) (d : Fin 256) (e : Fin 512) : K_main_v46 (F := Ideal) (ix4 b h d e) = 0 := by
  pointwise [K_main_v46, K_main_cst_5]

/-! ## What the loop reads -/

theorem chunk_q (q : (⟨S16384x1024, .bf16⟩ : BufTy).Contents (Elt Ideal)) (k : (⟨S16384x1024, .bf16⟩ : BufTy).Contents (Elt Ideal))
    (v : (⟨S16384x2048, .bf16⟩ : BufTy).Contents (Elt Ideal)) (c : Fin 128) (b : Fin 2) (i : Fin 64) (h : Fin 4) (d : Fin 256) :
    (init q k v).main_v54_0 (ix5 c b i h d)
      = q (ix2 ⟨b.val * 8192 + c.val * 64 + i.val, by omega⟩ ⟨h.val * 256 + d.val, by omega⟩) := by
  show A_main_v48 q k v _ = _
  pointwise [A_main_v48, A_main_v47, A_main_v1, A_main_v0]

theorem chunk_k (q : (⟨S16384x1024, .bf16⟩ : BufTy).Contents (Elt Ideal)) (k : (⟨S16384x1024, .bf16⟩ : BufTy).Contents (Elt Ideal))
    (v : (⟨S16384x2048, .bf16⟩ : BufTy).Contents (Elt Ideal)) (c : Fin 128) (b : Fin 2) (i : Fin 64) (h : Fin 4) (d : Fin 256) :
    (init q k v).main_v54_1 (ix5 c b i h d)
      = k (ix2 ⟨b.val * 8192 + c.val * 64 + i.val, by omega⟩ ⟨h.val * 256 + d.val, by omega⟩) := by
  show A_main_v50 q k v _ = _
  pointwise [A_main_v50, A_main_v49, A_main_v3, A_main_v2]

theorem chunk_v (q : (⟨S16384x1024, .bf16⟩ : BufTy).Contents (Elt Ideal)) (k : (⟨S16384x1024, .bf16⟩ : BufTy).Contents (Elt Ideal))
    (v : (⟨S16384x2048, .bf16⟩ : BufTy).Contents (Elt Ideal)) (c : Fin 128) (b : Fin 2) (i : Fin 64) (h : Fin 4) (e : Fin 512) :
    (init q k v).main_v54_2 (ix5 c b i h e)
      = v (ix2 ⟨b.val * 8192 + c.val * 64 + i.val, by omega⟩ ⟨h.val * 512 + e.val, by omega⟩) := by
  show A_main_v52 q k v _ = _
  pointwise [A_main_v52, A_main_v51, A_main_v5, A_main_v4]

/-! ## One trip -/

variable (n : ℕ) (s : State Ideal)

/-- The words of a trip's start: the trip's number, then zeros. -/
def start (k : Fin 5) : ℤ :=
  ((![constantI S_ 32 (BitVec.ofNat 32 n), constantI S_ 32 0#32, constantI S_ 32 0#32, constantI S_ 32 0#32, constantI S_ 32 0#32] :
    Fin 5 → (⟨S_, .i32⟩ : BufTy).Contents (Elt Ideal)) k (Shape.Idx.first h_S_)).toInt

theorem start_zero (hn : n < 128) : start n 0 = (n : ℤ) := by
  show (BitVec.ofNat 32 n).toInt = (n : ℤ)
  rw [BitVec.toInt_eq_toNat_of_lt] <;> simp only [BitVec.toNat_ofNat] <;> omega

/-- A slice of one whole chunk starts where it is asked to. -/
theorem start_at {S T : Shape} (h5 : S.rank = 5) (ht : T.rank = S.rank) (hn : n < 128) (a : Fin S.rank)
    (h0 : a.cast h5 = 0 → n + T.size (a.cast ht.symm) ≤ S.size a) (h1 : T.size (a.cast ht.symm) ≤ S.size a) :
    Host.clampedStart S T ht (fun k => start n (k.cast h5)) a = if a.cast h5 = 0 then n else 0 := by
  refine Host.clampedStart_of_le ht _ a _ ?_ ?_
  · show start n (a.cast h5) = _
    generalize a.cast h5 = a'
    fin_cases a'
    · exact start_zero n hn
    all_goals rfl
  · split
    · exact h0 ‹_›
    · omega

theorem b5_apply (hn : n < 128) (b : Fin 2) (i : Fin 64) (h : Fin 4) (d : Fin 256) :
    b5 n s (ix4 b i h d) = s.main_v54_0 (ix5 ⟨n, hn⟩ b i h d) := by
  have hs : ∀ a : Fin 5, Host.clampedStart S128x2x64x4x256 S1x2x64x4x256 rfl (start n) a = if a = 0 then n else 0 := fun a =>
    start_at (S := S128x2x64x4x256) (T := S1x2x64x4x256) n rfl rfl hn a
      (fun e => by obtain rfl : a = 0 := e; show n + 1 ≤ 128; omega) (by fin_cases a <;> decide)
  pointwise [b5, b4, b3, b2, b1, b0]
  simp only [← start.eq_1, hs, if_true, reduceCtorEq, Fin.reduceEq, if_false, Nat.zero_add, Fin.eta]

theorem b11_apply (hn : n < 128) (b : Fin 2) (i : Fin 64) (h : Fin 4) (d : Fin 256) :
    b11 n s (ix4 b i h d) = s.main_v54_1 (ix5 ⟨n, hn⟩ b i h d) := by
  have hs : ∀ a : Fin 5, Host.clampedStart S128x2x64x4x256 S1x2x64x4x256 rfl (start n) a = if a = 0 then n else 0 := fun a =>
    start_at (S := S128x2x64x4x256) (T := S1x2x64x4x256) n rfl rfl hn a
      (fun e => by obtain rfl : a = 0 := e; show n + 1 ≤ 128; omega) (by fin_cases a <;> decide)
  pointwise [b11, b10, b9, b8, b7, b6]
  simp only [← start.eq_1, hs, if_true, reduceCtorEq, Fin.reduceEq, if_false, Nat.zero_add, Fin.eta]

theorem b17_apply (hn : n < 128) (b : Fin 2) (i : Fin 64) (h : Fin 4) (d : Fin 512) :
    b17 n s (ix4 b i h d) = s.main_v54_2 (ix5 ⟨n, hn⟩ b i h d) := by
  have hs : ∀ a : Fin 5, Host.clampedStart S128x2x64x4x512 S1x2x64x4x512 rfl (start n) a = if a = 0 then n else 0 := fun a =>
    start_at (S := S128x2x64x4x512) (T := S1x2x64x4x512) n rfl rfl hn a
      (fun e => by obtain rfl : a = 0 := e; show n + 1 ≤ 128; omega) (by fin_cases a <;> decide)
  pointwise [b17, b16, b15, b14, b13, b12]
  simp only [← start.eq_1, hs, if_true, reduceCtorEq, Fin.reduceEq, if_false, Nat.zero_add, Fin.eta]

/-- The outputs after a trip: the trip's own chunk is the sum inside the chunk and the one across, the others are as before. -/
theorem b43_apply (hn : n < 128) (c : Fin 128) (b : Fin 2) (i : Fin 64) (h : Fin 4) (e : Fin 512) :
    b43 n s (ix5 c b i h e) = if c.val = n then b23 n s (ix4 b i h e) + b28 n s (ix4 b i h e) else s.main_v54_9 (ix5 c b i h e) := by
  have hs : ∀ a : Fin 5, Host.clampedStart S128x2x64x4x512 S1x2x64x4x512 rfl (start n) a = if a = 0 then n else 0 := fun a =>
    start_at (S := S128x2x64x4x512) (T := S1x2x64x4x512) n rfl rfl hn a
      (fun e => by obtain rfl : a = 0 := e; show n + 1 ≤ 128; omega) (by fin_cases a <;> decide)
  pointwise [b43, b42, b41, b40, b39, b38, b37]
  simp only [← start.eq_1, hs, if_true, reduceCtorEq, Fin.reduceEq, if_false, Nat.zero_add, Nat.zero_le, and_true, Nat.sub_zero, Fin.eta]
  by_cases hc : c.val = n
  · rw [if_pos hc, dif_pos (by omega)]
  · rw [if_neg hc, dif_neg (by omega)]

theorem b23_apply (b : Fin 2) (h : Fin 4) (i : Fin 64) (e : Fin 512) :
    b23 n s (ix4 b i h e)
      = ∑ j : Fin 64, b17 n s (ix4 b j h e)
        * ((∑ d : Fin 256, b5 n s (ix4 b i h d) * b11 n s (ix4 b j h d)) * K_main_v26 (F := Ideal) (ix3 h i j)) := by
  pointwise [b23, b22, b21, b20, b19, b18, dot_S2x64x4x512_S2x4x64x64_S2x4x512x64_1_3_3_2_02_01,
    dot_S2x64x4x256_S2x64x4x256_S2x4x64x64_3_3_1_1_02_02]

theorem b28_apply (b : Fin 2) (h : Fin 4) (i : Fin 64) (e : Fin 512) :
    b28 n s (ix4 b i h e)
      = ∑ d : Fin 256, s.main_v54_8 (ix4 b h d e) * (b5 n s (ix4 b i h d) * K_main_v34 (F := Ideal) (ix2 i h)) := by
  pointwise [b28, b27, b26, b25, b24, dot_S2x4x256x512_S2x64x4x256_S2x4x512x64_2_3_3_1_01_02]

theorem b36_apply (b : Fin 2) (h : Fin 4) (d : Fin 256) (e : Fin 512) :
    b36 n s (ix4 b h d e)
      = s.main_v54_8 (ix4 b h d e) * K_main_v45 (F := Ideal) (ix1 h)
        + ∑ j : Fin 64, b11 n s (ix4 b j h d) * K_main_v42 (F := Ideal) (ix2 j h) * b17 n s (ix4 b j h e) := by
  pointwise [b36, b35, b34, b33, b32, b31, b30, b29, dot_S2x64x4x256_S2x64x4x512_S2x4x256x512_1_1_3_3_02_02]

end Cert.RetRefIdeal.Step

end
-- ==== Proof.Ret.RefLoop.lean ====
/- The reference's loop followed through its 128 trips, and its result place by place. -/
module

public import proofs.«01_k».proof.Proof.Ret.Ref
public import proofs.«01_k».proof.Proof.Ret.Inputs

@[expose] public section

set_option maxRecDepth 16384

noncomputable section

namespace Cert.RetRefIdeal.Step

open Idealize.ShloMosaic Cert.RetRefIdeal Cert.RetRefIdeal.Gen Cert.Ret.Consts Cert.Ret.Inputs

variable (q k : (⟨S16384x1024, .bf16⟩ : BufTy).Contents (Elt Ideal)) (v : (⟨S16384x2048, .bf16⟩ : BufTy).Contents (Elt Ideal))

/-- What holds before trip `n`. -/
structure Inv (n : ℕ) (s : State Ideal) : Prop where
  queries : s.main_v54_0 = (init q k v).main_v54_0
  keys : s.main_v54_1 = (init q k v).main_v54_1
  values : s.main_v54_2 = (init q k v).main_v54_2
  st : ∀ (b : Fin 2) (h : Fin 4) (d : Fin 256) (e : Fin 512),
    s.main_v54_8 (ix4 b h d e) = ((state k v b h (64 * n) d e : ℝ) : EReal)
  out : ∀ (c : Fin 128), c.val < n → ∀ (b : Fin 2) (i : Fin 64) (h : Fin 4) (e : Fin 512),
    s.main_v54_9 (ix5 c b i h e) = ((retained q k v b h (64 * c.val + i.val) e : ℝ) : EReal)

variable {q k v}

theorem inv_init : Inv q k v 0 (init q k v) where
  queries := rfl
  keys := rfl
  values := rfl
  st := fun b h d e => by
    rw [state, Nat.mul_zero, Cert.Ret.Decay.carry_zero]
    exact zeros_apply b h d e
  out := fun c hc => absurd hc (Nat.not_lt_zero _)

variable (hq : Real' q) (hk : Real' k) (hv : Real' v)
include hq hk hv

theorem inv_step (n : ℕ) (hn : n < 128) (s : State Ideal) (I : Inv q k v n s) : Inv q k v (n + 1) (step n s) := by
  have eq : ∀ (b : Fin 2) (i : Fin 64) (h : Fin 4) (d : Fin 256),
      b5 n s (ix4 b i h d) = ((key q b h (64 * n + i.val) d : ℝ) : EReal) := fun b i h d => by
    rw [b5_apply n s hn, I.queries, chunk_q]
    exact key_eq hq _ _ _ _ _ _ (by show _ + _ = _ + _; dsimp only; omega) rfl
  have ek : ∀ (b : Fin 2) (i : Fin 64) (h : Fin 4) (d : Fin 256),
      b11 n s (ix4 b i h d) = ((key k b h (64 * n + i.val) d : ℝ) : EReal) := fun b i h d => by
    rw [b11_apply n s hn, I.keys, chunk_k]
    exact key_eq hk _ _ _ _ _ _ (by show _ + _ = _ + _; dsimp only; omega) rfl
  have ev : ∀ (b : Fin 2) (i : Fin 64) (h : Fin 4) (e : Fin 512),
      b17 n s (ix4 b i h e) = ((value v b h e (64 * n + i.val) : ℝ) : EReal) := fun b i h d => by
    rw [b17_apply n s hn, I.values, chunk_v]
    exact value_eq hv _ _ _ _ _ _ (by show _ + _ = _ + _; dsimp only; omega) rfl
  refine ⟨I.queries, I.keys, I.values, fun b h d e => ?_, fun c hc b i h e => ?_⟩
  · rw [step_main_v54_8, b36_apply, I.st, whole_apply, state, state, Nat.mul_add, Cert.Ret.Decay.carry_block, EReal.coe_add,
      EReal.coe_mul, coe_sum]
    refine congrArg _ (Finset.sum_congr rfl fun j _ => ?_)
    rw [ek, ev, zeta_apply, EReal.coe_mul, EReal.coe_mul]
  · rw [step_main_v54_9, b43_apply n s hn]
    by_cases hcn : c.val = n
    · rw [if_pos hcn, hcn, b23_apply, b28_apply, retained, Cert.Ret.Decay.ret_block _ _ _ _ n 1 i.val (by omega), EReal.coe_add]
      refine congrArg₂ _ ?_ ?_
      · rw [coe_sum]
        refine Finset.sum_congr rfl fun (j : Fin 64) _ => ?_
        rw [ev, intra_apply, EReal.coe_mul, EReal.coe_mul, coe_sum, mul_comm,
          Cert.Ret.Decay.mask, if_pos (by rw [Nat.div_eq_of_lt i.isLt]; exact (Nat.div_eq_of_lt j.isLt).le)]
        refine congrArg (· * _) (congrArg (· * _) (Finset.sum_congr rfl fun d _ => ?_))
        rw [eq, ek, EReal.coe_mul]
      · rw [coe_sum]
        refine Finset.sum_congr rfl fun d _ => ?_
        rw [I.st, eq, xi_apply, EReal.coe_mul, EReal.coe_mul, mul_comm]
        rfl
    · rw [if_neg hcn]
      exact I.out c (by omega) b i h e

/-- After the last trip every output is the retention of its position. -/
theorem outputs (it : ℕ → State Ideal) (h0 : it 0 = init q k v) (hs : ∀ n, it (n + 1) = step n (it n)) (n : ℕ) (hn : n ≤ 128) :
    Inv q k v n (it n) := by
  induction n with
  | zero => rw [h0]; exact inv_init
  | succ n ih => rw [hs]; exact inv_step hq hk hv n (by omega) _ (ih (by omega))

omit hq hk hv in
theorem result_apply (s : State Ideal) (g : (⟨S16384x2048, .bf16⟩ : BufTy).Contents (Elt Ideal)) (w : (⟨S2048x1024, .f32⟩ : BufTy).Contents (Elt Ideal))
    (x : (⟨S16384x1024, .f32⟩ : BufTy).Contents (Elt Ideal)) (gate : (⟨S2x1x1024, .f32⟩ : BufTy).Contents (Elt Ideal))
    (y : Fin 16384 → Fin 4 → Fin 512 → EReal)
    (hy : ∀ (c : Fin 128) (b : Fin 2) (i : Fin 64) (h : Fin 4) (e : Fin 512) (t : Fin 16384),
      t.val = b.val * 8192 + c.val * 64 + i.val → s.main_v54_9 (ix5 c b i h e) = y t h e)
    (t : Fin 16384) (n : Fin 1024) : R_main_v77 s g w x gate (ix2 t n) = layer y g w x gate t n := by
  pointwise [R_main_v77, dot_S2x8192x2048_S2048x1024_S2x8192x1024_2_0_01_1_n_n]
  unfold layer
  refine congrArg (_ + ·) (congrArg (_ * ·) ((sum_heads _).trans
    (Finset.sum_congr rfl fun h _ => Finset.sum_congr rfl fun e _ => ?_)))
  have e1 : (h.val * 512 + e.val) / 512 = h.val := by omega
  have e2 : (h.val * 512 + e.val) % 512 = e.val := by omega
  have ht : ∀ (h : Fin 4) (e : Fin 512), s.main_v54_9 (ix5 ⟨t.val % 8192 / 64, by omega⟩ ⟨t.val / 8192, by omega⟩
      ⟨t.val % 8192 % 64, by omega⟩ h e) = y t h e := fun h e => hy _ _ _ h e t (by dsimp only; omega)
  simp only [e1, e2, Fin.eta, ht, gateRow]

/-- The reference's result: the layer with the retention of every position. -/
theorem result (it : ℕ → State Ideal) (h0 : it 0 = init q k v) (hs : ∀ n, it (n + 1) = step n (it n))
    (g : (⟨S16384x2048, .bf16⟩ : BufTy).Contents (Elt Ideal)) (w : (⟨S2048x1024, .f32⟩ : BufTy).Contents (Elt Ideal))
    (x : (⟨S16384x1024, .f32⟩ : BufTy).Contents (Elt Ideal)) (gate : (⟨S2x1x1024, .f32⟩ : BufTy).Contents (Elt Ideal))
    (t : Fin 16384) (n : Fin 1024) :
    R_main_v77 (it 128) g w x gate (ix2 t n)
      = layer (fun t h e => ((retained q k v ⟨t.val / 8192, by omega⟩ h (t.val % 8192) e : ℝ) : EReal)) g w x gate t n := by
  refine result_apply _ g w x gate _ (fun c b i h e t ht => ?_) t n
  rw [(outputs hq hk hv it h0 hs 128 le_rfl).out c c.isLt b i h e]
  have e1 : t.val / 8192 = b.val := by omega
  have e2 : t.val % 8192 = 64 * c.val + i.val := by omega
  simp only [e1, e2, Fin.eta]

end Cert.RetRefIdeal.Step

end
-- ==== Proof.Ret.Close.lean ====
/- The claims about the retention: the run of each program, the named constants, and that kernel and reference give equal results. -/
module

public import proofs.«01_k».proof.Defs
public import proofs.«01_k».proof.Proof.Gen.Pre_finite
public import proofs.«01_k».proof.Proof.Gen.Ret.Frame
public import proofs.«01_k».proof.Proof.Gen.RetIdeal.Frame
public import proofs.«01_k».proof.Proof.Ret.RefRun
public import proofs.«01_k».proof.Proof.Ret.Points
public import proofs.«01_k».proof.Proof.Ret.RefLoop
public import Idealize.ShloMosaic.Lib.ReduceAll
public import Idealize.ShloMosaic.Lib.Affine
public import Idealize.ShloMosaic.Adequacy
public import Idealize.ShloMosaic.Init

@[expose] public section

set_option maxRecDepth 16384

noncomputable section

namespace Cert.Ret.Close

open Idealize.ShloMosaic Idealize.ShloMosaic.TcCoe Idealize.SL.Sem Cert.Ret.Inputs

theorem frame_p : Cert.quiescent_Ret := fun m ρ _ => Cert.Ret.Gen.frame m ρ
theorem frame_pi : Cert.quiescent_RetIdeal := fun m ρ _ => Cert.RetIdeal.Gen.frame m ρ
theorem frame_pi_finite : Cert.quiescent_RetIdeal_pre_finite := fun m ρ _ => Cert.RetIdeal.Gen.frame m ρ
theorem frame_ri : Cert.quiescent_RetRefIdeal := fun m ρ _ =>
  (θ_run Cert.RetRefIdeal.defs _ _).mono (fun r h => ⟨fun c => (h c).2, Idealize.ShloMosaic.sem_eq_zero_of_no_sems (by decide) r.2⟩)
    (Cert.RetRefIdeal.Value.run (F := Ideal) m ρ)
theorem frame_ri_finite : Cert.quiescent_RetRefIdeal_pre_finite := fun m ρ _ => frame_ri m ρ trivial

theorem preserves : Cert.preserves_Ret_RetIdeal :=
  ⟨IdealRules.named_const.statement Cert.RetIdeal.κ "gl0" .f32 0x399ACCA1#32 _ rfl,
    IdealRules.named_const.statement Cert.RetIdeal.κ "gl1" .f32 0x3C9160A5#32 _ rfl,
    IdealRules.named_const.statement Cert.RetIdeal.κ "gl2" .f32 0x3E097FCE#32 _ rfl,
    IdealRules.named_const.statement Cert.RetIdeal.κ "gl3" .f32 0x3EBBFC5D#32 _ rfl⟩

/-! ## What the precondition says -/

theorem real_of_below {x : EReal} (h : Ideal.cmp .olt (max x (-x)) (Ideal.ofBits .f32 0x7F800000#32) = 1#1) : x ≠ ⊤ ∧ x ≠ ⊥ := by
  have hi : Ideal.ofBits .f32 0x7F800000#32 = ⊤ := by simp [Ideal.ofBits, Ideal.ieee]
  rw [hi] at h
  have h' : max x (-x) < ⊤ := by
    by_contra hc
    simp [Ideal.cmp, hc] at h
  constructor
  · rintro rfl; simp at h'
  · rintro rfl; simp at h'

theorem finite_real {a0 a1 : FVec Ideal Cert.Pre_finite.S16384x1024 .bf16} {a2 a3 : FVec Ideal Cert.Pre_finite.S16384x2048 .bf16}
    {a4 : FVec Ideal Cert.Pre_finite.S2048x1024 .f32} {a5 : FVec Ideal Cert.Pre_finite.S16384x1024 .f32}
    {a6 : FVec Ideal Cert.Pre_finite.S2x1x1024 .f32}
    (h : Cert.Pre_finite.fn (F := Ideal) a0 a1 a2 a3 a4 a5 a6 = fun _ => 1#1) :
    Real' (S := Cert.Pre_finite.S16384x1024) a0 ∧ Real' (S := Cert.Pre_finite.S16384x1024) a1 ∧ Real' (S := Cert.Pre_finite.S16384x2048) a2 := by
  have h := congrFun h ix0
  dsimp only [Cert.Pre_finite.fn] at h
  obtain ⟨h01, h2⟩ := IntOp.andi_eq_one.mp h
  obtain ⟨h0, h1⟩ := IntOp.andi_eq_one.mp h01
  exact ⟨fun i => real_of_below (Host.reduce_andi_all _ _ _ _ _ h0 i), fun i => real_of_below (Host.reduce_andi_all _ _ _ _ _ h1 i),
    fun i => real_of_below (Host.reduce_andi_all _ _ _ _ _ h2 i)⟩

/-! ## Equal results -/

/-- The states of the reference's loop, one after another. -/
def states (s : Cert.RetRefIdeal.Step.State Ideal) : ℕ → Cert.RetRefIdeal.Step.State Ideal
  | 0 => s
  | n + 1 => Cert.RetRefIdeal.Step.step n (states s n)

theorem algebraic : Cert.algebraic_RetIdeal_RetRefIdeal_pre_finite := by
  intro m g m' g' hpre hargs
  refine ⟨Cert.RetIdeal.Value.G10 m, (θ_run Cert.RetIdeal.defs _ _).mono (fun r h c => h c) (Cert.RetIdeal.Value.run (F := Ideal) m g), ?_⟩
  refine (θ_run Cert.RetRefIdeal.defs _ _).mono (fun r h c => ⟨(h c).1.trans ?_, (h c).2⟩)
    (Cert.RetRefIdeal.RefRun.run_iter (F := Ideal) m' g' (fun c => states (Cert.RetRefIdeal.RefRun.initState m' c))
      (fun _ => rfl) (fun _ _ => rfl))
  obtain ⟨e0, e1, e2, e3, e4, e5, e6⟩ := hargs c
  obtain ⟨hq, hk, hv⟩ := finite_real (hpre c)
  funext i
  rw [show i = ix2 (i 0) (i 1) from eq_ix2 i]
  rw [e3, e4, e5, e6]
  unfold Cert.RetRefIdeal.RefRun.initState
  rw [e0, e1, e2]
  exact (Cert.RetRefIdeal.Step.result hq hk hv _ rfl (fun _ => rfl) _ _ _ _ (i 0) (i 1)).trans
    (Cert.RetIdeal.Block.array_result m c hq hk hv (i 0) (i 1)).symm

end Cert.Ret.Close

end
-- ==== Proof.Sgu.Runs.lean ====
/- The claims about the spatial gating that compare no values: each program runs to its end, and what the named constants keep. -/
module

public import proofs.«01_k».proof.Defs
public import proofs.«01_k».proof.Proof.Gen.Sgu.Frame
public import proofs.«01_k».proof.Proof.Gen.SguIdeal.Frame
public import proofs.«01_k».proof.Proof.Gen.SguRefIdeal.Run
public import Idealize.ShloMosaic.Adequacy
public import Idealize.ShloMosaic.Init

@[expose] public section

set_option maxRecDepth 16384

noncomputable section

namespace Cert.Sgu.Runs

open Idealize.ShloMosaic Idealize.ShloMosaic.TcCoe Idealize.SL.Sem

theorem frame_p : Cert.quiescent_Sgu := fun m ρ _ => Cert.Sgu.Gen.frame m ρ
theorem frame_pi : Cert.quiescent_SguIdeal := fun m ρ _ => Cert.SguIdeal.Gen.frame m ρ
theorem frame_ri : Cert.quiescent_SguRefIdeal := fun m ρ _ =>
  (θ_run Cert.SguRefIdeal.defs _ _).mono (fun r h => ⟨fun c => (h c).2, Idealize.ShloMosaic.sem_eq_zero_of_no_sems (by decide) r.2⟩)
    (Cert.SguRefIdeal.Value.run (F := Ideal) m ρ)

theorem preserves : Cert.preserves_Sgu_SguIdeal :=
  ⟨IdealRules.named_const.statement Cert.SguIdeal.κ "gelu_a3" .bf16 0xBDD3#16 _ rfl,
    IdealRules.named_const.statement Cert.SguIdeal.κ "gelu_a1" .bf16 0xC013#16 _ rfl,
    IdealRules.named_const.statement Cert.SguIdeal.κ "gelu_a3" .f32 0xBDD2D3E8#32 _ rfl,
    IdealRules.named_const.statement Cert.SguIdeal.κ "gelu_a1" .f32 0xC0135761#32 _ rfl⟩

end Cert.Sgu.Runs

end
-- ==== Proof.Sgu.Rows.lean ====
/- The spatial-gating unit over the extended reals, a row at a time: the normalised and modulated row, the two gelus, the layer norm, the
   mixing of a chunk's 128 positions and the residual — and the two writings of gelu, equal at every extended real. -/
module

public import Idealize.ShloMosaic.PureOps.Ideal
public import Mathlib.Analysis.SpecialFunctions.Pow.Real
public import Mathlib.Analysis.SpecialFunctions.Trigonometric.DerivHyp

@[expose] public section

noncomputable section

namespace Cert.Sgu.Rows

open Idealize.ShloMosaic

/-- The word of `0.5`, of `sqrt (2 / π)`, of `0.044715`, and of the norms' `1e-6`. -/
abbrev half : EReal := Ideal.ofBits .f32 0x3F000000#32
abbrev sqr : EReal := Ideal.ofBits .f32 0x3F4C422A#32
abbrev cub : EReal := Ideal.ofBits .f32 0x3D372713#32
abbrev eps : EReal := Ideal.ofBits .f32 0x358637BD#32

/-- A row after the root-mean-square norm, its gain and the modulation. -/
def hid (x gain sc sh : Fin 1024 → EReal) (k : Fin 1024) : EReal :=
  x k * Ideal.rsqrt (Ideal.div (∑ j, x j * x j) (Ideal.ofBits .f32 0x44800000#32) + eps) * gain k * (1 + sc k) + sh k

/-- One column of the input product, its bias added. -/
def lin (h w : Fin 1024 → EReal) (b : EReal) : EReal := (∑ k, h k * w k) + b

/-- Gelu by the hyperbolic tangent. -/
def gelu (a : EReal) : EReal := a * (half * (1 + Ideal.tanh (sqr * (a + cub * (a * a * a)))))

/-- The kernel's two constants of gelu. -/
abbrev a3 : EReal := ((-(((6693141 / 4194304) * (Real.log 2)⁻¹) * (12003091 / 268435456)) : ℝ) : EReal)
abbrev a1 : EReal := ((-((6693141 / 4194304) * (Real.log 2)⁻¹) : ℝ) : EReal)

/-- Gelu by a power of two. -/
def gelu2 (a : EReal) : EReal := a * Ideal.div 1 (1 + Ideal.exp2 ((a * a * a3 + a1) * a))

/-- A row after the layer norm. -/
def lnorm (v g b : Fin 3072 → EReal) (n : Fin 3072) : EReal :=
  (v n - Ideal.div (∑ j, v j) (Ideal.ofBits .f32 0x45400000#32))
      * Ideal.rsqrt (Ideal.div (∑ j, (v j - Ideal.div (∑ j, v j) (Ideal.ofBits .f32 0x45400000#32))
        * (v j - Ideal.div (∑ j, v j) (Ideal.ofBits .f32 0x45400000#32))) (Ideal.ofBits .f32 0x45400000#32) + eps)
    * g n + b n

/-- Column `a` of group `g`. -/
def col (g : Fin 8) (a : Fin 384) : Fin 3072 := ⟨g.val * 384 + a.val, by omega⟩

/-- Position `i` of a chunk reads position `j` of it: the half of 64 that holds `j` does not come after the one that holds `i`. -/
def keep (i j : Fin 128) : Prop := j.val / 64 ≤ i.val / 64

instance (i j : Fin 128) : Decidable (keep i j) := by unfold keep; infer_instance

/-- Position `i` of a chunk mixed from the chunk's positions by row `i` of a group's weight. -/
def mix (i : Fin 128) (w v : Fin 128 → EReal) (b : EReal) : EReal := (∑ j, (if keep i j then w j else 0) * v j) + b

/-- One element of the result: the residual and the gated output product. -/
def out (x gate : EReal) (p w : Fin 3072 → EReal) : EReal := x + gate * ∑ n, p n * w n

/-- The group of a column, and the two halves of the input product's columns. -/
def grp (n : Fin 3072) : Fin 8 := ⟨n.val / 384, by omega⟩
def lo (n : Fin 3072) : Fin 6144 := ⟨n.val, by omega⟩
def hi (n : Fin 3072) : Fin 6144 := ⟨3072 + n.val, by omega⟩

theorem col_grp (n : Fin 3072) : col (grp n) ⟨n.val % 384, by omega⟩ = n :=
  Fin.ext (show n.val / 384 * 384 + n.val % 384 = n.val by omega)

section Chunk

variable (X : Fin 128 → Fin 1024 → EReal) (gain sc sh gate : Fin 1024 → EReal) (w5 : Fin 1024 → Fin 6144 → EReal) (b6 : Fin 6144 → EReal)
  (g7 b8 : Fin 3072 → EReal) (w9 : Fin 8 → Fin 128 → Fin 128 → EReal) (b10 : Fin 8 → Fin 128 → EReal) (w11 : Fin 3072 → Fin 1024 → EReal)

/-- Column `n` of the input product at position `i` of a chunk, after gelu. -/
def act (i : Fin 128) (n : Fin 6144) : EReal := gelu (lin (hid (X i) gain sc sh) (fun k => w5 k n) (b6 n))

/-- Column `n` of the mixed half at position `i`. -/
def mixing (i : Fin 128) (n : Fin 3072) : EReal :=
  mix i (w9 (grp n) i) (fun j => lnorm (fun a => act X gain sc sh w5 b6 j (hi a)) g7 b8 n) (b10 (grp n) i)

/-- The unit's result at column `k` of position `i` of a chunk whose rows are `X`. -/
def unit (i : Fin 128) (k : Fin 1024) : EReal :=
  out (X i k) (gate k) (fun n => act X gain sc sh w5 b6 i (lo n) * mixing X gain sc sh w5 b6 g7 b8 w9 b10 i n) (fun n => w11 n k)

end Chunk

/-! ### The two gelus -/

theorem half_eq : half = ((1 / 2 : ℝ) : EReal) := by
  simp [half, Ideal.ofBits, Ideal.ieee, -EReal.coe_mul]; norm_num

theorem sqr_eq : sqr = ((6693141 / 8388608 : ℝ) : EReal) := by
  simp [sqr, Ideal.ofBits, Ideal.ieee, -EReal.coe_mul]; norm_num

theorem cub_eq : cub = ((12003091 / 268435456 : ℝ) : EReal) := by
  simp [cub, Ideal.ofBits, Ideal.ieee, -EReal.coe_mul]; norm_num

/-- The logistic function is half of one plus the hyperbolic tangent. -/
theorem logistic (y : ℝ) : 1 / (1 + Real.exp (-(2 * y))) = 1 / 2 * (1 + Real.tanh y) := by
  have e1 : Real.exp (-(2 * y)) = Real.exp (-y) * Real.exp (-y) := by rw [← Real.exp_add]; congr 1; ring
  have e2 : Real.exp y = (Real.exp (-y))⁻¹ := by rw [Real.exp_neg, inv_inv]
  have hp := Real.exp_pos (-y)
  rw [Real.tanh_eq_sinh_div_cosh, Real.sinh_eq, Real.cosh_eq, e1, e2]
  field_simp
  ring

theorem neg_a3 : -(((6693141 / 4194304) * (Real.log 2)⁻¹) * (12003091 / 268435456) : ℝ) < 0 := by
  have := Real.log_pos (by norm_num : (1 : ℝ) < 2)
  have := inv_pos.mpr this
  nlinarith

theorem gelu2_eq (a : EReal) : gelu2 a = gelu a := by
  have hl := Real.log_pos (by norm_num : (1 : ℝ) < 2)
  unfold gelu2 gelu
  rw [half_eq, sqr_eq, cub_eq]
  induction a with
  | bot =>
    rw [EReal.bot_mul_bot, EReal.top_mul_coe_of_neg neg_a3, EReal.bot_add, EReal.bot_mul_bot, EReal.top_mul_bot,
      EReal.coe_mul_bot_of_pos (by norm_num), EReal.bot_add, EReal.coe_mul_bot_of_pos (by norm_num), Ideal.exp2_top, Ideal.tanh_bot,
      EReal.add_top_of_ne_bot (x := 1) (EReal.coe_ne_bot 1)]
    have h1 : (1 + -1 : EReal) = 0 := by
      rw [← EReal.coe_one, ← EReal.coe_neg, ← EReal.coe_add]; norm_num
    rw [h1, mul_zero, mul_zero]
    simp [Ideal.div]
  | top =>
    rw [EReal.top_mul_top, EReal.top_mul_coe_of_neg neg_a3, EReal.bot_add, EReal.bot_mul_top, EReal.top_mul_top,
      EReal.coe_mul_top_of_pos (by norm_num), EReal.top_add_top, EReal.coe_mul_top_of_pos (by norm_num), Ideal.exp2_bot, Ideal.tanh_top,
      add_zero]
    have h1 : ((1 / 2 : ℝ) : EReal) * (1 + 1) = 1 := by
      rw [← EReal.coe_one, ← EReal.coe_add, ← EReal.coe_mul]; norm_num
    rw [h1]
    simp [Ideal.div]
  | coe r =>
    have hz : ∀ y : ℝ, y = 6693141 / 8388608 * (r + 12003091 / 268435456 * (r * r * r)) →
        Real.rpow 2 ((r * r * -(((6693141 / 4194304) * (Real.log 2)⁻¹) * (12003091 / 268435456)) + -((6693141 / 4194304) * (Real.log 2)⁻¹)) * r)
          = Real.exp (-(2 * y)) := fun y hy => by
      refine (Real.rpow_def_of_pos (by norm_num) _).trans (congrArg Real.exp ?_)
      rw [hy]
      field_simp
      ring
    have hp : (0 : ℝ) < 1 + Real.exp (-(2 * (6693141 / 8388608 * (r + 12003091 / 268435456 * (r * r * r))))) := by positivity
    rw [← EReal.coe_mul, ← EReal.coe_mul, ← EReal.coe_add, ← EReal.coe_mul, ← EReal.coe_mul, ← EReal.coe_mul, ← EReal.coe_add,
      ← EReal.coe_mul, Ideal.exp2_coe, Ideal.tanh_coe, hz _ rfl, ← EReal.coe_one, ← EReal.coe_add, ← EReal.coe_add, ← EReal.coe_mul,
      Ideal.div_coe hp.ne', ← EReal.coe_mul, one_mul, logistic]

end Cert.Sgu.Rows
-- ==== Proof.Sgu.Ref.lean ====
/- The spatial-gating reference read place by place. -/
module

public import proofs.«01_k».proof.Proof.Gen.SguRefIdeal.Read
public import proofs.«01_k».proof.Proof.Sgu.Rows
public import Idealize.ShloMosaic.Lib.Pointwise

@[expose] public section

set_option maxRecDepth 16384

noncomputable section

namespace Cert.SguRefIdeal.Read

open Idealize.ShloMosaic Cert.SguRefIdeal Cert.SguRefIdeal.Gen Cert.Sgu.Rows

/-- The array's row of a batch's position. -/
def row (b : Fin 2) (p : Fin 8192) : Fin 16384 := ⟨b.val * 8192 + p.val, by omega⟩

variable (x0 : FVec Ideal S16384x1024 .f32) (x1 : FVec Ideal S1024 .f32) (x2 x3 x4 : FVec Ideal S2x1x1024 .f32)
  (x5 : FVec Ideal S1024x6144 .f32) (x6 : FVec Ideal S6144 .f32) (x7 x8 : FVec Ideal S3072 .f32)
  (x9 : FVec Ideal S8x128x128 .f32) (x10 : FVec Ideal S8x128 .f32) (x11 : FVec Ideal S3072x1024 .f32)

theorem v0_apply (b : Fin 2) (p : Fin 8192) (k : Fin 1024) : val_main_v0 (F := Ideal) x0 (ix3 b p k) = x0 (ix2 (row b p) k) := by
  pointwise [val_main_v0, row]

theorem v19_apply (b : Fin 2) (p : Fin 8192) (k : Fin 1024) : val_main_v19 (F := Ideal) x0 x1 x2 x3 (ix3 b p k)
    = hid (fun j => x0 (ix2 (row b p) j)) (fun j => x1 (ix1 j)) (fun j => x3 (ix3 b 0 j)) (fun j => x2 (ix3 b 0 j)) k := by
  have h0 := v0_apply x0 b p
  unfold hid
  simp only [← h0]
  pointwise [val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1,
    val_main_cst, val_main_cst_0, val_main_cst_1, val_main_cst_2]

theorem v36_apply (b : Fin 2) (p : Fin 8192) (n : Fin 6144) : val_main_v36 (F := Ideal) x0 x1 x2 x3 x5 x6 (ix3 b p n)
    = gelu (lin (fun k => val_main_v19 (F := Ideal) x0 x1 x2 x3 (ix3 b p k)) (fun k => x5 (ix2 k n)) (x6 (ix1 n))) := by
  unfold gelu lin
  pointwise [val_main_v36, val_main_v35, val_main_v34, val_main_v33, val_main_v32, val_main_v31, val_main_v30, val_main_v29, val_main_v28,
    val_main_v27, val_main_v26, val_main_v25, val_main_v24, val_main_v23, val_main_v22, val_main_v21, val_main_v20,
    val_main_cst_3, val_main_cst_4, val_main_cst_5, val_main_cst_6, dot_S2x8192x1024_S1024x6144_S2x8192x6144_2_0_01_1_n_n]

theorem v37_apply (b : Fin 2) (p : Fin 8192) (n : Fin 3072) : val_main_v37 (F := Ideal) x0 x1 x2 x3 x5 x6 (ix3 b p n)
    = val_main_v36 (F := Ideal) x0 x1 x2 x3 x5 x6 (ix3 b p ⟨n.val, by omega⟩) := by
  pointwise [val_main_v37]

theorem v38_apply (b : Fin 2) (p : Fin 8192) (n : Fin 3072) : val_main_v38 (F := Ideal) x0 x1 x2 x3 x5 x6 (ix3 b p n)
    = val_main_v36 (F := Ideal) x0 x1 x2 x3 x5 x6 (ix3 b p ⟨3072 + n.val, by omega⟩) := by
  pointwise [val_main_v38]

theorem v60_apply (b : Fin 2) (p : Fin 8192) (n : Fin 3072) : val_main_v60 (F := Ideal) x0 x1 x2 x3 x5 x6 x7 x8 (ix3 b p n)
    = lnorm (fun j => val_main_v38 (F := Ideal) x0 x1 x2 x3 x5 x6 (ix3 b p j)) (fun j => x7 (ix1 j)) (fun j => x8 (ix1 j)) n := by
  unfold lnorm
  pointwise [val_main_v60, val_main_v59, val_main_v58, val_main_v57, val_main_v56, val_main_v55, val_main_v54, val_main_v53, val_main_v52,
    val_main_v51, val_main_v50, val_main_v49, val_main_v48, val_main_v47, val_main_v46, val_main_v45, val_main_v44, val_main_v43,
    val_main_v42, val_main_v41, val_main_v40, val_main_v39, val_main_cst_7, val_main_cst_8, val_main_cst_9, val_main_cst_10, val_main_cst_11]

/-! ### The mixing of a chunk's positions -/

/-- The half of a chunk that holds a position. -/
theorem v62_apply (i : Fin 128) : val_main_v62 (F := Ideal) (ix1 i) = BitVec.ofNat 32 (i.val / 64) := by
  pointwise [val_main_v62, val_main_v61, val_main_call0_v13, val_main_call0_v12, val_main_call0_v11, val_main_call0_v10,
    val_main_call0_v9, val_main_call0_v8, val_main_call0_v7, val_main_call0_v6, val_main_call0_v5, val_main_call0_v4, val_main_call0_v3,
    val_main_call0_v2, val_main_call0_v1, val_main_call0_v0, val_main_c, val_main_call0_c, val_main_call0_c_0]
  rw [show id (constantI S_ 32 64#32) ix0 = 64#32 from rfl]
  revert i
  decide +kernel

theorem v68_apply (i j : Fin 128) : val_main_v68 (F := Ideal) (ix2 i j) = if keep i j then 1 else 0 := by
  have e : val_main_v68 (F := Ideal) (ix2 i j)
      = (FloatOps.uitofp .f32 (IntOp.cmpi .sle (val_main_v62 (F := Ideal) (ix1 j)) (val_main_v62 (F := Ideal) (ix1 i))) : Ideal .f32) := by
    pointwise [val_main_v68, val_main_v67, val_main_v66, val_main_v65, val_main_v64, val_main_v63]
  have two : ∀ a b : Fin 2, IntOp.cmpi .sle (BitVec.ofNat 32 b.val) (BitVec.ofNat 32 a.val) = if b.val ≤ a.val then 1#1 else 0#1 := by decide
  rw [e, v62_apply, v62_apply]
  refine (congrArg (fun w : BitVec 1 => (FloatOps.uitofp .f32 w : Ideal .f32)) (two ⟨i.val / 64, by omega⟩ ⟨j.val / 64, by omega⟩)).trans ?_
  show (FloatOps.uitofp .f32 (if keep i j then 1#1 else 0#1) : Ideal .f32) = _
  split
  · show (((1#1 : BitVec 1).toNat : ℝ) : EReal) = 1
    simp
  · show (((0#1 : BitVec 1).toNat : ℝ) : EReal) = 0
    simp

theorem v72_apply (g : Fin 8) (i j : Fin 128) : val_main_v72 (F := Ideal) x9 (ix3 g i j) = if keep i j then x9 (ix3 g i j) else 0 := by
  have e : val_main_v72 (F := Ideal) x9 (ix3 g i j) = x9 (ix3 g i j) * val_main_v68 (F := Ideal) (ix2 i j) := by
    pointwise [val_main_v72, val_main_v71, val_main_v70]
  rw [e, v68_apply]
  split
  · exact mul_one _
  · exact mul_zero _

/-- The position `j` of chunk `c`. -/
def pos (c : Fin 64) (j : Fin 128) : Fin 8192 := ⟨c.val * 128 + j.val, by omega⟩

theorem v69_apply (b : Fin 2) (c : Fin 64) (j : Fin 128) (g : Fin 8) (a : Fin 384) :
    val_main_v69 (F := Ideal) x0 x1 x2 x3 x5 x6 x7 x8 (ix5 b c j g a) = val_main_v60 (F := Ideal) x0 x1 x2 x3 x5 x6 x7 x8 (ix3 b (pos c j) (col g a)) := by
  pointwise [val_main_v69, pos, col]

theorem v78_apply (b : Fin 2) (c : Fin 64) (i : Fin 128) (g : Fin 8) (a : Fin 384) :
    val_main_v78 (F := Ideal) x0 x1 x2 x3 x5 x6 x7 x8 x9 x10 (ix5 b c i g a)
      = mix i (fun j => x9 (ix3 g i j)) (fun j => val_main_v60 (F := Ideal) x0 x1 x2 x3 x5 x6 x7 x8 (ix3 b (pos c j) (col g a))) (x10 (ix2 g i)) := by
  have e : val_main_v78 (F := Ideal) x0 x1 x2 x3 x5 x6 x7 x8 x9 x10 (ix5 b c i g a)
      = (∑ j : Fin 128, val_main_v69 (F := Ideal) x0 x1 x2 x3 x5 x6 x7 x8 (ix5 b c j g a) * val_main_v72 (F := Ideal) x9 (ix3 g i j)) + x10 (ix2 g i) := by
    pointwise [val_main_v78, val_main_v77, val_main_v76, val_main_v75, val_main_v74, val_main_v73,
      dot_S2x64x128x8x384_S8x128x128_S8x2x64x384x128_2_2_014_1_3_0]
  unfold mix
  rw [e]
  exact congrArg (· + _) (Finset.sum_congr rfl fun j _ => by rw [v69_apply, v72_apply, mul_comm])

theorem v79_apply (b : Fin 2) (c : Fin 64) (i : Fin 128) (g : Fin 8) (a : Fin 384) :
    val_main_v79 (F := Ideal) x0 x1 x2 x3 x5 x6 x7 x8 x9 x10 (ix3 b (pos c i) (col g a))
      = val_main_v78 (F := Ideal) x0 x1 x2 x3 x5 x6 x7 x8 x9 x10 (ix5 b c i g a) := by
  pointwise [val_main_v79, pos, col]

theorem v84_apply (b : Fin 2) (p : Fin 8192) (k : Fin 1024) :
    val_main_v84 (F := Ideal) x0 x1 x2 x3 x4 x5 x6 x7 x8 x9 x10 x11 (ix3 b p k)
      = out (x0 (ix2 (row b p) k)) (x4 (ix3 b 0 k)) (fun n => val_main_v37 (F := Ideal) x0 x1 x2 x3 x5 x6 (ix3 b p n)
          * val_main_v79 (F := Ideal) x0 x1 x2 x3 x5 x6 x7 x8 x9 x10 (ix3 b p n)) (fun n => x11 (ix2 n k)) := by
  rw [← v0_apply x0 b p k]
  unfold out
  pointwise [val_main_v84, val_main_v83, val_main_v82, val_main_v81, val_main_v80, dot_S2x8192x3072_S3072x1024_S2x8192x1024_2_0_01_1_n_n]

theorem v85_apply (b : Fin 2) (p : Fin 8192) (k : Fin 1024) : val_main_v85 (F := Ideal) x0 x1 x2 x3 x4 x5 x6 x7 x8 x9 x10 x11 (ix2 (row b p) k)
    = val_main_v84 (F := Ideal) x0 x1 x2 x3 x4 x5 x6 x7 x8 x9 x10 x11 (ix3 b p k) := by
  pointwise [val_main_v85, row]

end Cert.SguRefIdeal.Read
-- ==== Proof.Sgu.Pay.lean ====
/- The values a point of the spatial-gating kernel computes, read place by place. -/
module

public import proofs.«01_k».proof.Proof.Gen.SguIdeal.Frame
public import proofs.«01_k».proof.Proof.Sgu.Rows
public import Idealize.ShloMosaic.Lib.Pointwise
public import Idealize.ShloMosaic.Lib.Pipeline.Value

@[expose] public section

set_option maxRecDepth 16384

noncomputable section

namespace Cert.SguIdeal.Pay

open Idealize.ShloMosaic Idealize.ShloMosaic.TcCoe
open Cert.SguIdeal Cert.SguIdeal.Gen Cert.Sgu.Rows

theorem a3_16 : (Named.named κ "gelu_a3" 0xBDD3#16 : Ideal .bf16) = a3 := IdealRules.named_const.ideal_named_scalar _ _ _ _ rfl
theorem a1_16 : (Named.named κ "gelu_a1" 0xC013#16 : Ideal .bf16) = a1 := IdealRules.named_const.ideal_named_scalar _ _ _ _ rfl
theorem a3_32 : (Named.named κ "gelu_a3" 0xBDD2D3E8#32 : Ideal .f32) = a3 := IdealRules.named_const.ideal_named_scalar _ _ _ _ rfl
theorem a1_32 : (Named.named κ "gelu_a1" 0xC0135761#32 : Ideal .f32) = a1 := IdealRules.named_const.ideal_named_scalar _ _ _ _ rfl

/-- The normalised and modulated row. -/
theorem pay15_apply (x : Vec Ideal S256x1024 .f32) (g : Vec Ideal S1x1024 .f32) (sc sh : Vec Ideal S1x1x1024 .f32) (r : Fin 256) (k : Fin 1024) :
    k0_pay15 x g sc sh (ix2 r k) = hid (fun j => x (ix2 r j)) (fun j => g (ix2 0 j)) (fun j => sc (ix3 0 0 j)) (fun j => sh (ix3 0 0 j)) k := by
  unfold hid
  unfold_payloads
  pointwise

theorem pay16_apply (h : FVec Ideal S256x1024 .bf16) (w : Vec Ideal S1024x3072 .bf16) (b : Vec Ideal S1x3072 .f32) (r : Fin 256) (n : Fin 3072) :
    k0_pay16 h w b (ix2 r n) = gelu2 (lin (fun k => h (ix2 r k)) (fun k => w (ix2 k n)) (b (ix2 0 n))) := by
  unfold gelu2 lin
  rw [← a3_16, ← a1_16]
  unfold_payloads
  pointwise
  rfl

theorem pay17_apply (h : FVec Ideal S256x1024 .bf16) (w : Vec Ideal S1024x3072 .bf16) (b : Vec Ideal S1x3072 .f32) (r : Fin 256) (n : Fin 3072) :
    k0_pay17 h w b (ix2 r n) = gelu2 (lin (fun k => h (ix2 r k)) (fun k => w (ix2 k n)) (b (ix2 0 n))) := by
  unfold gelu2 lin
  rw [← a3_32, ← a1_32]
  unfold_payloads
  pointwise
  rfl

theorem pay20_apply (v : FVec Ideal S256x3072 .f32) (s c : FVec Ideal S256x1 .f32) (g b : Vec Ideal S1x3072 .f32) (r : Fin 256) (n : Fin 3072)
    (hs : s (ix2 r 0) = ∑ j, v (ix2 r j)) (hc : c (ix2 r 0) = Ideal.ofBits .f32 0x45400000#32) :
    k0_pay20 v s c g b (ix2 r n) = lnorm (fun j => v (ix2 r j)) (fun j => g (ix2 0 j)) (fun j => b (ix2 0 j)) n := by
  unfold lnorm
  rw [← hs]
  unfold_payloads
  pointwise
  rw [hc]

theorem pay18_apply (h : FVec Ideal S256x1024 .bf16) (w : Vec Ideal S1024x3072 .bf16) (b : Vec Ideal S1x3072 .f32) (r : Fin 256) :
    k0_pay18 h w b (ix2 r 0) = ∑ j, k0_pay17 h w b (ix2 r j) := by
  unfold k0_pay18
  pointwise

theorem pay29_apply (x : Vec Ideal S256x1024 .f32) (p : FVec Ideal S256x3072 .bf16) (w : Vec Ideal S3072x1024 .bf16)
    (g : Vec Ideal S1x1x1024 .f32) (r : Fin 256) (n : Fin 1024) :
    k0_pay29 x p w g (ix2 r n) = out (x (ix2 r n)) (g (ix3 0 0 n)) (fun j => p (ix2 r j)) (fun j => w (ix2 j n)) := by
  unfold out
  unfold_payloads
  pointwise

/-! ### The mask of the weights -/

theorem rowChunk (i j : Fin 128) : k0_pay2 (ix2 i j) = BitVec.ofNat 32 (i.val / 64) := by
  unfold_payloads
  pointwise
  revert i
  decide +kernel

theorem keep_apply (i j : Fin 128) : k0_pay6 k0_pay2 k0_pay3 k0_pay4 k0_pay5 (ix2 i j) = if keep i j then 1#1 else 0#1 := by
  have e : k0_pay6 k0_pay2 k0_pay3 k0_pay4 k0_pay5 (ix2 i j) = IntOp.cmpi .sle (BitVec.ofNat 32 (j.val / 64)) (k0_pay2 (ix2 i j)) := by
    rw [k0_pay6, k0_pay3, k0_pay4, k0_pay5]
    pointwise
    generalize k0_pay2 (ix2 i j) = y
    refine congrArg (IntOp.cmpi .sle · y) ?_
    revert j
    decide +kernel
  have two : ∀ a b : Fin 2, IntOp.cmpi .sle (BitVec.ofNat 32 b.val) (BitVec.ofNat 32 a.val) = if b.val ≤ a.val then 1#1 else 0#1 := by decide
  rw [e, rowChunk]
  exact two ⟨i.val / 64, by omega⟩ ⟨j.val / 64, by omega⟩

/-- A group's weight after the mask. -/
theorem masked_apply (w : Vec Ideal S1x128x128 .f32) (i j : Fin 128) :
    k0_pay7 k0_pay2 k0_pay3 k0_pay4 k0_pay5 w (ix2 i j) = if keep i j then w (ix3 0 i j) else 0 := by
  have e : k0_pay7 k0_pay2 k0_pay3 k0_pay4 k0_pay5 w (ix2 i j)
      = Scalar.select (k0_pay6 k0_pay2 k0_pay3 k0_pay4 k0_pay5 (ix2 i j)) (w (ix3 0 i j)) 0 := by
    unfold k0_pay7
    pointwise
  rw [e, keep_apply]
  split <;> rfl

/-! ### The mixing of a chunk's positions -/

theorem slices_group : ∀ (b : Fin 2) (g : Fin 8), S256x3072.Slices ![128 * b.val, 384 * g.val] S128x384 := by decide

/-- One chunk's group of columns, mixed. -/
def group {F : FTy → Type} [FloatOps F] (b : Fin 2) (g : Fin 8) (wm : FVec F S128x128 .bf16) (v : FVec F S256x3072 .bf16) (bg : Vec F S128x1 .f32) :
    FVec F S128x384 .f32 :=
  addf (matmul dot_S128x128_S128x384_S128x384_1_0_0_1_n_n none wm (extractStridedSlice S128x384 ![128 * b.val, 384 * g.val] v (slices_group b g))
    (constant S128x384 .f32 0x00000000#32)) (broadcastTo S128x384 (shapeCast S128x1 bg shapeCasts_S128x1_S128x1) broadcasts_S128x1_S128x384)

/-- One chunk, mixed: its eight groups of columns beside each other. -/
def chunk {F : FTy → Type} [FloatOps F] (b : Fin 2) (wm : Fin 8 → FVec F S128x128 .bf16) (v : FVec F S256x3072 .bf16)
    (bs : Fin 8 → Vec F S128x1 .f32) : FVec F S128x3072 .f32 :=
  concatenate S128x3072 1 (List.ofFn fun g : Fin 8 => ⟨S128x384, group b g (wm g) v (bs g)⟩)
    concatenates_S128x384_S128x384_S128x384_S128x384_S128x384_S128x384_S128x384_S128x384_S128x3072_d1

/-- Two chunks of rows, mixed and multiplied into the gate half. -/
def mixed {F : FTy → Type} [FloatOps F] (wm : Fin 8 → FVec F S128x128 .bf16) (u v : FVec F S256x3072 .bf16)
    (bs : Fin 8 → Vec F S128x1 .f32) : FVec F S256x3072 .bf16 :=
  mulf u (truncf .bf16 (concatenate S256x3072 0 (List.ofFn fun b : Fin 2 => ⟨S128x3072, chunk b wm v bs⟩)
    concatenates_S128x3072_S128x3072_S256x3072_d0) bitsLt_bf16_f32)

theorem group_apply (b : Fin 2) (g : Fin 8) (wm : FVec Ideal S128x128 .bf16) (v : FVec Ideal S256x3072 .bf16) (bg : Vec Ideal S128x1 .f32)
    (i : Fin 128) (c : Fin 384) : group b g wm v bg (ix2 i c)
      = (∑ j : Fin 128, wm (ix2 i j) * v (ix2 ⟨128 * b.val + j.val, by omega⟩ (col g c))) + bg (ix2 i 0) := by
  rw [show col g c = ⟨384 * g.val + c.val, by omega⟩ from
    Fin.ext (show g.val * 384 + c.val = 384 * g.val + c.val by omega)]
  unfold group
  pointwise

theorem chunk_apply (b : Fin 2) (wm : Fin 8 → FVec Ideal S128x128 .bf16) (v : FVec Ideal S256x3072 .bf16) (bs : Fin 8 → Vec Ideal S128x1 .f32)
    (i : Fin 128) (g : Fin 8) (c : Fin 384) : chunk b wm v bs (ix2 i (col g c)) = group b g (wm g) v (bs g) (ix2 i c) := by
  unfold chunk
  refine concatenate_ofFn_apply (t := S128x3072) (s₁ := S128x384) 1 (fun g : Fin 8 => group b g (wm g) v (bs g)) _ rfl 384 rfl _ g ?_ (ix2 i c) ?_ ?_
  · show (g.val * 384 + c.val) / 384 = g.val
    omega
  · show c.val = (g.val * 384 + c.val) % 384
    omega
  · intro a ha
    fin_cases a
    · rfl
    · exact absurd rfl ha

theorem mixed_apply (wm : Fin 8 → FVec Ideal S128x128 .bf16) (u v : FVec Ideal S256x3072 .bf16) (bs : Fin 8 → Vec Ideal S128x1 .f32)
    (b : Fin 2) (i : Fin 128) (n : Fin 3072) : mixed wm u v bs (ix2 ⟨128 * b.val + i.val, by omega⟩ n)
      = u (ix2 ⟨128 * b.val + i.val, by omega⟩ n) * chunk b wm v bs (ix2 i n) := by
  have e : concatenate S256x3072 0 (List.ofFn fun b : Fin 2 => (⟨S128x3072, chunk b wm v bs⟩ : (s : Shape) × (s.Idx → EReal)))
      concatenates_S128x3072_S128x3072_S256x3072_d0 (ix2 ⟨128 * b.val + i.val, by omega⟩ n) = chunk b wm v bs (ix2 i n) := by
    refine concatenate_ofFn_apply (t := S256x3072) (s₁ := S128x3072) 0 (fun b : Fin 2 => chunk b wm v bs) _ rfl 128 rfl _ b ?_ (ix2 i n) ?_ ?_
    · show (128 * b.val + i.val) / 128 = b.val
      omega
    · show i.val = (128 * b.val + i.val) % 128
      omega
    · intro a ha
      fin_cases a
      · exact absurd rfl ha
      · rfl
  exact congrArg (u (ix2 ⟨128 * b.val + i.val, by omega⟩ n) * ·) e

/-! ### One half of a point's rows -/

/-- The eight groups' weights after the mask, and their biases. -/
def weights {F : FTy → Type} [FloatOps F] [Named F] (x9 : Vec F S8x128x128 .f32) (g : Fin 8) : FVec F S128x128 .bf16 :=
  k0_pay7 k0_pay2 k0_pay3 k0_pay4 k0_pay5 ((![View.ld x9 r0_0, View.ld x9 r0_1, View.ld x9 r0_2, View.ld x9 r0_3, View.ld x9 r0_4,
    View.ld x9 r0_5, View.ld x9 r0_6, View.ld x9 r0_7] : Fin 8 → Vec F S1x128x128 .f32) g)

def biases {F : FTy → Type} (x10 : Vec F S128x8 .f32) : Fin 8 → Vec F S128x1 .f32 :=
  ![View.ld x10 r0_16, View.ld x10 r0_17, View.ld x10 r0_18, View.ld x10 r0_19, View.ld x10 r0_20, View.ld x10 r0_21, View.ld x10 r0_22,
    View.ld x10 r0_23]

section Half

variable {F : FTy → Type} [FloatOps F] [Named F] (x : Vec F S256x1024 .f32) (x1 : Vec F S1x1024 .f32) (x2 x3 x4 : Vec F S1x1x1024 .f32)
  (x5 : Vec F S1024x6144 .bf16) (x6 : Vec F S1x6144 .f32) (x7 x8 : Vec F S1x3072 .f32) (x9 : Vec F S8x128x128 .f32) (x10 : Vec F S128x8 .f32)
  (x11 : Vec F S3072x1024 .bf16)

def halfH : FVec F S256x1024 .bf16 := k0_pay15 x (View.ld x1 r0_9) (View.ld x2 r0_10) (View.ld x3 r0_10)

def halfU : FVec F S256x3072 .bf16 := k0_pay16 (halfH x x1 x2 x3) (View.ld x5 r0_11) (View.ld x6 r0_12)

def halfV : FVec F S256x3072 .bf16 :=
  k0_pay20 (k0_pay17 (halfH x x1 x2 x3) (View.ld x5 r0_13) (View.ld x6 r0_14)) (k0_pay18 (halfH x x1 x2 x3) (View.ld x5 r0_13) (View.ld x6 r0_14))
    k0_pay19 (View.ld x7 r0_15) (View.ld x8 r0_15)

/-- Half of a point's block of the result, from the half's rows and the point's other blocks. -/
def half : FVec F S256x1024 .f32 :=
  k0_pay29 x (mixed (weights x9) (halfU x x1 x2 x3 x5 x6) (halfV x x1 x2 x3 x5 x6 x7 x8) (biases x10)) (View.ld x11 r0_24) (View.ld x4 r0_10)

/-- A point stores its two halves. -/
theorem out_eq (x0 : Vec F S512x1024 .f32) : out0_12 x0 x1 x2 x3 x4 x5 x6 x7 x8 x9 x10 x11
    = View.canon [⟨r0_25, half (View.ld x0 r0_25) x1 x2 x3 x4 x5 x6 x7 x8 x9 x10 x11⟩,
        ⟨r0_8, half (View.ld x0 r0_8) x1 x2 x3 x4 x5 x6 x7 x8 x9 x10 x11⟩] := rfl

end Half

/-! ### What a point reads of its blocks -/

theorem ld_gain (x1 : Vec Ideal S1x1024 .f32) (k : Fin 1024) : View.ld x1 r0_9 (ix2 0 k) = x1 (ix2 0 k) := by
  pointwise
theorem ld_mod (x : Vec Ideal S1x1x1024 .f32) (k : Fin 1024) : View.ld x r0_10 (ix3 0 0 k) = x (ix3 0 0 k) := by
  pointwise
theorem ld_wlo (x5 : Vec Ideal S1024x6144 .bf16) (k : Fin 1024) (n : Fin 3072) : View.ld x5 r0_11 (ix2 k n) = x5 (ix2 k (lo n)) := by
  pointwise [lo]
theorem ld_blo (x6 : Vec Ideal S1x6144 .f32) (n : Fin 3072) : View.ld x6 r0_12 (ix2 0 n) = x6 (ix2 0 (lo n)) := by
  pointwise [lo]
theorem ld_whi (x5 : Vec Ideal S1024x6144 .bf16) (k : Fin 1024) (n : Fin 3072) : View.ld x5 r0_13 (ix2 k n) = x5 (ix2 k (hi n)) := by
  pointwise [hi]
theorem ld_bhi (x6 : Vec Ideal S1x6144 .f32) (n : Fin 3072) : View.ld x6 r0_14 (ix2 0 n) = x6 (ix2 0 (hi n)) := by
  pointwise [hi]
theorem ld_ln (x : Vec Ideal S1x3072 .f32) (n : Fin 3072) : View.ld x r0_15 (ix2 0 n) = x (ix2 0 n) := by
  pointwise
theorem ld_wout (x11 : Vec Ideal S3072x1024 .bf16) (n : Fin 3072) (k : Fin 1024) : View.ld x11 r0_24 (ix2 n k) = x11 (ix2 n k) := by
  pointwise

theorem weights_apply (x9 : Vec Ideal S8x128x128 .f32) (g : Fin 8) (i j : Fin 128) :
    weights x9 g (ix2 i j) = if keep i j then x9 (ix3 g i j) else 0 := by
  refine (masked_apply _ i j).trans (congrArg (fun y : EReal => if keep i j then y else 0) ?_)
  fin_cases g <;> (simp only []; pointwise)

theorem biases_apply (x10 : Vec Ideal S128x8 .f32) (g : Fin 8) (i : Fin 128) : biases x10 g (ix2 i 0) = x10 (ix2 i g) := by
  unfold biases
  fin_cases g <;> (simp only []; pointwise)

/-! ### Half of a point's block is the unit of its two chunks -/

section Value

variable {x : Vec Ideal S256x1024 .f32} {x1 : Vec Ideal S1x1024 .f32} {x2 x3 x4 : Vec Ideal S1x1x1024 .f32}
  {x5 : Vec Ideal S1024x6144 .bf16} {x6 : Vec Ideal S1x6144 .f32} {x7 x8 : Vec Ideal S1x3072 .f32} {x9 : Vec Ideal S8x128x128 .f32}
  {x10 : Vec Ideal S128x8 .f32} {x11 : Vec Ideal S3072x1024 .bf16}
  {X : Fin 128 → Fin 1024 → EReal} {gain sc sh gate : Fin 1024 → EReal} {w5 : Fin 1024 → Fin 6144 → EReal} {b6 : Fin 6144 → EReal}
  {g7 b8 : Fin 3072 → EReal} {w9 : Fin 8 → Fin 128 → Fin 128 → EReal} {b10 : Fin 8 → Fin 128 → EReal} {w11 : Fin 3072 → Fin 1024 → EReal}
  {b : Fin 2}

/-- The row of a half that position `i` of its chunk `b` is. -/
def at_ (b : Fin 2) (i : Fin 128) : Fin 256 := ⟨128 * b.val + i.val, by omega⟩

variable (hX : ∀ i k, x (ix2 (at_ b i) k) = X i k) (h1 : ∀ k, x1 (ix2 0 k) = gain k) (h2 : ∀ k, x2 (ix3 0 0 k) = sc k)
  (h3 : ∀ k, x3 (ix3 0 0 k) = sh k)

include hX h1 h2 h3

theorem halfH_apply (i : Fin 128) (k : Fin 1024) : halfH x x1 x2 x3 (ix2 (at_ b i) k) = hid (X i) gain sc sh k := by
  refine (pay15_apply _ _ _ _ _ _).trans ?_
  rw [funext (hX i), funext fun k => (ld_gain x1 k).trans (h1 k), funext fun k => (ld_mod x2 k).trans (h2 k),
    funext fun k => (ld_mod x3 k).trans (h3 k)]

variable (h5 : ∀ k n, x5 (ix2 k n) = w5 k n) (h6 : ∀ n, x6 (ix2 0 n) = b6 n)

include h5 h6

theorem halfU_apply (i : Fin 128) (n : Fin 3072) : halfU x x1 x2 x3 x5 x6 (ix2 (at_ b i) n) = act X gain sc sh w5 b6 i (lo n) := by
  refine (pay16_apply _ _ _ _ _).trans ?_
  rw [gelu2_eq, funext (halfH_apply hX h1 h2 h3 i), funext fun k => (ld_wlo x5 k n).trans (h5 k _), (ld_blo x6 n).trans (h6 _)]
  rfl

theorem preV_apply (i : Fin 128) (n : Fin 3072) :
    k0_pay17 (halfH x x1 x2 x3) (View.ld x5 r0_13) (View.ld x6 r0_14) (ix2 (at_ b i) n) = act X gain sc sh w5 b6 i (hi n) := by
  refine (pay17_apply _ _ _ _ _).trans ?_
  rw [gelu2_eq, funext (halfH_apply hX h1 h2 h3 i), funext fun k => (ld_whi x5 k n).trans (h5 k _), (ld_bhi x6 n).trans (h6 _)]
  rfl

variable (h7 : ∀ n, x7 (ix2 0 n) = g7 n) (h8 : ∀ n, x8 (ix2 0 n) = b8 n)

include h7 h8

theorem halfV_apply (i : Fin 128) (n : Fin 3072) : halfV x x1 x2 x3 x5 x6 x7 x8 (ix2 (at_ b i) n)
    = lnorm (fun a => act X gain sc sh w5 b6 i (hi a)) g7 b8 n := by
  refine (pay20_apply _ _ _ _ _ _ _ (pay18_apply _ _ _ _) ?_).trans ?_
  · unfold k0_pay19
    pointwise
  · rw [funext (preV_apply hX h1 h2 h3 h5 h6 i), funext fun k => (ld_ln x7 k).trans (h7 k), funext fun k => (ld_ln x8 k).trans (h8 k)]

variable (h4 : ∀ k, x4 (ix3 0 0 k) = gate k) (h9 : ∀ g i j, x9 (ix3 g i j) = w9 g i j) (h10 : ∀ g i, x10 (ix2 i g) = b10 g i)
  (h11 : ∀ n k, x11 (ix2 n k) = w11 n k)

include h9 h10

theorem chunk_mixing (i : Fin 128) (n : Fin 3072) :
    chunk b (weights x9) (halfV x x1 x2 x3 x5 x6 x7 x8) (biases x10) (ix2 i n) = mixing X gain sc sh w5 b6 g7 b8 w9 b10 i n := by
  have e : chunk b (weights x9) (halfV x x1 x2 x3 x5 x6 x7 x8) (biases x10) (ix2 i (col (grp n) ⟨n.val % 384, by omega⟩))
      = mix i (w9 (grp n) i) (fun j => lnorm (fun a => act X gain sc sh w5 b6 j (hi a)) g7 b8 (col (grp n) ⟨n.val % 384, by omega⟩))
        (b10 (grp n) i) := by
    refine (chunk_apply b _ _ _ i (grp n) ⟨n.val % 384, by omega⟩).trans ((group_apply _ _ _ _ _ _ _).trans ?_)
    unfold mix
    rw [biases_apply, h10]
    refine congrArg (· + _) (Finset.sum_congr rfl fun j _ => ?_)
    rw [weights_apply, h9]
    exact congrArg (_ * ·) (halfV_apply hX h1 h2 h3 h5 h6 h7 h8 j _)
  rw [col_grp] at e
  exact e

include h4 h11

theorem half_apply (i : Fin 128) (k : Fin 1024) : half x x1 x2 x3 x4 x5 x6 x7 x8 x9 x10 x11 (ix2 (at_ b i) k)
    = unit X gain sc sh gate w5 b6 g7 b8 w9 b10 w11 i k := by
  refine (pay29_apply _ _ _ _ _ _).trans ?_
  unfold unit
  rw [hX, (ld_mod x4 k).trans (h4 k), funext fun n => (ld_wout x11 n k).trans (h11 n k)]
  refine congrArg (fun p => out (X i k) (gate k) p fun n => w11 n k) (funext fun n => ?_)
  refine (mixed_apply (weights x9) (halfU x x1 x2 x3 x5 x6) (halfV x x1 x2 x3 x5 x6 x7 x8) (biases x10) b i n).trans ?_
  rw [chunk_mixing hX h1 h2 h3 h5 h6 h7 h8 h9 h10 i n]
  exact congrArg (· * _) (halfU_apply hX h1 h2 h3 h5 h6 i n)

end Value

end Cert.SguIdeal.Pay
-- ==== Proof.Sgu.Blocks.lean ====
/- What a point of the spatial-gating kernel finds in its windows: 512 rows, its batch's modulation and gate, and the whole weights. -/
module

public import proofs.«01_k».proof.Proof.Gen.SguIdeal.Value
public import proofs.«01_k».proof.Proof.Sgu.Pay
public import Idealize.ShloMosaic.Lib.StableHlo.ReadAt
public import Idealize.ShloMosaic.Lib.Tactic
public import Idealize.ShloMosaic.Lib.Pipeline.ValueKit.Point

@[expose] public section

set_option maxRecDepth 65536
set_option maxHeartbeats 1000000

noncomputable section

namespace Cert.SguIdeal.Block

open Idealize.ShloMosaic Idealize.ShloMosaic.TcCoe Idealize.ShloMosaic.Tactic
open Cert.SguIdeal Cert.SguIdeal.Gen Cert.Sgu.Rows Cert.SguIdeal.Pay

variable (m : (ℓ : Loc nD τ sig) → Buf (Elt Ideal) ℓ) (c : Dev nD)

/-! ### The arguments, by their coordinates -/

abbrev rows (R : Fin 16384) (k : Fin 1024) : EReal := (m ((c.tc : Thread nD τ).loc main_arg0) : Vec Ideal S16384x1024 .f32) (ix2 R k)
abbrev gain (k : Fin 1024) : EReal := (m ((c.tc : Thread nD τ).loc main_arg1) : Vec Ideal S1024 .f32) (ix1 k)
abbrev shift (b : Fin 2) (k : Fin 1024) : EReal := (m ((c.tc : Thread nD τ).loc main_arg2) : Vec Ideal S2x1x1024 .f32) (ix3 b 0 k)
abbrev scale (b : Fin 2) (k : Fin 1024) : EReal := (m ((c.tc : Thread nD τ).loc main_arg3) : Vec Ideal S2x1x1024 .f32) (ix3 b 0 k)
abbrev gate (b : Fin 2) (k : Fin 1024) : EReal := (m ((c.tc : Thread nD τ).loc main_arg4) : Vec Ideal S2x1x1024 .f32) (ix3 b 0 k)
abbrev win (k : Fin 1024) (n : Fin 6144) : EReal := (m ((c.tc : Thread nD τ).loc main_arg5) : Vec Ideal S1024x6144 .f32) (ix2 k n)
abbrev bin (n : Fin 6144) : EReal := (m ((c.tc : Thread nD τ).loc main_arg6) : Vec Ideal S6144 .f32) (ix1 n)
abbrev lng (n : Fin 3072) : EReal := (m ((c.tc : Thread nD τ).loc main_arg7) : Vec Ideal S3072 .f32) (ix1 n)
abbrev lnb (n : Fin 3072) : EReal := (m ((c.tc : Thread nD τ).loc main_arg8) : Vec Ideal S3072 .f32) (ix1 n)
abbrev wsp (g : Fin 8) (i j : Fin 128) : EReal := (m ((c.tc : Thread nD τ).loc main_arg9) : Vec Ideal S8x128x128 .f32) (ix3 g i j)
abbrev bsp (g : Fin 8) (i : Fin 128) : EReal := (m ((c.tc : Thread nD τ).loc main_arg10) : Vec Ideal S8x128 .f32) (ix2 g i)
abbrev wout (n : Fin 3072) (k : Fin 1024) : EReal := (m ((c.tc : Thread nD τ).loc main_arg11) : Vec Ideal S3072x1024 .f32) (ix2 n k)

/-! ### The arrays the host computes -/

theorem host_gain (k : Fin 1024) : (V m c main_v0 : Vec Ideal S1x1024 .f32) (ix2 0 k) = gain m c k := by
  unfold V
  after_reads_at
theorem host_win (k : Fin 1024) (n : Fin 6144) : (V m c main_v1 : Vec Ideal S1024x6144 .bf16) (ix2 k n) = win m c k n := by
  unfold V
  after_reads_at
theorem host_bin (n : Fin 6144) : (V m c main_v2 : Vec Ideal S1x6144 .f32) (ix2 0 n) = bin m c n := by
  unfold V
  after_reads_at
theorem host_lng (n : Fin 3072) : (V m c main_v3 : Vec Ideal S1x3072 .f32) (ix2 0 n) = lng m c n := by
  unfold V
  after_reads_at
theorem host_lnb (n : Fin 3072) : (V m c main_v4 : Vec Ideal S1x3072 .f32) (ix2 0 n) = lnb m c n := by
  unfold V
  after_reads_at
theorem host_bsp (g : Fin 8) (i : Fin 128) : (V m c main_v5 : Vec Ideal S128x8 .f32) (ix2 i g) = bsp m c g i := by
  unfold V
  after_reads_at
theorem host_wout (n : Fin 3072) (k : Fin 1024) : (V m c main_v6 : Vec Ideal S3072x1024 .bf16) (ix2 n k) = wout m c n k := by
  unfold V
  after_reads_at

/-! ### A point's blocks -/

theorem idx_rows : ∀ t : Fin cfg0.N, win0_0.index t = ![t.val, 0] ∧ win0_12.index t = ![t.val, 0] := by decide +kernel
theorem idx_batch : ∀ t : Fin cfg0.N, win0_2.index t = ![t.val / 16, 0, 0] ∧ win0_3.index t = ![t.val / 16, 0, 0]
    ∧ win0_4.index t = ![t.val / 16, 0, 0] := by decide +kernel
theorem idx_whole : ∀ t : Fin cfg0.N, win0_1.index t = ![0, 0] ∧ win0_5.index t = ![0, 0] ∧ win0_6.index t = ![0, 0]
    ∧ win0_7.index t = ![0, 0] ∧ win0_8.index t = ![0, 0] ∧ win0_9.index t = ![0, 0, 0] ∧ win0_10.index t = ![0, 0]
    ∧ win0_11.index t = ![0, 0] := by decide +kernel

theorem blk_rows (t : Fin cfg0.N) (r : Fin 512) (k : Fin 1024) (R : Fin 16384) (hR : R.val = t.val * 512 + r.val) :
    (iblk m c 0 t : Vec Ideal S512x1024 .f32) (ix2 r k) = rows m c R k := by
  blk_ext [iblk, V, idx_rows t]
theorem blk_gain (t : Fin cfg0.N) (k : Fin 1024) : (iblk m c 1 t : Vec Ideal S1x1024 .f32) (ix2 0 k) = gain m c k := by
  rw [← host_gain m c k]
  blk_ext [iblk, idx_whole t]
theorem blk_scale (t : Fin cfg0.N) (k : Fin 1024) (b : Fin 2) (hb : b.val = t.val / 16) :
    (iblk m c 2 t : Vec Ideal S1x1x1024 .f32) (ix3 0 0 k) = scale m c b k := by
  blk_ext [iblk, V, idx_batch t]
theorem blk_shift (t : Fin cfg0.N) (k : Fin 1024) (b : Fin 2) (hb : b.val = t.val / 16) :
    (iblk m c 3 t : Vec Ideal S1x1x1024 .f32) (ix3 0 0 k) = shift m c b k := by
  blk_ext [iblk, V, idx_batch t]
theorem blk_gate (t : Fin cfg0.N) (k : Fin 1024) (b : Fin 2) (hb : b.val = t.val / 16) :
    (iblk m c 4 t : Vec Ideal S1x1x1024 .f32) (ix3 0 0 k) = gate m c b k := by
  blk_ext [iblk, V, idx_batch t]
theorem blk_win (t : Fin cfg0.N) (k : Fin 1024) (n : Fin 6144) : (iblk m c 5 t : Vec Ideal S1024x6144 .bf16) (ix2 k n) = win m c k n := by
  rw [← host_win m c k n]
  blk_ext [iblk, idx_whole t]
theorem blk_bin (t : Fin cfg0.N) (n : Fin 6144) : (iblk m c 6 t : Vec Ideal S1x6144 .f32) (ix2 0 n) = bin m c n := by
  rw [← host_bin m c n]
  blk_ext [iblk, idx_whole t]
theorem blk_lng (t : Fin cfg0.N) (n : Fin 3072) : (iblk m c 7 t : Vec Ideal S1x3072 .f32) (ix2 0 n) = lng m c n := by
  rw [← host_lng m c n]
  blk_ext [iblk, idx_whole t]
theorem blk_lnb (t : Fin cfg0.N) (n : Fin 3072) : (iblk m c 8 t : Vec Ideal S1x3072 .f32) (ix2 0 n) = lnb m c n := by
  rw [← host_lnb m c n]
  blk_ext [iblk, idx_whole t]
theorem blk_wsp (t : Fin cfg0.N) (g : Fin 8) (i j : Fin 128) : (iblk m c 9 t : Vec Ideal S8x128x128 .f32) (ix3 g i j) = wsp m c g i j := by
  blk_ext [iblk, V, idx_whole t]
theorem blk_bsp (t : Fin cfg0.N) (g : Fin 8) (i : Fin 128) : (iblk m c 10 t : Vec Ideal S128x8 .f32) (ix2 i g) = bsp m c g i := by
  rw [← host_bsp m c g i]
  blk_ext [iblk, idx_whole t]
theorem blk_wout (t : Fin cfg0.N) (n : Fin 3072) (k : Fin 1024) : (iblk m c 11 t : Vec Ideal S3072x1024 .bf16) (ix2 n k) = wout m c n k := by
  rw [← host_wout m c n k]
  blk_ext [iblk, idx_whole t]

end Cert.SguIdeal.Block
-- ==== Proof.Sgu.Points.lean ====
/- The array the spatial-gating kernel leaves: at every row and column the unit's result, from the arguments. -/
module

public import proofs.«01_k».proof.Proof.Sgu.Blocks

@[expose] public section

set_option maxRecDepth 16384

noncomputable section

namespace Cert.SguIdeal.Block

open Idealize.ShloMosaic Idealize.ShloMosaic.TcCoe Idealize.ShloMosaic.Tactic
open Cert.SguIdeal Cert.SguIdeal.Gen Cert.Sgu.Rows Cert.SguIdeal.Pay

variable (m : (ℓ : Loc nD τ sig) → Buf (Elt Ideal) ℓ) (c : Dev nD)

/-- The batch of a row of the array. -/
def batch (R : Fin 16384) : Fin 2 := ⟨R.val / 8192, by omega⟩

/-- The row that position `i` of the chunk of row `R` is. -/
def mate (R : Fin 16384) (i : Fin 128) : Fin 16384 := ⟨R.val / 128 * 128 + i.val, by omega⟩

/-- The unit's result at row `R` and column `k`. -/
def resultAt (R : Fin 16384) (k : Fin 1024) : EReal :=
  unit (fun i => rows m c (mate R i)) (gain m c) (scale m c (batch R)) (shift m c (batch R)) (gate m c (batch R)) (win m c) (bin m c)
    (lng m c) (lnb m c) (wsp m c) (bsp m c) (wout m c) ⟨R.val % 128, by omega⟩ k

/-- The row of the array that row `r` of half `h` of a point's rows is. -/
def rowOf (t : Fin cfg0.N) (h : Fin 2) (r : Fin 256) : Fin 16384 :=
  ⟨t.val * 512 + (256 * h.val + r.val), by have := lt_of_lt_of_eq t.isLt N_0; omega⟩

theorem half_result (t : Fin cfg0.N) (h : Fin 2) (xh : Vec Ideal S256x1024 .f32)
    (hx : ∀ r k, xh (ix2 r k) = (iblk m c 0 t : Vec Ideal S512x1024 .f32) (ix2 ⟨256 * h.val + r.val, by omega⟩ k)) (r : Fin 256) (k : Fin 1024) :
    half xh (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix2 r k) = resultAt m c (rowOf t h r) k := by
  have ht := lt_of_lt_of_eq t.isLt N_0
  have hr : at_ ⟨r.val / 128, by omega⟩ ⟨r.val % 128, by omega⟩ = r := Fin.ext (show 128 * (r.val / 128) + r.val % 128 = r.val by omega)
  have hb : (batch (rowOf t h r)).val = t.val / 16 := by
    show (t.val * 512 + (256 * h.val + r.val)) / 8192 = t.val / 16
    omega
  have hi : (⟨r.val % 128, by omega⟩ : Fin 128) = ⟨(rowOf t h r).val % 128, by omega⟩ :=
    Fin.ext (show r.val % 128 = (t.val * 512 + (256 * h.val + r.val)) % 128 by omega)
  have e := half_apply (x := xh) (b := ⟨r.val / 128, by omega⟩) (X := fun i => rows m c (mate (rowOf t h r) i))
    (fun i k => (hx _ k).trans (blk_rows m c t _ k _ (by
      show (t.val * 512 + (256 * h.val + r.val)) / 128 * 128 + i.val = t.val * 512 + (256 * h.val + (128 * (r.val / 128) + i.val))
      omega)))
    (blk_gain m c t) (fun k => blk_scale m c t k _ hb) (fun k => blk_shift m c t k _ hb) (blk_win m c t) (blk_bin m c t) (blk_lng m c t)
    (blk_lnb m c t) (fun k => blk_gate m c t k _ hb) (blk_wsp m c t) (blk_bsp m c t) (blk_wout m c t) ⟨r.val % 128, by omega⟩ k
  rw [hr, hi] at e
  exact e

/-- A point's block of the result. -/
theorem block_result (t : Fin cfg0.N) (y : S512x1024.Idx) :
    out0_12 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) y
      = resultAt m c ⟨t.val * 512 + (y 0).val, by have := lt_of_lt_of_eq t.isLt N_0; have : (y 0).val < 512 := (y 0).isLt; omega⟩ (y 1) := by
  rw [out_eq]
  refine View.canon_apply_of_pieces (S := S512x1024) (Val := Elt Ideal) (e := .f32) (fun y => resultAt m c ⟨t.val * 512 + (y 0).val, by
    have := lt_of_lt_of_eq t.isLt N_0; have : (y 0).val < 512 := (y 0).isLt; omega⟩ (y 1)) _ ?_ y ?_
  · intro p hp x
    rcases List.mem_cons.mp hp with rfl | hp
    · rw [show x = ix2 (x 0) (x 1) from eq_ix2 x]
      refine (half_result m c t 1 _ (fun r k => ?_) (x 0) (x 1)).trans ?_
      · pointwise
      · exact congrArg₂ (resultAt m c) (Fin.ext (show t.val * 512 + (256 * 1 + (x 0).val) = t.val * 512 + (256 + 1 * (x 0).val) by omega))
          (Fin.ext (show (x 1).val = 0 + 1 * (x 1).val by omega))
    · obtain rfl := List.mem_singleton.mp hp
      rw [show x = ix2 (x 0) (x 1) from eq_ix2 x]
      refine (half_result m c t 0 _ (fun r k => ?_) (x 0) (x 1)).trans ?_
      · pointwise
      · exact congrArg₂ (resultAt m c) (Fin.ext (show t.val * 512 + (256 * 0 + (x 0).val) = t.val * 512 + (0 + 1 * (x 0).val) by omega))
          (Fin.ext (show (x 1).val = 0 + 1 * (x 1).val by omega))
  · have h0 : (y 0).val < 512 := (y 0).isLt
    have h1 : (y 1).val < 1024 := (y 1).isLt
    by_cases hy : (y 0).val < 256
    · have hm : y ∈ r0_8.set := Rect.mem_set_unit.mpr fun a => by
        fin_cases a
        · exact ⟨Nat.zero_le _, show (y 0).val < 0 + 256 by omega⟩
        · exact ⟨Nat.zero_le _, show (y 1).val < 0 + 1024 by omega⟩
      exact ⟨_, List.mem_cons_of_mem _ (List.mem_singleton_self _), hm⟩
    · have hm : y ∈ r0_25.set := Rect.mem_set_unit.mpr fun a => by
        fin_cases a
        · exact ⟨show 256 ≤ (y 0).val by omega, show (y 0).val < 256 + 256 by omega⟩
        · exact ⟨Nat.zero_le _, show (y 1).val < 0 + 1024 by omega⟩
      exact ⟨_, List.mem_cons_self, hm⟩

/-- The array after the run. -/
theorem array_result : (dats m 0 c).arrAt 12 cfg0.N = (fun i => resultAt m c (i 0) (i 1) : Vec Ideal S16384x1024 .f32) := by
  refine (dats m 0 c).arrAt_eq_of_covers 12 _ (by decide +kernel) fun t hf y => ?_
  blk_simp [idx_rows t]
  rw [after0_12]
  refine (block_result m c t y).trans ?_
  refine congrArg₂ (resultAt m c) (Fin.ext ?_) (Fin.ext ?_)
  · blk_simp [idx_rows t]
  · blk_simp [idx_rows t]

end Cert.SguIdeal.Block
-- ==== Proof.Sgu.Close.lean ====
/- The spatial gating's value claim: kernel and reference give equal results. -/
module

public import proofs.«01_k».proof.Proof.Sgu.Runs
public import proofs.«01_k».proof.Proof.Sgu.Ref
public import proofs.«01_k».proof.Proof.Sgu.Points

@[expose] public section

set_option maxRecDepth 16384

noncomputable section

namespace Cert.SguRefIdeal.Read

open Idealize.ShloMosaic Cert.SguRefIdeal Cert.SguRefIdeal.Gen Cert.Sgu.Rows

/-- The reference's result at position `i` of chunk `q` of batch `b`. -/
theorem unit_apply (x0 : FVec Ideal S16384x1024 .f32) (x1 : FVec Ideal S1024 .f32) (x2 x3 x4 : FVec Ideal S2x1x1024 .f32)
    (x5 : FVec Ideal S1024x6144 .f32) (x6 : FVec Ideal S6144 .f32) (x7 x8 : FVec Ideal S3072 .f32)
    (x9 : FVec Ideal S8x128x128 .f32) (x10 : FVec Ideal S8x128 .f32) (x11 : FVec Ideal S3072x1024 .f32)
    (b : Fin 2) (q : Fin 64) (i : Fin 128) (k : Fin 1024) :
    val_main_v85 (F := Ideal) x0 x1 x2 x3 x4 x5 x6 x7 x8 x9 x10 x11 (ix2 (row b (pos q i)) k)
      = unit (fun i k => x0 (ix2 (row b (pos q i)) k)) (fun k => x1 (ix1 k)) (fun k => x3 (ix3 b 0 k)) (fun k => x2 (ix3 b 0 k))
        (fun k => x4 (ix3 b 0 k)) (fun k n => x5 (ix2 k n)) (fun n => x6 (ix1 n)) (fun n => x7 (ix1 n)) (fun n => x8 (ix1 n))
        (fun g i j => x9 (ix3 g i j)) (fun g i => x10 (ix2 g i)) (fun n k => x11 (ix2 n k)) i k := by
  have ha : ∀ (i : Fin 128) (n : Fin 6144), val_main_v36 (F := Ideal) x0 x1 x2 x3 x5 x6 (ix3 b (pos q i) n)
      = act (fun i k => x0 (ix2 (row b (pos q i)) k)) (fun k => x1 (ix1 k)) (fun k => x3 (ix3 b 0 k)) (fun k => x2 (ix3 b 0 k))
        (fun k n => x5 (ix2 k n)) (fun n => x6 (ix1 n)) i n := fun i n => by
    rw [v36_apply, funext (v19_apply x0 x1 x2 x3 b (pos q i))]
    rfl
  have hm : ∀ n : Fin 3072, val_main_v79 (F := Ideal) x0 x1 x2 x3 x5 x6 x7 x8 x9 x10 (ix3 b (pos q i) n)
      = mixing (fun i k => x0 (ix2 (row b (pos q i)) k)) (fun k => x1 (ix1 k)) (fun k => x3 (ix3 b 0 k)) (fun k => x2 (ix3 b 0 k))
        (fun k n => x5 (ix2 k n)) (fun n => x6 (ix1 n)) (fun n => x7 (ix1 n)) (fun n => x8 (ix1 n))
        (fun g i j => x9 (ix3 g i j)) (fun g i => x10 (ix2 g i)) i n := fun n => by
    have e := (v79_apply x0 x1 x2 x3 x5 x6 x7 x8 x9 x10 b q i (grp n) ⟨n.val % 384, by omega⟩).trans
      (v78_apply x0 x1 x2 x3 x5 x6 x7 x8 x9 x10 b q i (grp n) ⟨n.val % 384, by omega⟩)
    rw [col_grp] at e
    rw [e]
    unfold mixing
    refine congrArg (fun v => mix i _ v _) (funext fun j => ?_)
    rw [v60_apply]
    exact congrArg (fun v => lnorm v _ _ n) (funext fun a => (v38_apply x0 x1 x2 x3 x5 x6 b (pos q j) a).trans (ha j (hi a)))
  rw [v85_apply, v84_apply]
  unfold unit
  refine congrArg (fun p => out _ _ p _) (funext fun n => ?_)
  rw [hm, v37_apply]
  exact congrArg (· * _) (ha i (lo n))

end Cert.SguRefIdeal.Read

namespace Cert.Sgu.Close

open Idealize.ShloMosaic Idealize.ShloMosaic.TcCoe Idealize.SL.Sem Cert.Sgu.Rows

theorem algebraic : Cert.algebraic_SguIdeal_SguRefIdeal := by
  intro m g m' g' _ hargs
  refine ⟨fun c => (Cert.SguIdeal.Gen.dats m 0 c).arrAt 12 Cert.SguIdeal.cfg0.N,
    (θ_run Cert.SguIdeal.defs _ _).mono (fun r h c => h c) (Cert.SguIdeal.Value.run_blocks (F := Ideal) m g), ?_⟩
  refine (θ_run Cert.SguRefIdeal.defs _ _).mono (fun r h c => ⟨(h c).1.trans ?_, (h c).2⟩) (Cert.SguRefIdeal.Value.run (F := Ideal) m' g')
  obtain ⟨e0, e1, e2, e3, e4, e5, e6, e7, e8, e9, e10, e11⟩ := hargs c
  refine Eq.trans ?_ (Cert.SguIdeal.Block.array_result m c).symm
  refine (Cert.SguRefIdeal.Read.val_main_v85_eq m' c).trans ?_
  rw [e0, e1, e2, e3, e4, e5, e6, e7, e8, e9, e10, e11]
  funext i
  have h0 : (i 0).val < 16384 := (i 0).isLt
  have hr : Cert.SguRefIdeal.Read.row (Cert.SguIdeal.Block.batch (i 0))
      (Cert.SguRefIdeal.Read.pos ⟨(i 0).val % 8192 / 128, by omega⟩ ⟨(i 0).val % 128, by omega⟩) = i 0 :=
    Fin.ext (show (i 0).val / 8192 * 8192 + ((i 0).val % 8192 / 128 * 128 + (i 0).val % 128) = (i 0).val by omega)
  have hm : ∀ j : Fin 128, Cert.SguRefIdeal.Read.row (Cert.SguIdeal.Block.batch (i 0))
      (Cert.SguRefIdeal.Read.pos ⟨(i 0).val % 8192 / 128, by omega⟩ j) = Cert.SguIdeal.Block.mate (i 0) j := fun j =>
    Fin.ext (show (i 0).val / 8192 * 8192 + ((i 0).val % 8192 / 128 * 128 + j.val) = (i 0).val / 128 * 128 + j.val by omega)
  have e := Cert.SguRefIdeal.Read.unit_apply (m ((c.tc : Thread _ _).loc Cert.SguIdeal.main_arg0)) (m ((c.tc : Thread _ _).loc Cert.SguIdeal.main_arg1))
    (m ((c.tc : Thread _ _).loc Cert.SguIdeal.main_arg2)) (m ((c.tc : Thread _ _).loc Cert.SguIdeal.main_arg3))
    (m ((c.tc : Thread _ _).loc Cert.SguIdeal.main_arg4)) (m ((c.tc : Thread _ _).loc Cert.SguIdeal.main_arg5))
    (m ((c.tc : Thread _ _).loc Cert.SguIdeal.main_arg6)) (m ((c.tc : Thread _ _).loc Cert.SguIdeal.main_arg7))
    (m ((c.tc : Thread _ _).loc Cert.SguIdeal.main_arg8)) (m ((c.tc : Thread _ _).loc Cert.SguIdeal.main_arg9))
    (m ((c.tc : Thread _ _).loc Cert.SguIdeal.main_arg10)) (m ((c.tc : Thread _ _).loc Cert.SguIdeal.main_arg11))
    (Cert.SguIdeal.Block.batch (i 0)) ⟨(i 0).val % 8192 / 128, by omega⟩ ⟨(i 0).val % 128, by omega⟩ (i 1)
  simp only [hm] at e
  rw [show Cert.SguIdeal.Block.mate (i 0) ⟨(i 0).val % 128, by omega⟩ = i 0 from (hm _).symm.trans hr] at e
  rw [show i = ix2 (i 0) (i 1) from eq_ix2 i]
  exact e

end Cert.Sgu.Close

end
-- ==== Proof.Inproj.Runs.lean ====
/- The claims about the input projection that compare no values: each program runs to its end, and what the named constants keep. -/
module

public import proofs.«01_k».proof.Defs
public import proofs.«01_k».proof.Proof.Gen.Inproj.Frame
public import proofs.«01_k».proof.Proof.Gen.InprojIdeal.Frame
public import proofs.«01_k».proof.Proof.Gen.InprojRefIdeal.Run
public import Idealize.ShloMosaic.Adequacy
public import Idealize.ShloMosaic.Init

@[expose] public section

set_option maxRecDepth 16384

noncomputable section

namespace Cert.Inproj.Runs

open Idealize.ShloMosaic Idealize.ShloMosaic.TcCoe Idealize.SL.Sem

theorem frame_p : Cert.quiescent_Inproj := fun m ρ _ => Cert.Inproj.Gen.frame m ρ
theorem frame_pi : Cert.quiescent_InprojIdeal := fun m ρ _ => Cert.InprojIdeal.Gen.frame m ρ
theorem frame_ri : Cert.quiescent_InprojRefIdeal := fun m ρ _ =>
  (θ_run Cert.InprojRefIdeal.defs _ _).mono (fun r h => ⟨fun c => (h c).2.2.2.2, Idealize.ShloMosaic.sem_eq_zero_of_no_sems (by decide) r.2⟩)
    (Cert.InprojRefIdeal.Value.run (F := Ideal) m ρ)

theorem preserves : Cert.preserves_Inproj_InprojIdeal := trivial

end Cert.Inproj.Runs

end
-- ==== Proof.Inproj.Rows.lean ====
/- The input projection of one row, in plain sums: the normalised row's product with a column of the weights, and the rotation
   of a pair of such products by an angle. Kernel and reference are both read as these functions. -/
module

public import proofs.«01_k».proof.Proof.Sgu.Rows

@[expose] public section

noncomputable section

namespace Cert.Inproj.Rows

open Idealize.ShloMosaic Cert.Sgu.Rows

/-- One column of the projection. -/
def proj (h w : Fin 1024 → EReal) : EReal := ∑ k, h k * w k

/-- The first (`s = 0`) or second coordinate of the pair `(y, z)` turned by the angle `θ`. -/
def turn (s : Fin 2) (y z θ : EReal) : EReal :=
  if s = 0 then y * Ideal.cos θ - z * Ideal.sin θ else y * Ideal.sin θ + z * Ideal.cos θ

/-- Queries (`b = 0`) stay as they are, keys are scaled by a sixteenth. -/
def scaled (b : Fin 2) (y : EReal) : EReal := if b = 0 then y else y * Ideal.ofBits .f32 0x3D800000#32

/-- Column `e` of half `s` of head `a`, among the queries' (`b = 0`) or the keys' columns of the weights. -/
def col (b : Fin 2) (a : Fin 4) (s : Fin 2) (e : Fin 128) : Fin 6144 := ⟨1024 * b.val + (a.val * 256 + (128 * s.val + e.val)), by omega⟩

/-- Column `n` of the values (`b = 0`) or of the gate. -/
def wide (b : Fin 2) (n : Fin 2048) : Fin 6144 := ⟨2048 + (2048 * b.val + n.val), by omega⟩

section

variable (x gain sc sh : Fin 1024 → EReal) (θ : Fin 128 → EReal) (w : Fin 1024 → Fin 6144 → EReal)

/-- A query or key of the row. -/
def rotated (b : Fin 2) (a : Fin 4) (s : Fin 2) (e : Fin 128) : EReal :=
  scaled b (turn s (proj (hid x gain sc sh) fun k => w k (col b a 0 e)) (proj (hid x gain sc sh) fun k => w k (col b a 1 e)) (θ e))

/-- A value or gate of the row. -/
def plain (b : Fin 2) (n : Fin 2048) : EReal := proj (hid x gain sc sh) fun k => w k (wide b n)

end

end Cert.Inproj.Rows
-- ==== Proof.Inproj.Pay.lean ====
/- The values a point of the input projection's kernel computes, read place by place. -/
module

public import proofs.«01_k».proof.Proof.Gen.InprojIdeal.Frame
public import proofs.«01_k».proof.Proof.Inproj.Rows
public import Idealize.ShloMosaic.Lib.Pointwise
public import Idealize.ShloMosaic.Lib.Pipeline.Value

@[expose] public section

set_option maxRecDepth 16384

noncomputable section

namespace Cert.InprojIdeal.Pay

open Idealize.ShloMosaic Idealize.ShloMosaic.TcCoe
open Cert.InprojIdeal Cert.InprojIdeal.Gen Cert.Inproj.Rows
open Cert.Sgu.Rows (hid eps)

/-! ### The pieces a point stores -/

theorem inb_cell (n : Fin 8) : ∀ a, (![0, 128 * n.val] : Fin 2 → Nat) a + S512x128.size a ≤ S512x1024.size a := by
  revert n; decide
theorem inb_head (b : Fin 2) (a : Fin 4) : ∀ d, (![0, 1024 * b.val + 256 * a.val] : Fin 2 → Nat) d + S1024x256.size d ≤ S1024x6144.size d := by
  revert b a; decide
theorem inb_chunk (n : Fin 4) : ∀ a, (![0, 512 * n.val] : Fin 2 → Nat) a + S512x512.size a ≤ S512x2048.size a := by
  revert n; decide
theorem inb_wide (b : Fin 2) (n : Fin 4) :
    ∀ d, (![0, 2048 + 2048 * b.val + 512 * n.val] : Fin 2 → Nat) d + S1024x512.size d ≤ S1024x6144.size d := by
  revert b n; decide

/-- Where a half of a head's queries or keys goes, the head's columns of the weights, and the same for the values and the gate. -/
abbrev cellR (n : Fin 8) : Rect S512x1024 := Rect.unit (s := S512x1024) ![0, 128 * n.val] S512x128.size (inb_cell n)
abbrev headR (b : Fin 2) (a : Fin 4) : Rect S1024x6144 := Rect.unit (s := S1024x6144) ![0, 1024 * b.val + 256 * a.val] S1024x256.size (inb_head b a)
abbrev chunkR (n : Fin 4) : Rect S512x2048 := Rect.unit (s := S512x2048) ![0, 512 * n.val] S512x512.size (inb_chunk n)
abbrev wideR (b : Fin 2) (n : Fin 4) : Rect S1024x6144 :=
  Rect.unit (s := S1024x6144) ![0, 2048 + 2048 * b.val + 512 * n.val] S1024x512.size (inb_wide b n)

/-- The head and the half of a head that a stored piece is of. -/
def headOf (n : Fin 8) : Fin 4 := ⟨n.val / 2, by omega⟩
def sideOf (n : Fin 8) : Fin 2 := ⟨n.val % 2, by omega⟩

section Pieces

variable {F : FTy → Type} [FloatOps F]

/-- A half of a head, turned: of the queries (`b = 0`) or of the keys, scaled. -/
def half (b s : Fin 2) (h : FVec F S512x1024 .bf16) (co si : FVec F S512x128 .f32) (w : Vec F S1024x256 .bf16) : FVec F S512x128 .bf16 :=
  match b, s with
  | 0, 0 => k0_pay14 h co si w
  | 0, 1 => k0_pay15 h co si w
  | 1, 0 => k0_pay30 h co si w
  | 1, 1 => k0_pay31 h co si w

variable (x0 : Vec F S512x1024 .f32) (x1 : Vec F S512x1 .i32) (x2 : Vec F S1x128 .f32) (x3 : Vec F S1x1024 .f32)
  (x4 x5 : Vec F S1x1x1024 .f32) (x6 : Vec F S1024x6144 .bf16)

def rowsH : FVec F S512x1024 .bf16 := k0_pay1 (View.ld x0 r0_0) (View.ld x3 r0_1) (View.ld x4 r0_2) (View.ld x5 r0_2)
def cosR : FVec F S512x128 .f32 := k0_pay3 (View.ld x1 r0_3) (View.ld x2 r0_4)
def sinR : FVec F S512x128 .f32 := k0_pay4 (View.ld x1 r0_3) (View.ld x2 r0_4)

/-- The piece of the queries or keys that is stored for one half of one head. -/
def piece (b : Fin 2) (n : Fin 8) : View.Piece (Elt F) S512x1024 .bf16 :=
  ⟨cellR n, half b (sideOf n) (rowsH x0 x3 x4 x5) (cosR x1 x2) (sinR x1 x2) (View.ld x6 (headR b (headOf n)))⟩

/-- The piece of the values or of the gate that is stored for one run of 512 columns. -/
def pieceW (b : Fin 2) (n : Fin 4) : View.Piece (Elt F) S512x2048 .bf16 :=
  ⟨chunkR n, k0_pay47 (rowsH x0 x3 x4 x5) (View.ld x6 (wideR b n))⟩

theorem q_eq : out0_7 x0 x1 x2 x3 x4 x5 x6 = View.canon (([7, 6, 5, 4, 3, 2, 1, 0] : List (Fin 8)).map (piece x0 x1 x2 x3 x4 x5 x6 0)) := rfl
theorem k_eq : out0_8 x0 x1 x2 x3 x4 x5 x6 = View.canon (([7, 6, 5, 4, 3, 2, 1, 0] : List (Fin 8)).map (piece x0 x1 x2 x3 x4 x5 x6 1)) := rfl
theorem v_eq : out0_9 x0 x1 x2 x3 x4 x5 x6 = View.canon (([3, 2, 1, 0] : List (Fin 4)).map (pieceW x0 x3 x4 x5 x6 0)) := rfl
theorem g_eq : out0_10 x0 x1 x2 x3 x4 x5 x6 = View.canon (([3, 2, 1, 0] : List (Fin 4)).map (pieceW x0 x3 x4 x5 x6 1)) := rfl

end Pieces

/-! ### Their values -/

theorem pay1_apply (x : Vec Ideal S512x1024 .f32) (g : Vec Ideal S1x1024 .f32) (sc sh : Vec Ideal S1x1x1024 .f32) (r : Fin 512) (k : Fin 1024) :
    k0_pay1 x g sc sh (ix2 r k) = hid (fun j => x (ix2 r j)) (fun j => g (ix2 0 j)) (fun j => sc (ix3 0 0 j)) (fun j => sh (ix3 0 0 j)) k := by
  unfold hid
  unfold_payloads
  pointwise

theorem half_apply (b s : Fin 2) (h : FVec Ideal S512x1024 .bf16) (co si : FVec Ideal S512x128 .f32) (w : Vec Ideal S1024x256 .bf16)
    (r : Fin 512) (e : Fin 128) (θ : EReal) (hc : co (ix2 r e) = Ideal.cos θ) (hs : si (ix2 r e) = Ideal.sin θ) :
    half b s h co si w (ix2 r e) = scaled b (turn s (proj (fun k => h (ix2 r k)) fun k => w (ix2 k ⟨e.val, by omega⟩))
      (proj (fun k => h (ix2 r k)) fun k => w (ix2 k ⟨128 + e.val, by omega⟩)) θ) := by
  unfold scaled turn proj
  rw [← hc, ← hs]
  match b, s with
  | 0, 0 => unfold half; unfold_payloads; pointwise
  | 0, 1 => unfold half; unfold_payloads; pointwise
  | 1, 0 => unfold half; unfold_payloads; pointwise
  | 1, 1 => unfold half; unfold_payloads; pointwise

theorem pay47_apply (h : FVec Ideal S512x1024 .bf16) (w : Vec Ideal S1024x512 .bf16) (r : Fin 512) (n : Fin 512) :
    k0_pay47 h w (ix2 r n) = proj (fun k => h (ix2 r k)) fun k => w (ix2 k n) := by
  unfold proj
  unfold_payloads
  pointwise

section Value

variable {x0 : Vec Ideal S512x1024 .f32} {x1 : Vec Ideal S512x1 .i32} {x2 : Vec Ideal S1x128 .f32} {x3 : Vec Ideal S1x1024 .f32}
  {x4 x5 : Vec Ideal S1x1x1024 .f32} {x6 : Vec Ideal S1024x6144 .bf16}

theorem cosR_apply (r : Fin 512) (e : Fin 128) :
    cosR x1 x2 (ix2 r e) = Ideal.cos ((FloatOps.sitofp .f32 (x1 (ix2 r 0)) : Ideal .f32) * x2 (ix2 0 e)) := by
  unfold cosR
  unfold_payloads
  pointwise
theorem sinR_apply (r : Fin 512) (e : Fin 128) :
    sinR x1 x2 (ix2 r e) = Ideal.sin ((FloatOps.sitofp .f32 (x1 (ix2 r 0)) : Ideal .f32) * x2 (ix2 0 e)) := by
  unfold sinR
  unfold_payloads
  pointwise

theorem rowsH_apply (r : Fin 512) (k : Fin 1024) : rowsH x0 x3 x4 x5 (ix2 r k)
    = hid (fun j => x0 (ix2 r j)) (fun j => x3 (ix2 0 j)) (fun j => x4 (ix3 0 0 j)) (fun j => x5 (ix3 0 0 j)) k := by
  unfold rowsH
  rw [pay1_apply]
  pointwise

theorem ld_head (b : Fin 2) (a : Fin 4) (k : Fin 1024) (s : Fin 2) (e : Fin 128) :
    View.ld x6 (headR b a) (ix2 k ⟨128 * s.val + e.val, by omega⟩) = x6 (ix2 k (col b a s e)) := by
  refine congrArg x6 (funext fun d => Fin.ext ?_)
  match d with
  | 0 => show 0 + 1 * k.val = k.val; omega
  | 1 => show 1024 * b.val + 256 * a.val + 1 * (128 * s.val + e.val) = 1024 * b.val + (a.val * 256 + (128 * s.val + e.val)); omega

theorem ld_wide (b : Fin 2) (n : Fin 4) (k : Fin 1024) (e : Fin 512) :
    View.ld x6 (wideR b n) (ix2 k e) = x6 (ix2 k (wide b ⟨512 * n.val + e.val, by omega⟩)) := by
  refine congrArg x6 (funext fun d => Fin.ext ?_)
  match d with
  | 0 => show 0 + 1 * k.val = k.val; omega
  | 1 => show 2048 + 2048 * b.val + 512 * n.val + 1 * e.val = 2048 + (2048 * b.val + (512 * n.val + e.val)); omega

/-- A stored piece of the queries or keys. -/
theorem piece_apply (b : Fin 2) (n : Fin 8) (r : Fin 512) (e : Fin 128) : (piece x0 x1 x2 x3 x4 x5 x6 b n).2 (ix2 r e)
    = rotated (fun j => x0 (ix2 r j)) (fun j => x3 (ix2 0 j)) (fun j => x4 (ix3 0 0 j)) (fun j => x5 (ix3 0 0 j))
        (fun e => (FloatOps.sitofp .f32 (x1 (ix2 r 0)) : Ideal .f32) * x2 (ix2 0 e)) (fun k n => x6 (ix2 k n)) b (headOf n) (sideOf n) e := by
  refine (half_apply b (sideOf n) _ _ _ _ r e _ (cosR_apply r e) (sinR_apply r e)).trans ?_
  have h0 : ∀ k, View.ld x6 (headR b (headOf n)) (ix2 k ⟨e.val, by omega⟩) = x6 (ix2 k (col b (headOf n) 0 e)) := fun k =>
    (congrArg (fun z => View.ld x6 (headR b (headOf n)) (ix2 k z)) (Fin.ext (show e.val = 128 * 0 + e.val by omega))).trans (ld_head b (headOf n) k 0 e)
  have h1 : ∀ k, View.ld x6 (headR b (headOf n)) (ix2 k ⟨128 + e.val, by omega⟩) = x6 (ix2 k (col b (headOf n) 1 e)) := fun k =>
    (congrArg (fun z => View.ld x6 (headR b (headOf n)) (ix2 k z)) (Fin.ext (show 128 + e.val = 128 * 1 + e.val by omega))).trans (ld_head b (headOf n) k 1 e)
  unfold rotated
  simp only [h0, h1, rowsH_apply]

/-- A stored piece of the values or of the gate. -/
theorem pieceW_apply (b : Fin 2) (n : Fin 4) (r e : Fin 512) : (pieceW x0 x3 x4 x5 x6 b n).2 (ix2 r e)
    = plain (fun j => x0 (ix2 r j)) (fun j => x3 (ix2 0 j)) (fun j => x4 (ix3 0 0 j)) (fun j => x5 (ix3 0 0 j)) (fun k n => x6 (ix2 k n)) b
        ⟨512 * n.val + e.val, by omega⟩ := by
  refine (pay47_apply _ _ r e).trans ?_
  exact congrArg₂ proj (funext fun k => rowsH_apply r k) (funext fun k => ld_wide b n k e)

/-! ### A point's blocks -/

/-- The place in a row's queries or keys, by head, half and column of the half. -/
def headAt (C : Fin 1024) : Fin 4 := ⟨C.val / 256, by omega⟩
def sideAt (C : Fin 1024) : Fin 2 := ⟨C.val / 128 % 2, by omega⟩
def colAt (C : Fin 1024) : Fin 128 := ⟨C.val % 128, by omega⟩

theorem mem_eight (n : Fin 8) : n ∈ ([7, 6, 5, 4, 3, 2, 1, 0] : List (Fin 8)) := by revert n; decide
theorem mem_four (n : Fin 4) : n ∈ ([3, 2, 1, 0] : List (Fin 4)) := by revert n; decide

/-- The block of queries or keys, given what each row of it must be. -/
theorem block_apply (b : Fin 2) (f : Fin 512 → Fin 4 → Fin 2 → Fin 128 → EReal)
    (hf : ∀ n r e, (piece x0 x1 x2 x3 x4 x5 x6 b n).2 (ix2 r e) = f r (headOf n) (sideOf n) e) (y : S512x1024.Idx) :
    View.canon (([7, 6, 5, 4, 3, 2, 1, 0] : List (Fin 8)).map (piece x0 x1 x2 x3 x4 x5 x6 b)) y
      = f (y 0) (headAt (y 1)) (sideAt (y 1)) (colAt (y 1)) := by
  refine View.canon_apply_of_pieces (S := S512x1024) (Val := Elt Ideal) (e := .bf16)
    (fun y => f (y 0) (headAt (y 1)) (sideAt (y 1)) (colAt (y 1))) _ ?_ y ?_
  · intro p hp x
    obtain ⟨n, _, rfl⟩ := List.mem_map.mp hp
    have h1 : (x 1).val < 128 := (x 1).isLt
    rw [show x = ix2 (x 0) (x 1) from eq_ix2 x]
    refine (hf n (x 0) (x 1)).trans ?_
    have e0 : (x 0) = (⟨0 + 1 * (x 0).val, by have : (x 0).val < 512 := (x 0).isLt; omega⟩ : Fin 512) := Fin.ext (by show (x 0).val = 0 + 1 * (x 0).val; omega)
    have ea : headOf n = headAt ⟨128 * n.val + 1 * (x 1).val, by omega⟩ := Fin.ext (show n.val / 2 = (128 * n.val + 1 * (x 1).val) / 256 by omega)
    have es : sideOf n = sideAt ⟨128 * n.val + 1 * (x 1).val, by omega⟩ := Fin.ext (show n.val % 2 = (128 * n.val + 1 * (x 1).val) / 128 % 2 by omega)
    have ee : (x 1) = colAt ⟨128 * n.val + 1 * (x 1).val, by omega⟩ := Fin.ext (show (x 1).val = (128 * n.val + 1 * (x 1).val) % 128 by omega)
    refine (congrArg₂ (fun r a => f r a (sideOf n) (x 1)) e0 ea).trans ?_
    exact congrArg₂ (f _ _) es ee
  · have h0 : (y 0).val < 512 := (y 0).isLt
    have h1 : (y 1).val < 1024 := (y 1).isLt
    have hm : y ∈ (cellR ⟨(y 1).val / 128, by omega⟩).set := Rect.mem_set_unit.mpr fun a => by
      fin_cases a
      · exact ⟨Nat.zero_le _, show (y 0).val < 0 + 512 by omega⟩
      · exact ⟨show 128 * ((y 1).val / 128) ≤ (y 1).val by omega, show (y 1).val < 128 * ((y 1).val / 128) + 128 by omega⟩
    exact ⟨_, List.mem_map.mpr ⟨⟨(y 1).val / 128, by omega⟩, mem_eight _, rfl⟩, hm⟩

/-- The block of values or gate, given what each row of it must be. -/
theorem blockW_apply (b : Fin 2) (f : Fin 512 → Fin 2048 → EReal)
    (hf : ∀ n r e, (pieceW x0 x3 x4 x5 x6 b n).2 (ix2 r e) = f r ⟨512 * n.val + e.val, by omega⟩) (y : S512x2048.Idx) :
    View.canon (([3, 2, 1, 0] : List (Fin 4)).map (pieceW x0 x3 x4 x5 x6 b)) y = f (y 0) (y 1) := by
  refine View.canon_apply_of_pieces (S := S512x2048) (Val := Elt Ideal) (e := .bf16) (fun y => f (y 0) (y 1)) _ ?_ y ?_
  · intro p hp x
    obtain ⟨n, _, rfl⟩ := List.mem_map.mp hp
    rw [show x = ix2 (x 0) (x 1) from eq_ix2 x]
    refine (hf n (x 0) (x 1)).trans ?_
    exact congrArg₂ f (Fin.ext (show (x 0).val = 0 + 1 * (x 0).val by omega))
      (Fin.ext (show 512 * n.val + (x 1).val = 512 * n.val + 1 * (x 1).val by omega))
  · have h0 : (y 0).val < 512 := (y 0).isLt
    have h1 : (y 1).val < 2048 := (y 1).isLt
    have hm : y ∈ (chunkR ⟨(y 1).val / 512, by omega⟩).set := Rect.mem_set_unit.mpr fun a => by
      fin_cases a
      · exact ⟨Nat.zero_le _, show (y 0).val < 0 + 512 by omega⟩
      · exact ⟨show 512 * ((y 1).val / 512) ≤ (y 1).val by omega, show (y 1).val < 512 * ((y 1).val / 512) + 512 by omega⟩
    exact ⟨_, List.mem_map.mpr ⟨⟨(y 1).val / 512, by omega⟩, mem_four _, rfl⟩, hm⟩

end Value

end Cert.InprojIdeal.Pay
-- ==== Proof.Inproj.Ref.lean ====
/- The reference's input projection, read place by place. -/
module

public import proofs.«01_k».proof.Proof.Gen.InprojRefIdeal.Read
public import proofs.«01_k».proof.Proof.Inproj.Rows
public import Idealize.ShloMosaic.Lib.Pointwise

@[expose] public section

set_option maxRecDepth 16384

noncomputable section

namespace Cert.InprojRefIdeal.Read

open Idealize.ShloMosaic Cert.InprojRefIdeal Cert.InprojRefIdeal.Gen Cert.Inproj.Rows
open Cert.Sgu.Rows (hid eps)

/-- The array's row of a batch's position. -/
def row (b : Fin 2) (p : Fin 8192) : Fin 16384 := ⟨b.val * 8192 + p.val, by omega⟩

/-- The place of a head's half in the queries or keys of a row. -/
def place (a : Fin 4) (s : Fin 2) (e : Fin 128) : Fin 1024 := ⟨a.val * 256 + (128 * s.val + e.val), by omega⟩

/-- The rotation's frequencies. -/
def freq (e : Fin 128) : EReal := val_main_v32 (F := Ideal) (ix1 e)

variable (x0 : FVec Ideal S16384x1024 .f32) (x1 : IVec S2x8192 32) (x2 : FVec Ideal S1024 .f32) (x3 x4 : FVec Ideal S2x1x1024 .f32)
  (x5 : FVec Ideal S1024x6144 .f32)

theorem v0_apply (b : Fin 2) (p : Fin 8192) (k : Fin 1024) : val_main_v0 (F := Ideal) x0 (ix3 b p k) = x0 (ix2 (row b p) k) := by
  pointwise [val_main_v0, row]

theorem v19_apply (b : Fin 2) (p : Fin 8192) (k : Fin 1024) : val_main_v19 (F := Ideal) x0 x2 x3 x4 (ix3 b p k)
    = hid (fun j => x0 (ix2 (row b p) j)) (fun j => x2 (ix1 j)) (fun j => x3 (ix3 b 0 j)) (fun j => x4 (ix3 b 0 j)) k := by
  have h0 := v0_apply x0 b p
  unfold hid
  simp only [← h0]
  pointwise [val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1,
    val_main_cst, val_main_cst_0, val_main_cst_1, val_main_cst_2]

theorem v20_apply (b : Fin 2) (p : Fin 8192) (n : Fin 6144) : val_main_v20 (F := Ideal) x0 x2 x3 x4 x5 (ix3 b p n)
    = proj (hid (fun j => x0 (ix2 (row b p) j)) (fun j => x2 (ix1 j)) (fun j => x3 (ix3 b 0 j)) (fun j => x4 (ix3 b 0 j)))
        (fun k => x5 (ix2 k n)) := by
  unfold proj
  simp only [← v19_apply]
  pointwise [val_main_v20, dot_S2x8192x1024_S1024x6144_S2x8192x6144_2_0_01_1_n_n]

/-- The angle of a position at a frequency. -/
def angle (b : Fin 2) (p : Fin 8192) (e : Fin 128) : EReal := (FloatOps.sitofp .f32 (x1 (ix2 b p)) : Ideal .f32) * freq e

theorem v38_apply (b : Fin 2) (p : Fin 8192) (e : Fin 128) : val_main_v38 (F := Ideal) x1 (ix3 b p e) = angle x1 b p e := by
  unfold angle freq
  pointwise [val_main_v38, val_main_v37, val_main_v36, val_main_v35, val_main_v34, val_main_v33]

theorem v69_eq : val_main_v69 (F := Ideal) x1 = val_main_v38 (F := Ideal) x1 := rfl

theorem v25_apply (b : Fin 2) (p : Fin 8192) (a : Fin 4) (s : Fin 2) (e : Fin 128) :
    val_main_v25 (F := Ideal) x0 x2 x3 x4 x5 (ix4 b p a ⟨128 * s.val + e.val, by omega⟩)
      = val_main_v20 (F := Ideal) x0 x2 x3 x4 x5 (ix3 b p (col 0 a s e)) := by
  pointwise [val_main_v25, val_main_v21, col]

theorem v56_apply (b : Fin 2) (p : Fin 8192) (a : Fin 4) (s : Fin 2) (e : Fin 128) :
    val_main_v56 (F := Ideal) x0 x2 x3 x4 x5 (ix4 b p a ⟨128 * s.val + e.val, by omega⟩)
      = val_main_v20 (F := Ideal) x0 x2 x3 x4 x5 (ix3 b p (col 1 a s e)) := by
  pointwise [val_main_v56, val_main_v22, col]

section Turned

variable (b : Fin 2) (p : Fin 8192) (a : Fin 4) (e : Fin 128)

/-- The four rotated halves of a head, from the products that they turn. -/
theorem v49_apply : val_main_v49 (F := Ideal) x0 x1 x2 x3 x4 x5 (ix4 b p a e)
    = turn 0 (val_main_v25 (F := Ideal) x0 x2 x3 x4 x5 (ix4 b p a ⟨128 * (0 : Fin 2).val + e.val, by omega⟩))
        (val_main_v25 (F := Ideal) x0 x2 x3 x4 x5 (ix4 b p a ⟨128 * (1 : Fin 2).val + e.val, by omega⟩)) (val_main_v38 (F := Ideal) x1 (ix3 b p e)) := by
  unfold turn
  pointwise [val_main_v49, val_main_v48, val_main_v47, val_main_v46, val_main_v45, val_main_v44, val_main_v43, val_main_v42, val_main_v41,
    val_main_v40, val_main_v39]

theorem v54_apply : val_main_v54 (F := Ideal) x0 x1 x2 x3 x4 x5 (ix4 b p a e)
    = turn 1 (val_main_v25 (F := Ideal) x0 x2 x3 x4 x5 (ix4 b p a ⟨128 * (0 : Fin 2).val + e.val, by omega⟩))
        (val_main_v25 (F := Ideal) x0 x2 x3 x4 x5 (ix4 b p a ⟨128 * (1 : Fin 2).val + e.val, by omega⟩)) (val_main_v38 (F := Ideal) x1 (ix3 b p e)) := by
  unfold turn
  pointwise [val_main_v54, val_main_v53, val_main_v52, val_main_v51, val_main_v50, val_main_v44, val_main_v43, val_main_v42, val_main_v41,
    val_main_v40, val_main_v39]

theorem v80_apply : val_main_v80 (F := Ideal) x0 x1 x2 x3 x4 x5 (ix4 b p a e)
    = turn 0 (val_main_v56 (F := Ideal) x0 x2 x3 x4 x5 (ix4 b p a ⟨128 * (0 : Fin 2).val + e.val, by omega⟩))
        (val_main_v56 (F := Ideal) x0 x2 x3 x4 x5 (ix4 b p a ⟨128 * (1 : Fin 2).val + e.val, by omega⟩)) (val_main_v69 (F := Ideal) x1 (ix3 b p e)) := by
  unfold turn
  pointwise [val_main_v80, val_main_v79, val_main_v78, val_main_v77, val_main_v76, val_main_v75, val_main_v74, val_main_v73, val_main_v72,
    val_main_v71, val_main_v70]

theorem v85_apply : val_main_v85 (F := Ideal) x0 x1 x2 x3 x4 x5 (ix4 b p a e)
    = turn 1 (val_main_v56 (F := Ideal) x0 x2 x3 x4 x5 (ix4 b p a ⟨128 * (0 : Fin 2).val + e.val, by omega⟩))
        (val_main_v56 (F := Ideal) x0 x2 x3 x4 x5 (ix4 b p a ⟨128 * (1 : Fin 2).val + e.val, by omega⟩)) (val_main_v69 (F := Ideal) x1 (ix3 b p e)) := by
  unfold turn
  pointwise [val_main_v85, val_main_v84, val_main_v83, val_main_v82, val_main_v81, val_main_v75, val_main_v74, val_main_v73, val_main_v72,
    val_main_v71, val_main_v70]

theorem v55_apply (s : Fin 2) : val_main_v55 (F := Ideal) x0 x1 x2 x3 x4 x5 (ix4 b p a ⟨128 * s.val + e.val, by omega⟩)
    = turn s (val_main_v25 (F := Ideal) x0 x2 x3 x4 x5 (ix4 b p a ⟨128 * (0 : Fin 2).val + e.val, by omega⟩))
        (val_main_v25 (F := Ideal) x0 x2 x3 x4 x5 (ix4 b p a ⟨128 * (1 : Fin 2).val + e.val, by omega⟩)) (val_main_v38 (F := Ideal) x1 (ix3 b p e)) := by
  match s with
  | 0 =>
    rw [← v49_apply]
    pointwise [val_main_v55]
  | 1 =>
    rw [← v54_apply]
    pointwise [val_main_v55]

theorem v86_apply (s : Fin 2) : val_main_v86 (F := Ideal) x0 x1 x2 x3 x4 x5 (ix4 b p a ⟨128 * s.val + e.val, by omega⟩)
    = turn s (val_main_v56 (F := Ideal) x0 x2 x3 x4 x5 (ix4 b p a ⟨128 * (0 : Fin 2).val + e.val, by omega⟩))
        (val_main_v56 (F := Ideal) x0 x2 x3 x4 x5 (ix4 b p a ⟨128 * (1 : Fin 2).val + e.val, by omega⟩)) (val_main_v69 (F := Ideal) x1 (ix3 b p e)) := by
  match s with
  | 0 =>
    rw [← v80_apply]
    pointwise [val_main_v86]
  | 1 =>
    rw [← v85_apply]
    pointwise [val_main_v86]

end Turned

/-! ### The four results -/

theorem wrap (a : Fin 4) (s : Fin 2) (e : Fin 128) : (a.val * 256 + (128 * s.val + e.val)) % 256 = 128 * s.val + e.val := by omega

theorem v90_apply (b : Fin 2) (p : Fin 8192) (a : Fin 4) (s : Fin 2) (e : Fin 128) :
    val_main_v90 (F := Ideal) x0 x1 x2 x3 x4 x5 (ix2 (row b p) (place a s e))
      = rotated (fun j => x0 (ix2 (row b p) j)) (fun j => x2 (ix1 j)) (fun j => x3 (ix3 b 0 j)) (fun j => x4 (ix3 b 0 j))
          (angle x1 b p) (fun k n => x5 (ix2 k n)) 0 a s e := by
  have e1 : val_main_v90 (F := Ideal) x0 x1 x2 x3 x4 x5 (ix2 (row b p) (place a s e))
      = val_main_v55 (F := Ideal) x0 x1 x2 x3 x4 x5 (ix4 b p a ⟨128 * s.val + e.val, by omega⟩) := by
    pointwise [val_main_v90, val_main_v89, row, place]
    exact congrArg (fun z => val_main_v55 (F := Ideal) x0 x1 x2 x3 x4 x5 (ix4 b p a z)) (Fin.ext (wrap a s e))
  rw [e1, v55_apply, v25_apply, v25_apply, v20_apply, v20_apply, v38_apply]
  rfl

theorem v92_apply (b : Fin 2) (p : Fin 8192) (a : Fin 4) (s : Fin 2) (e : Fin 128) :
    val_main_v92 (F := Ideal) x0 x1 x2 x3 x4 x5 (ix2 (row b p) (place a s e))
      = rotated (fun j => x0 (ix2 (row b p) j)) (fun j => x2 (ix1 j)) (fun j => x3 (ix3 b 0 j)) (fun j => x4 (ix3 b 0 j))
          (angle x1 b p) (fun k n => x5 (ix2 k n)) 1 a s e := by
  have e1 : val_main_v92 (F := Ideal) x0 x1 x2 x3 x4 x5 (ix2 (row b p) (place a s e))
      = val_main_v86 (F := Ideal) x0 x1 x2 x3 x4 x5 (ix4 b p a ⟨128 * s.val + e.val, by omega⟩) * Ideal.ofBits .f32 0x3D800000#32 := by
    pointwise [val_main_v92, val_main_v91, val_main_v88, val_main_v87, val_main_cst_9, row, place]
    exact congrArg (fun z => val_main_v86 (F := Ideal) x0 x1 x2 x3 x4 x5 (ix4 b p a z) * Ideal.ofBits .f32 0x3D800000#32) (Fin.ext (wrap a s e))
  rw [e1, v86_apply, v56_apply, v56_apply, v20_apply, v20_apply, v69_eq, v38_apply]
  rfl

theorem v94_apply (b : Fin 2) (p : Fin 8192) (n : Fin 2048) : val_main_v94 (F := Ideal) x0 x2 x3 x4 x5 (ix2 (row b p) n)
    = plain (fun j => x0 (ix2 (row b p) j)) (fun j => x2 (ix1 j)) (fun j => x3 (ix3 b 0 j)) (fun j => x4 (ix3 b 0 j)) (fun k n => x5 (ix2 k n)) 0 n := by
  refine Eq.trans ?_ (v20_apply x0 x2 x3 x4 x5 b p (wide 0 n))
  pointwise [val_main_v94, val_main_v93, val_main_v23, row, wide]

theorem v96_apply (b : Fin 2) (p : Fin 8192) (n : Fin 2048) : val_main_v96 (F := Ideal) x0 x2 x3 x4 x5 (ix2 (row b p) n)
    = plain (fun j => x0 (ix2 (row b p) j)) (fun j => x2 (ix1 j)) (fun j => x3 (ix3 b 0 j)) (fun j => x4 (ix3 b 0 j)) (fun k n => x5 (ix2 k n)) 1 n := by
  refine Eq.trans ?_ (v20_apply x0 x2 x3 x4 x5 b p (wide 1 n))
  pointwise [val_main_v96, val_main_v95, val_main_v24, row, wide]
  exact congrArg (fun z => val_main_v20 (F := Ideal) x0 x2 x3 x4 x5 (ix3 b p z)) (Fin.ext (show 4096 + n.val = 2048 + (2048 + n.val) by omega))

end Cert.InprojRefIdeal.Read
-- ==== Proof.Inproj.Blocks.lean ====
/- What a point of the input projection's kernel finds in its windows: 512 rows, their positions, their batch's modulation, the
   rotation's frequencies and the whole weights. -/
module

public import proofs.«01_k».proof.Proof.Gen.InprojIdeal.Value
public import proofs.«01_k».proof.Proof.Inproj.Pay
public import proofs.«01_k».proof.Proof.Inproj.Ref
public import Idealize.ShloMosaic.Lib.StableHlo.ReadAt
public import Idealize.ShloMosaic.Lib.Tactic
public import Idealize.ShloMosaic.Lib.Pipeline.ValueKit.Point

@[expose] public section

set_option maxRecDepth 65536
set_option maxHeartbeats 1000000

noncomputable section

namespace Cert.InprojIdeal.Block

open Idealize.ShloMosaic Idealize.ShloMosaic.TcCoe Idealize.ShloMosaic.Tactic
open Cert.InprojIdeal Cert.InprojIdeal.Gen Cert.Inproj.Rows Cert.InprojIdeal.Pay
open Cert.InprojRefIdeal.Read

variable (m : (ℓ : Loc nD τ sig) → Buf (Elt Ideal) ℓ) (c : Dev nD)

/-! ### The arguments, by their coordinates -/

abbrev rows (R : Fin 16384) (k : Fin 1024) : EReal := (m ((c.tc : Thread nD τ).loc main_arg0) : Vec Ideal S16384x1024 .f32) (ix2 R k)
abbrev posn (b : Fin 2) (p : Fin 8192) : BitVec 32 := (m ((c.tc : Thread nD τ).loc main_arg1) : Vec Ideal S2x8192 .i32) (ix2 b p)
abbrev gain (k : Fin 1024) : EReal := (m ((c.tc : Thread nD τ).loc main_arg2) : Vec Ideal S1024 .f32) (ix1 k)
abbrev scale (b : Fin 2) (k : Fin 1024) : EReal := (m ((c.tc : Thread nD τ).loc main_arg3) : Vec Ideal S2x1x1024 .f32) (ix3 b 0 k)
abbrev shift (b : Fin 2) (k : Fin 1024) : EReal := (m ((c.tc : Thread nD τ).loc main_arg4) : Vec Ideal S2x1x1024 .f32) (ix3 b 0 k)
abbrev win (k : Fin 1024) (n : Fin 6144) : EReal := (m ((c.tc : Thread nD τ).loc main_arg5) : Vec Ideal S1024x6144 .f32) (ix2 k n)

/-- The batch of a row of the array, and its position. -/
def batch (R : Fin 16384) : Fin 2 := ⟨R.val / 8192, by omega⟩
def step (R : Fin 16384) : Fin 8192 := ⟨R.val % 8192, by omega⟩

/-! ### The arrays the host computes -/

theorem host_freq (e : Fin 128) : (V m c main_v7 : Vec Ideal S1x128 .f32) (ix2 0 e) = freq e := by
  unfold V
  after_reads_at
  unfold freq
  pointwise [val_main_v32, val_main_v31, val_main_v30, val_main_v29, val_main_v28, val_main_v27, val_main_v26, val_main_cst_3, val_main_cst_4,
    val_main_cst_5]
theorem host_posn (R : Fin 16384) : (V m c main_v8 : Vec Ideal S16384x1 .i32) (ix2 R 0) = posn m c (batch R) (step R) := by
  unfold V
  after_reads_at
  rfl
theorem host_gain (k : Fin 1024) : (V m c main_v9 : Vec Ideal S1x1024 .f32) (ix2 0 k) = gain m c k := by
  unfold V
  after_reads_at
theorem host_win (k : Fin 1024) (n : Fin 6144) : (V m c main_v10 : Vec Ideal S1024x6144 .bf16) (ix2 k n) = win m c k n := by
  unfold V
  after_reads_at

/-! ### A point's blocks -/

theorem idx_rows : ∀ t : Fin cfg0.N, win0_0.index t = ![t.val, 0] ∧ win0_1.index t = ![t.val, 0] ∧ win0_7.index t = ![t.val, 0]
    ∧ win0_8.index t = ![t.val, 0] ∧ win0_9.index t = ![t.val, 0] ∧ win0_10.index t = ![t.val, 0] := by decide +kernel
theorem idx_batch : ∀ t : Fin cfg0.N, win0_4.index t = ![t.val / 16, 0, 0] ∧ win0_5.index t = ![t.val / 16, 0, 0] := by decide +kernel
theorem idx_whole : ∀ t : Fin cfg0.N, win0_2.index t = ![0, 0] ∧ win0_3.index t = ![0, 0] ∧ win0_6.index t = ![0, 0] := by decide +kernel

theorem blk_rows (t : Fin cfg0.N) (r : Fin 512) (k : Fin 1024) (R : Fin 16384) (hR : R.val = t.val * 512 + r.val) :
    (iblk m c 0 t : Vec Ideal S512x1024 .f32) (ix2 r k) = rows m c R k := by
  blk_ext [iblk, V, idx_rows t]
theorem blk_posn (t : Fin cfg0.N) (r : Fin 512) (R : Fin 16384) (hR : R.val = t.val * 512 + r.val) :
    (iblk m c 1 t : Vec Ideal S512x1 .i32) (ix2 r 0) = posn m c (batch R) (step R) := by
  rw [← host_posn m c R]
  blk_ext [iblk, idx_rows t]
theorem blk_freq (t : Fin cfg0.N) (e : Fin 128) : (iblk m c 2 t : Vec Ideal S1x128 .f32) (ix2 0 e) = freq e := by
  rw [← host_freq m c e]
  blk_ext [iblk, idx_whole t]
theorem blk_gain (t : Fin cfg0.N) (k : Fin 1024) : (iblk m c 3 t : Vec Ideal S1x1024 .f32) (ix2 0 k) = gain m c k := by
  rw [← host_gain m c k]
  blk_ext [iblk, idx_whole t]
theorem blk_scale (t : Fin cfg0.N) (k : Fin 1024) (b : Fin 2) (hb : b.val = t.val / 16) :
    (iblk m c 4 t : Vec Ideal S1x1x1024 .f32) (ix3 0 0 k) = scale m c b k := by
  blk_ext [iblk, V, idx_batch t]
theorem blk_shift (t : Fin cfg0.N) (k : Fin 1024) (b : Fin 2) (hb : b.val = t.val / 16) :
    (iblk m c 5 t : Vec Ideal S1x1x1024 .f32) (ix3 0 0 k) = shift m c b k := by
  blk_ext [iblk, V, idx_batch t]
theorem blk_win (t : Fin cfg0.N) (k : Fin 1024) (n : Fin 6144) : (iblk m c 6 t : Vec Ideal S1024x6144 .bf16) (ix2 k n) = win m c k n := by
  rw [← host_win m c k n]
  blk_ext [iblk, idx_whole t]

end Cert.InprojIdeal.Block
-- ==== Proof.Inproj.Points.lean ====
/- The four arrays the input projection's kernel leaves, at every row and column, from the arguments. -/
module

public import proofs.«01_k».proof.Proof.Inproj.Blocks

@[expose] public section

set_option maxRecDepth 16384

noncomputable section

namespace Cert.InprojIdeal.Block

open Idealize.ShloMosaic Idealize.ShloMosaic.TcCoe Idealize.ShloMosaic.Tactic
open Cert.InprojIdeal Cert.InprojIdeal.Gen Cert.Inproj.Rows Cert.InprojIdeal.Pay
open Cert.InprojRefIdeal.Read (freq)

variable (m : (ℓ : Loc nD τ sig) → Buf (Elt Ideal) ℓ) (c : Dev nD)

/-- The query (`b = 0`) or key of row `R` at column `e` of half `s` of head `a`. -/
def turnedAt (b : Fin 2) (R : Fin 16384) (a : Fin 4) (s : Fin 2) (e : Fin 128) : EReal :=
  rotated (rows m c R) (gain m c) (scale m c (batch R)) (shift m c (batch R))
    (fun e => (FloatOps.sitofp .f32 (posn m c (batch R) (step R)) : Ideal .f32) * freq e) (win m c) b a s e

/-- The value (`b = 0`) or gate of row `R` at column `n`. -/
def plainAt (b : Fin 2) (R : Fin 16384) (n : Fin 2048) : EReal :=
  plain (rows m c R) (gain m c) (scale m c (batch R)) (shift m c (batch R)) (win m c) b n

/-- The row of the array that row `r` of a point's rows is. -/
def rowOf (t : Fin cfg0.N) (r : Fin 512) : Fin 16384 := ⟨t.val * 512 + r.val, by have := lt_of_lt_of_eq t.isLt N_0; omega⟩

theorem batch_rowOf (t : Fin cfg0.N) (r : Fin 512) : (batch (rowOf t r)).val = t.val / 16 := by
  show (t.val * 512 + r.val) / 8192 = t.val / 16
  omega

/-- What a point stores of its queries or keys. -/
theorem piece_result (t : Fin cfg0.N) (b : Fin 2) (n : Fin 8) (r : Fin 512) (e : Fin 128) :
    (piece (iblk m c 0 t) (iblk m c 1 t) (iblk m c 2 t) (iblk m c 3 t) (iblk m c 4 t) (iblk m c 5 t) (iblk m c 6 t) b n).2 (ix2 r e)
      = turnedAt m c b (rowOf t r) (headOf n) (sideOf n) e := by
  refine (piece_apply b n r e).trans ?_
  have hb := batch_rowOf t r
  unfold turnedAt
  rw [funext fun k => blk_rows m c t r k (rowOf t r) rfl, funext (blk_gain m c t), funext fun k => blk_scale m c t k _ hb,
    funext fun k => blk_shift m c t k _ hb, blk_posn m c t r (rowOf t r) rfl, funext fun k => funext (blk_win m c t k)]
  simp only [blk_freq m c t]

/-- What a point stores of its values or of its gate. -/
theorem pieceW_result (t : Fin cfg0.N) (b : Fin 2) (n : Fin 4) (r e : Fin 512) :
    (pieceW (iblk m c 0 t) (iblk m c 3 t) (iblk m c 4 t) (iblk m c 5 t) (iblk m c 6 t) b n).2 (ix2 r e)
      = plainAt m c b (rowOf t r) ⟨512 * n.val + e.val, by omega⟩ := by
  refine (pieceW_apply b n r e).trans ?_
  have hb := batch_rowOf t r
  unfold plainAt
  rw [funext fun k => blk_rows m c t r k (rowOf t r) rfl, funext (blk_gain m c t), funext fun k => blk_scale m c t k _ hb,
    funext fun k => blk_shift m c t k _ hb, funext fun k => funext (blk_win m c t k)]

/-! ### The arrays after the run -/

/-- The query or key of row `R` at column `C` of all heads' columns. -/
def turnedCol (b : Fin 2) (R : Fin 16384) (C : Fin 1024) : EReal := turnedAt m c b R (headAt C) (sideAt C) (colAt C)

theorem turned_block (t : Fin cfg0.N) (b : Fin 2) (y : S512x1024.Idx) :
    View.canon (([7, 6, 5, 4, 3, 2, 1, 0] : List (Fin 8)).map (piece (iblk m c 0 t) (iblk m c 1 t) (iblk m c 2 t) (iblk m c 3 t) (iblk m c 4 t)
      (iblk m c 5 t) (iblk m c 6 t) b)) y = turnedCol m c b (rowOf t (y 0)) (y 1) :=
  block_apply b (fun r => turnedAt m c b (rowOf t r)) (fun n r e => piece_result m c t b n r e) y

theorem plain_block (t : Fin cfg0.N) (b : Fin 2) (y : S512x2048.Idx) :
    View.canon (([3, 2, 1, 0] : List (Fin 4)).map (pieceW (iblk m c 0 t) (iblk m c 3 t) (iblk m c 4 t) (iblk m c 5 t) (iblk m c 6 t) b)) y
      = plainAt m c b (rowOf t (y 0)) (y 1) :=
  blockW_apply b (fun r => plainAt m c b (rowOf t r)) (fun n r e => pieceW_result m c t b n r e) y

theorem array_q : (dats m 0 c).arrAt 7 cfg0.N = (fun i => turnedCol m c 0 (i 0) (i 1) : Vec Ideal S16384x1024 .bf16) := by
  refine (dats m 0 c).arrAt_eq_of_covers 7 _ (by decide +kernel) fun t hf y => ?_
  blk_simp [idx_rows t]
  rw [after0_7, q_eq]
  refine (turned_block m c t 0 y).trans (congrArg₂ (turnedCol m c 0) (Fin.ext ?_) (Fin.ext ?_))
  · blk_simp [idx_rows t]
    rfl
  · blk_simp [idx_rows t]

theorem array_k : (dats m 0 c).arrAt 8 cfg0.N = (fun i => turnedCol m c 1 (i 0) (i 1) : Vec Ideal S16384x1024 .bf16) := by
  refine (dats m 0 c).arrAt_eq_of_covers 8 _ (by decide +kernel) fun t hf y => ?_
  blk_simp [idx_rows t]
  rw [after0_8, k_eq]
  refine (turned_block m c t 1 y).trans (congrArg₂ (turnedCol m c 1) (Fin.ext ?_) (Fin.ext ?_))
  · blk_simp [idx_rows t]
    rfl
  · blk_simp [idx_rows t]

theorem array_v : (dats m 0 c).arrAt 9 cfg0.N = (fun i => plainAt m c 0 (i 0) (i 1) : Vec Ideal S16384x2048 .bf16) := by
  refine (dats m 0 c).arrAt_eq_of_covers 9 _ (by decide +kernel) fun t hf y => ?_
  blk_simp [idx_rows t]
  rw [after0_9, v_eq]
  refine (plain_block m c t 0 y).trans (congrArg₂ (plainAt m c 0) (Fin.ext ?_) (Fin.ext ?_))
  · blk_simp [idx_rows t]
    rfl
  · blk_simp [idx_rows t]

theorem array_g : (dats m 0 c).arrAt 10 cfg0.N = (fun i => plainAt m c 1 (i 0) (i 1) : Vec Ideal S16384x2048 .bf16) := by
  refine (dats m 0 c).arrAt_eq_of_covers 10 _ (by decide +kernel) fun t hf y => ?_
  blk_simp [idx_rows t]
  rw [after0_10, g_eq]
  refine (plain_block m c t 1 y).trans (congrArg₂ (plainAt m c 1) (Fin.ext ?_) (Fin.ext ?_))
  · blk_simp [idx_rows t]
    rfl
  · blk_simp [idx_rows t]

end Cert.InprojIdeal.Block
-- ==== Proof.Inproj.Close.lean ====
/- The input projection's value claim: kernel and reference give equal queries, keys, values and gates. -/
module

public import proofs.«01_k».proof.Proof.Inproj.Runs
public import proofs.«01_k».proof.Proof.Inproj.Points

@[expose] public section

set_option maxRecDepth 16384

noncomputable section

namespace Cert.Inproj.Close

open Idealize.ShloMosaic Idealize.ShloMosaic.TcCoe Idealize.SL.Sem Cert.Inproj.Rows
open Cert.InprojIdeal.Block Cert.InprojIdeal.Pay Cert.InprojRefIdeal.Read

theorem row_split (R : Fin 16384) : row (batch R) (step R) = R := Fin.ext (show R.val / 8192 * 8192 + R.val % 8192 = R.val by omega)

theorem place_split (C : Fin 1024) : place (headAt C) (sideAt C) (colAt C) = C :=
  Fin.ext (show C.val / 256 * 256 + (128 * (C.val / 128 % 2) + C.val % 128) = C.val by omega)

variable (m : (ℓ : Loc Cert.InprojIdeal.nD Cert.InprojIdeal.τ Cert.InprojIdeal.sig) → Buf (Elt Ideal) ℓ) (c : Dev Cert.InprojIdeal.nD)

theorem q_agree (R : Fin 16384) (C : Fin 1024) : val_main_v90 (F := Ideal) (m ((c.tc : Thread _ _).loc Cert.InprojIdeal.main_arg0))
    (m ((c.tc : Thread _ _).loc Cert.InprojIdeal.main_arg1)) (m ((c.tc : Thread _ _).loc Cert.InprojIdeal.main_arg2))
    (m ((c.tc : Thread _ _).loc Cert.InprojIdeal.main_arg3)) (m ((c.tc : Thread _ _).loc Cert.InprojIdeal.main_arg4))
    (m ((c.tc : Thread _ _).loc Cert.InprojIdeal.main_arg5)) (ix2 R C) = turnedCol m c 0 R C := by
  have e := v90_apply (m ((c.tc : Thread _ _).loc Cert.InprojIdeal.main_arg0)) (m ((c.tc : Thread _ _).loc Cert.InprojIdeal.main_arg1))
    (m ((c.tc : Thread _ _).loc Cert.InprojIdeal.main_arg2)) (m ((c.tc : Thread _ _).loc Cert.InprojIdeal.main_arg3))
    (m ((c.tc : Thread _ _).loc Cert.InprojIdeal.main_arg4)) (m ((c.tc : Thread _ _).loc Cert.InprojIdeal.main_arg5))
    (batch R) (step R) (headAt C) (sideAt C) (colAt C)
  rw [row_split, place_split] at e
  exact e

theorem k_agree (R : Fin 16384) (C : Fin 1024) : val_main_v92 (F := Ideal) (m ((c.tc : Thread _ _).loc Cert.InprojIdeal.main_arg0))
    (m ((c.tc : Thread _ _).loc Cert.InprojIdeal.main_arg1)) (m ((c.tc : Thread _ _).loc Cert.InprojIdeal.main_arg2))
    (m ((c.tc : Thread _ _).loc Cert.InprojIdeal.main_arg3)) (m ((c.tc : Thread _ _).loc Cert.InprojIdeal.main_arg4))
    (m ((c.tc : Thread _ _).loc Cert.InprojIdeal.main_arg5)) (ix2 R C) = turnedCol m c 1 R C := by
  have e := v92_apply (m ((c.tc : Thread _ _).loc Cert.InprojIdeal.main_arg0)) (m ((c.tc : Thread _ _).loc Cert.InprojIdeal.main_arg1))
    (m ((c.tc : Thread _ _).loc Cert.InprojIdeal.main_arg2)) (m ((c.tc : Thread _ _).loc Cert.InprojIdeal.main_arg3))
    (m ((c.tc : Thread _ _).loc Cert.InprojIdeal.main_arg4)) (m ((c.tc : Thread _ _).loc Cert.InprojIdeal.main_arg5))
    (batch R) (step R) (headAt C) (sideAt C) (colAt C)
  rw [row_split, place_split] at e
  exact e

theorem v_agree (R : Fin 16384) (n : Fin 2048) : val_main_v94 (F := Ideal) (m ((c.tc : Thread _ _).loc Cert.InprojIdeal.main_arg0))
    (m ((c.tc : Thread _ _).loc Cert.InprojIdeal.main_arg2)) (m ((c.tc : Thread _ _).loc Cert.InprojIdeal.main_arg3))
    (m ((c.tc : Thread _ _).loc Cert.InprojIdeal.main_arg4)) (m ((c.tc : Thread _ _).loc Cert.InprojIdeal.main_arg5)) (ix2 R n)
      = plainAt m c 0 R n := by
  have e := v94_apply (m ((c.tc : Thread _ _).loc Cert.InprojIdeal.main_arg0)) (m ((c.tc : Thread _ _).loc Cert.InprojIdeal.main_arg2))
    (m ((c.tc : Thread _ _).loc Cert.InprojIdeal.main_arg3)) (m ((c.tc : Thread _ _).loc Cert.InprojIdeal.main_arg4))
    (m ((c.tc : Thread _ _).loc Cert.InprojIdeal.main_arg5)) (batch R) (step R) n
  rw [row_split] at e
  exact e

theorem g_agree (R : Fin 16384) (n : Fin 2048) : val_main_v96 (F := Ideal) (m ((c.tc : Thread _ _).loc Cert.InprojIdeal.main_arg0))
    (m ((c.tc : Thread _ _).loc Cert.InprojIdeal.main_arg2)) (m ((c.tc : Thread _ _).loc Cert.InprojIdeal.main_arg3))
    (m ((c.tc : Thread _ _).loc Cert.InprojIdeal.main_arg4)) (m ((c.tc : Thread _ _).loc Cert.InprojIdeal.main_arg5)) (ix2 R n)
      = plainAt m c 1 R n := by
  have e := v96_apply (m ((c.tc : Thread _ _).loc Cert.InprojIdeal.main_arg0)) (m ((c.tc : Thread _ _).loc Cert.InprojIdeal.main_arg2))
    (m ((c.tc : Thread _ _).loc Cert.InprojIdeal.main_arg3)) (m ((c.tc : Thread _ _).loc Cert.InprojIdeal.main_arg4))
    (m ((c.tc : Thread _ _).loc Cert.InprojIdeal.main_arg5)) (batch R) (step R) n
  rw [row_split] at e
  exact e

theorem algebraic : Cert.algebraic_InprojIdeal_InprojRefIdeal := by
  intro m g m' g' _ hargs
  refine ⟨fun c => (Cert.InprojIdeal.Gen.dats m 0 c).arrAt 7 Cert.InprojIdeal.cfg0.N,
    fun c => (Cert.InprojIdeal.Gen.dats m 0 c).arrAt 8 Cert.InprojIdeal.cfg0.N,
    fun c => (Cert.InprojIdeal.Gen.dats m 0 c).arrAt 9 Cert.InprojIdeal.cfg0.N,
    fun c => (Cert.InprojIdeal.Gen.dats m 0 c).arrAt 10 Cert.InprojIdeal.cfg0.N,
    (θ_run Cert.InprojIdeal.defs _ _).mono (fun r h c => h c) (Cert.InprojIdeal.Value.run_blocks (F := Ideal) m g), ?_⟩
  refine (θ_run Cert.InprojRefIdeal.defs _ _).mono (fun r h c => ⟨(h c).1.trans ?_, (h c).2.1.trans ?_, (h c).2.2.1.trans ?_,
    (h c).2.2.2.1.trans ?_, (h c).2.2.2.2⟩) (Cert.InprojRefIdeal.Value.run (F := Ideal) m' g')
  · obtain ⟨e0, e1, e2, e3, e4, e5⟩ := hargs c
    refine Eq.trans ?_ (array_q m c).symm
    refine (val_main_v90_eq m' c).trans ?_
    rw [e0, e1, e2, e3, e4, e5]
    funext i
    rw [show i = ix2 (i 0) (i 1) from eq_ix2 i]
    exact q_agree m c (i 0) (i 1)
  · obtain ⟨e0, e1, e2, e3, e4, e5⟩ := hargs c
    refine Eq.trans ?_ (array_k m c).symm
    refine (val_main_v92_eq m' c).trans ?_
    rw [e0, e1, e2, e3, e4, e5]
    funext i
    rw [show i = ix2 (i 0) (i 1) from eq_ix2 i]
    exact k_agree m c (i 0) (i 1)
  · obtain ⟨e0, _, e2, e3, e4, e5⟩ := hargs c
    refine Eq.trans ?_ (array_v m c).symm
    refine (val_main_v94_eq _ _ _ _ _).trans ?_
    rw [e0, e2, e3, e4, e5]
    funext i
    rw [show i = ix2 (i 0) (i 1) from eq_ix2 i]
    exact v_agree m c (i 0) (i 1)
  · obtain ⟨e0, _, e2, e3, e4, e5⟩ := hargs c
    refine Eq.trans ?_ (array_g m c).symm
    refine (val_main_v96_eq _ _ _ _ _).trans ?_
    rw [e0, e2, e3, e4, e5]
    funext i
    rw [show i = ix2 (i 0) (i 1) from eq_ix2 i]
    exact g_agree m c (i 0) (i 1)

end Cert.Inproj.Close

end
-- ==== Proof.Mods.Runs.lean ====
/- The claims about the modulation that compare no values: each program runs to its end, and what the named constants keep. -/
module

public import proofs.«01_k».proof.Defs
public import proofs.«01_k».proof.Proof.Gen.Mods.Frame
public import proofs.«01_k».proof.Proof.Gen.ModsIdeal.Frame
public import proofs.«01_k».proof.Proof.Gen.ModsRefIdeal.Run
public import Idealize.ShloMosaic.Adequacy
public import Idealize.ShloMosaic.Init

@[expose] public section

set_option maxRecDepth 16384

noncomputable section

namespace Cert.Mods.Runs

open Idealize.ShloMosaic Idealize.ShloMosaic.TcCoe Idealize.SL.Sem

theorem frame_p : Cert.quiescent_Mods := fun m ρ _ => Cert.Mods.Gen.frame m ρ
theorem frame_pi : Cert.quiescent_ModsIdeal := fun m ρ _ => Cert.ModsIdeal.Gen.frame m ρ
theorem frame_ri : Cert.quiescent_ModsRefIdeal := fun m ρ _ =>
  (θ_run Cert.ModsRefIdeal.defs _ _).mono (fun r h => ⟨fun c => (h c).2, Idealize.ShloMosaic.sem_eq_zero_of_no_sems (by decide) r.2⟩)
    (Cert.ModsRefIdeal.Value.run (F := Ideal) m ρ)

theorem preserves : Cert.preserves_Mods_ModsIdeal := trivial

end Cert.Mods.Runs

end
-- ==== Proof.Mods.Blocks.lean ====
/- The modulation's kernel: what a point finds in its windows and stores, the array it leaves, and the rows the host keeps of it. -/
module

public import proofs.«01_k».proof.Proof.Gen.ModsIdeal.Frame
public import Idealize.ShloMosaic.Lib.Pointwise
public import Idealize.ShloMosaic.Lib.StableHlo.ReadAt
public import Idealize.ShloMosaic.Lib.Tactic
public import Idealize.ShloMosaic.Lib.Pipeline.ValueKit.Point
public import Idealize.ShloMosaic.Lib.Routing.OpsSet
public import Idealize.ShloMosaic.Lib.Routing.OpsPair

@[expose] public section

set_option maxRecDepth 65536
set_option maxHeartbeats 1000000

noncomputable section

namespace Cert.Mods.Rows

open Idealize.ShloMosaic

/-- A value times its logistic: the reference's `silu`. -/
def silu (x : EReal) : EReal := x * Ideal.div 1 (1 + Ideal.exp (-x))

/-- One modulation: the activated row's product with a column of the weights, and the bias. -/
def modulation (x w : Fin 1024 → EReal) (b : EReal) : EReal := (∑ k, silu (x k) * w k) + b

end Cert.Mods.Rows

namespace Cert.ModsIdeal.Block

open Idealize.ShloMosaic Idealize.ShloMosaic.TcCoe Idealize.ShloMosaic.Tactic
open Cert.ModsIdeal Cert.ModsIdeal.Gen Cert.Mods.Rows

variable (m : (ℓ : Loc nD τ sig) → Buf (Elt Ideal) ℓ) (c : Dev nD)

/-! ### The arguments, by their coordinates -/

abbrev cond (b : Fin 2) (k : Fin 1024) : EReal := (m ((c.tc : Thread nD τ).loc main_arg0) : Vec Ideal S2x1024 .f32) (ix2 b k)
abbrev adaw (l : Fin 2) (k : Fin 1024) (n : Fin 6144) : EReal :=
  (m ((c.tc : Thread nD τ).loc main_arg1) : Vec Ideal S2x1024x6144 .f32) (ix3 l k n)
abbrev adab (l : Fin 2) (n : Fin 6144) : EReal := (m ((c.tc : Thread nD τ).loc main_arg2) : Vec Ideal S2x6144 .f32) (ix2 l n)

/-! ### The payload -/

theorem pay_apply (x : Vec Ideal S8x1024 .f32) (w : Vec Ideal S1x1024x1536 .f32) (b : Vec Ideal S1x1x1536 .f32) (r : Fin 8) (n : Fin 1536) :
    k0_pay1 x w b (ix3 0 r n) = modulation (fun k => x (ix2 r k)) (fun k => w (ix3 0 k n)) (b (ix3 0 0 n)) := by
  unfold_payloads
  unfold modulation silu
  pointwise [dot_S8x1024_S1024x1536_S8x1536_1_0_0_1_n_n]
  simp only [zero_sub]

/-! ### The arrays the host computes -/

/-- Where the host's update of the padded rows lands: row by row, from the first. -/
theorem lands (idx : IVec S1 32) (h0 : ∀ j, idx j = 0#32) (b : Fin 2) (k : Fin 1024) (R : Fin 8) (K : Fin 1024) :
    scatter_S8x1024_S1_S2x1024_01_n_0_0.resultIdx? (ix2 b k) idx = some (ix2 R K) ↔ b.val = R.val ∧ k.val = K.val := by
  have s0 : scatter_S8x1024_S1_S2x1024_01_n_0_0.start (ix2 b k) idx 0 = 0 := by
    unfold ScatterDims.start
    split
    · rw [h0]
      rfl
    · rfl
  have s1 : scatter_S8x1024_S1_S2x1024_01_n_0_0.start (ix2 b k) idx 1 = 0 := rfl
  have w0 : scatter_S8x1024_S1_S2x1024_01_n_0_0.window (ix2 b k) 0 = b.val := rfl
  have w1 : scatter_S8x1024_S1_S2x1024_01_n_0_0.window (ix2 b k) 1 = k.val := rfl
  refine (Routing.resultIdx?_ix2 scatter_S8x1024_S1_S2x1024_01_n_0_0 (ix2 b k) idx R K).trans ?_
  rw [s0, s1, w0, w1]
  omega

theorem host_cond (b : Fin 2) (k : Fin 1024) : (V m c main_v2 : Vec Ideal S8x1024 .f32) (ix2 ⟨b.val, by omega⟩ k) = cond m c b k := by
  unfold V
  after_reads_at
  refine Routing.scatter_set_hit scatter_S8x1024_S1_S2x1024_01_n_0_0 _ _ _ _ _ (fun y hy => ?_) (ix2 b k) ((lands _ (fun _ => rfl) b k _ k).mpr ⟨rfl, rfl⟩)
  rw [show y = ix2 (y 0) (y 1) from eq_ix2 y] at hy ⊢
  obtain ⟨e0, e1⟩ := (lands _ (fun _ => rfl) _ _ _ _).mp hy
  rw [show y 0 = b from Fin.ext e0, show y 1 = k from Fin.ext e1]
  rfl

theorem host_bias (l : Fin 2) (n : Fin 6144) : (V m c main_v3 : Vec Ideal S2x1x6144 .f32) (ix3 l 0 n) = adab m c l n := by
  unfold V
  after_reads_at

/-! ### A point's blocks -/

/-- The layer and the run of columns of a point. -/
def layer (t : Fin cfg0.N) : Fin 2 := ⟨t.val / 4, by have := lt_of_lt_of_eq t.isLt N_0; omega⟩
def column (t : Fin cfg0.N) (n : Fin 1536) : Fin 6144 := ⟨t.val % 4 * 1536 + n.val, by omega⟩

theorem idx_tile : ∀ t : Fin cfg0.N, win0_1.index t = ![t.val / 4, 0, t.val % 4] ∧ win0_2.index t = ![t.val / 4, 0, t.val % 4]
    ∧ win0_3.index t = ![t.val / 4, 0, t.val % 4] := by decide +kernel
theorem idx_whole : ∀ t : Fin cfg0.N, win0_0.index t = ![0, 0] := by decide +kernel

theorem blk_cond (t : Fin cfg0.N) (R : Fin 8) (k : Fin 1024) :
    (iblk m c 0 t : Vec Ideal S8x1024 .f32) (ix2 R k) = (V m c main_v2 : Vec Ideal S8x1024 .f32) (ix2 R k) := by
  blk_ext [iblk, idx_whole t]
theorem blk_adaw (t : Fin cfg0.N) (k : Fin 1024) (n : Fin 1536) :
    (iblk m c 1 t : Vec Ideal S1x1024x1536 .f32) (ix3 0 k n) = adaw m c (layer t) k (column t n) := by
  blk_ext [iblk, V, idx_tile t, layer, column]
theorem blk_adab (t : Fin cfg0.N) (n : Fin 1536) : (iblk m c 2 t : Vec Ideal S1x1x1536 .f32) (ix3 0 0 n) = adab m c (layer t) (column t n) := by
  rw [← host_bias m c]
  blk_ext [iblk, idx_tile t, layer, column]

/-- The modulation the array holds for layer `l`, row `R` and column `n`. -/
def arrAt (l : Fin 2) (R : Fin 8) (n : Fin 6144) : EReal :=
  modulation (fun k => (V m c main_v2 : Vec Ideal S8x1024 .f32) (ix2 R k)) (fun k => adaw m c l k n) (adab m c l n)

/-- What the kernel stores at a point is that point's part of the modulation. -/
theorem piece_result (t : Fin cfg0.N) (R : Fin 8) (n : Fin 1536) :
    k0_pay1 (View.ld (iblk m c 0 t) r0_0) (View.ld (iblk m c 1 t) r0_1) (View.ld (iblk m c 2 t) r0_2) (ix3 0 R n)
      = arrAt m c (layer t) R (column t n) := by
  refine (pay_apply _ _ _ R n).trans ?_
  have h0 : ∀ k : Fin 1024, (View.ld (iblk m c 0 t) r0_0 : Vec Ideal S8x1024 .f32) (ix2 R k) = (V m c main_v2 : Vec Ideal S8x1024 .f32) (ix2 R k) :=
    fun k => by
      rw [← blk_cond m c t R k]
      pointwise
  have h1 : ∀ k : Fin 1024, (View.ld (iblk m c 1 t) r0_1 : Vec Ideal S1x1024x1536 .f32) (ix3 0 k n) = adaw m c (layer t) k (column t n) :=
    fun k => by
      rw [← blk_adaw m c t k n]
      pointwise
  have h2 : (View.ld (iblk m c 2 t) r0_2 : Vec Ideal S1x1x1536 .f32) (ix3 0 0 n) = adab m c (layer t) (column t n) := by
    rw [← blk_adab m c t n]
    pointwise
  rw [funext h0, funext h1, h2]
  rfl

theorem block_result (t : Fin cfg0.N) (y : S1x8x1536.Idx) :
    out0_3 (iblk m c 0 t) (iblk m c 1 t) (iblk m c 2 t) y = arrAt m c (layer t) (y 1) (column t (y 2)) := by
  unfold out0_3
  refine View.canon_apply_of_pieces (S := S1x8x1536) (Val := Elt Ideal) (e := .f32) (fun y => arrAt m c (layer t) (y 1) (column t (y 2))) _ ?_ y ?_
  · intro p hp x
    obtain rfl := List.mem_singleton.mp hp
    rw [show x = ix3 0 (x 1) (x 2) from (eq_ix3 x).trans (congrArg (fun z => ix3 z (x 1) (x 2)) (Subsingleton.elim (α := Fin 1) (x 0) 0))]
    refine (piece_result m c t (x 1) (x 2)).trans ?_
    exact congrArg₂ (fun R n => arrAt m c (layer t) R (column t n)) (Fin.ext (show (x 1).val = 0 + 1 * (x 1).val by omega))
      (Fin.ext (show (x 2).val = 0 + 1 * (x 2).val by omega))
  · have h0 : (y 0).val < 1 := (y 0).isLt
    have h1 : (y 1).val < 8 := (y 1).isLt
    have h2 : (y 2).val < 1536 := (y 2).isLt
    have hm : y ∈ r0_3.set := Rect.mem_set_unit.mpr fun a => by
      fin_cases a
      · exact ⟨Nat.zero_le _, show (y 0).val < 0 + 1 by omega⟩
      · exact ⟨Nat.zero_le _, show (y 1).val < 0 + 8 by omega⟩
      · exact ⟨Nat.zero_le _, show (y 2).val < 0 + 1536 by omega⟩
    exact ⟨_, List.mem_singleton_self _, hm⟩

/-- The array after the run. -/
theorem array_result : (dats m 0 c).arrAt 3 cfg0.N = (fun i => arrAt m c (i 0) (i 1) (i 2) : Vec Ideal S2x8x6144 .f32) := by
  refine (dats m 0 c).arrAt_eq_of_covers 3 _ (by decide +kernel) fun t hf y => ?_
  blk_simp [idx_tile t]
  rw [after0_3]
  refine (block_result m c t y).trans ?_
  have h0 : (y 0).val < 1 := (y 0).isLt
  refine (congrArg₂ (fun l R => arrAt m c l R (column t (y 2))) (Fin.ext ?_) (Fin.ext ?_)).trans (congrArg (arrAt m c _ _) (Fin.ext ?_))
  · blk_simp [idx_tile t]
    show t.val / 4 = _
    omega
  · blk_simp [idx_tile t]
  · blk_simp [idx_tile t]
    rfl

/-! ### What the host keeps -/

theorem kept_result (l b : Fin 2) (p : Fin 6) (n : Fin 1024) :
    (Pipeline.afterTail₀ cfgs (dats m) 0 (V0 m) [hostOps1] c main_v6 : Vec Ideal S2x2x6x1x1024 .f32) (ix5 l b p 0 n)
      = modulation (cond m c b) (fun k => adaw m c l k ⟨p.val * 1024 + n.val, by omega⟩) (adab m c l ⟨p.val * 1024 + n.val, by omega⟩) := by
  unfold Pipeline.afterTail₀
  after_reads_at
  refine (congrFun (Pipeline.withArrays_arr spec0 winFacts0.arr_inj c (V0 m c) _ 3) _).trans ?_
  rw [array_result]
  show arrAt m c l ⟨b.val, _⟩ ⟨p.val * 1024 + n.val, _⟩ = _
  unfold arrAt
  rw [funext fun k => host_cond m c b k]

end Cert.ModsIdeal.Block
-- ==== Proof.Mods.Close.lean ====
/- The modulation's value claim: kernel and reference give equal modulations of both layers. -/
module

public import proofs.«01_k».proof.Proof.Mods.Runs
public import proofs.«01_k».proof.Proof.Mods.Blocks
public import proofs.«01_k».proof.Proof.Gen.ModsRefIdeal.Read

@[expose] public section

set_option maxRecDepth 16384

noncomputable section

namespace Cert.ModsRefIdeal.Read

open Idealize.ShloMosaic Idealize.ShloMosaic.TcCoe Idealize.ShloMosaic.Tactic Cert.Mods.Rows

variable (x : Vec Ideal S2x1024 .f32) (w : Vec Ideal S2x1024x6144 .f32) (b : Vec Ideal S2x6144 .f32)

theorem act_apply (r : Fin 2) (k : Fin 1024) : val_main_v0 x (ix2 r k) = silu (x (ix2 r k)) := by
  unfold val_main_v0 val_main_call0_v5 val_main_call0_v4 val_main_call0_v3 val_main_call0_v2 val_main_call0_v1 val_main_call0_v0
    val_main_call0_cst val_main_call0_cst_0 silu
  pointwise

theorem v6_apply (l r : Fin 2) (p : Fin 6) (n : Fin 1024) : val_main_v6 x w b (ix5 l r p 0 n)
    = modulation (fun k => x (ix2 r k)) (fun k => w (ix3 l k ⟨p.val * 1024 + n.val, by omega⟩)) (b (ix2 l ⟨p.val * 1024 + n.val, by omega⟩)) := by
  unfold val_main_v6 val_main_v5 val_main_v4 val_main_v3 val_main_v2 val_main_v1 modulation
  pointwise [dot_S2x1024x6144_S2x1024_S2x6144x2_1_1_02_0_n_n]
  simp only [act_apply, mul_comm]

end Cert.ModsRefIdeal.Read

namespace Cert.Mods.Close

open Idealize.ShloMosaic Idealize.ShloMosaic.TcCoe Idealize.SL.Sem Cert.Mods.Rows
open Cert.ModsIdeal.Block Cert.ModsRefIdeal.Read

theorem algebraic : Cert.algebraic_ModsIdeal_ModsRefIdeal := by
  intro m g m' g' _ hargs
  refine ⟨fun c => Pipeline.afterTail₀ Cert.ModsIdeal.cfgs (Cert.ModsIdeal.Gen.dats m) 0 (Cert.ModsIdeal.Gen.V0 m) [Cert.ModsIdeal.Gen.hostOps1] c
      Cert.ModsIdeal.main_v6,
    (θ_run Cert.ModsIdeal.defs _ _).mono (fun r h c => ⟨(h.1 c).2 Cert.ModsIdeal.main_v6
        (Pipeline.mem_restRefs_of Cert.ModsIdeal.main_v6 (by decide) (by decide)), h.2 c⟩)
      (θ_run_and (Cert.ModsIdeal.Gen.run_main (F := Ideal) m g) (Cert.ModsIdeal.Gen.unchanged (F := Ideal) m g)), ?_⟩
  refine (θ_run Cert.ModsRefIdeal.defs _ _).mono (fun r h c => ⟨(h c).1.trans ?_, (h c).2⟩) (Cert.ModsRefIdeal.Value.run (F := Ideal) m' g')
  obtain ⟨e0, e1, e2⟩ := hargs c
  refine (val_main_v6_eq _ _ _).trans ?_
  rw [e0, e1, e2]
  funext i
  rw [show i = ix5 (i 0) (i 1) (i 2) 0 (i 4) from (eq_ix5 i).trans
    (congrArg (fun z => ix5 (i 0) (i 1) (i 2) z (i 4)) (Subsingleton.elim (α := Fin 1) (i 3) 0))]
  exact (v6_apply _ _ _ (i 0) (i 1) (i 2) (i 4)).trans (kept_result m c (i 0) (i 1) (i 2) (i 4)).symm

end Cert.Mods.Close

end
-- ==== Proof.Score.Runs.lean ====
/- The claims about the score weights that compare no values: each program runs to its end, and what the named constants keep. -/
module

public import proofs.«01_k».proof.Defs
public import proofs.«01_k».proof.Proof.Gen.Score.Frame
public import proofs.«01_k».proof.Proof.Gen.ScoreIdeal.Frame
public import proofs.«01_k».proof.Proof.Gen.ScoreRefIdeal.Run
public import Idealize.ShloMosaic.Adequacy
public import Idealize.ShloMosaic.Init

@[expose] public section

set_option maxRecDepth 16384

noncomputable section

namespace Cert.Score.Runs

open Idealize.ShloMosaic Idealize.ShloMosaic.TcCoe Idealize.SL.Sem

theorem frame_p : Cert.quiescent_Score := fun m ρ _ => Cert.Score.Gen.frame m ρ
theorem frame_pi : Cert.quiescent_ScoreIdeal := fun m ρ _ => Cert.ScoreIdeal.Gen.frame m ρ
theorem frame_ri : Cert.quiescent_ScoreRefIdeal := fun m ρ _ =>
  (θ_run Cert.ScoreRefIdeal.defs _ _).mono (fun r h => ⟨fun c => (h c).2, Idealize.ShloMosaic.sem_eq_zero_of_no_sems (by decide) r.2⟩)
    (Cert.ScoreRefIdeal.Value.run (F := Ideal) m ρ)

theorem preserves : Cert.preserves_Score_ScoreIdeal := trivial

end Cert.Score.Runs

end
-- ==== Proof.Score.Blocks.lean ====
/- The score weights' kernel: what a point finds in its windows and stores, the array it leaves, and the order in which the
   host keeps its rows. -/
module

public import proofs.«01_k».proof.Proof.Gen.ScoreIdeal.Frame
public import Idealize.ShloMosaic.Lib.Pointwise
public import Idealize.ShloMosaic.Lib.StableHlo.ReadAt
public import Idealize.ShloMosaic.Lib.Tactic
public import Idealize.ShloMosaic.Lib.Pipeline.ValueKit.Point

@[expose] public section

set_option maxRecDepth 65536
set_option maxHeartbeats 1000000

noncomputable section

namespace Cert.ScoreIdeal.Block

open Idealize.ShloMosaic Idealize.ShloMosaic.TcCoe Idealize.ShloMosaic.Tactic
open Cert.ScoreIdeal Cert.ScoreIdeal.Gen

variable (m : (ℓ : Loc nD τ sig) → Buf (Elt Ideal) ℓ) (c : Dev nD)

/-! ### The arguments, by their coordinates -/

abbrev query (n : Fin 1024) (j : Fin 2048) : EReal := (m ((c.tc : Thread nD τ).loc main_arg0) : Vec Ideal S1024x2048 .f32) (ix2 n j)
abbrev keys (h : Fin 8) (p : Fin 2) (k j : Fin 128) : EReal := (m ((c.tc : Thread nD τ).loc main_arg1) : Vec Ideal S8x2x128x128 .f32) (ix4 h p k j)

/-- The column of the query's weights that head `h` and half `p` read at `j`. -/
def queryCol (h : Fin 8) (p : Fin 2) (j : Fin 128) : Fin 2048 := ⟨h.val * 256 + p.val * 128 + j.val, by omega⟩

/-- The weight of input `n` in the score of key `k`, for head `h` and half `p`. -/
def weight (h : Fin 8) (p : Fin 2) (k : Fin 128) (n : Fin 1024) : EReal := ∑ j, keys m c h p k j * query m c n (queryCol h p j)

/-! ### The payload -/

theorem pay_apply (x : Vec Ideal S1x1x128x128 .f32) (w : Vec Ideal S1024x128 .f32) (k : Fin 128) (n : Fin 1024) :
    k0_pay1 x w (ix3 0 k n) = ∑ j : Fin 128, x (ix4 0 0 k j) * w (ix2 n j) := by
  unfold_payloads
  pointwise [dot_S128x128_S1024x128_S128x1024_1_1_0_0_n_n]

/-! ### A point's blocks -/

/-- The head and the half of a point. -/
def head (t : Fin 16) : Fin 8 := ⟨t.val / 2, by omega⟩
def half (t : Fin 16) : Fin 2 := ⟨t.val % 2, by omega⟩

/-- A point, by its number. -/
def pt (t : Fin cfg0.N) : Fin 16 := ⟨t.val, lt_of_lt_of_eq t.isLt N_0⟩

theorem idx_keys : ∀ t : Fin cfg0.N, win0_0.index t = ![t.val / 2, t.val % 2, 0, 0] := by decide +kernel
theorem idx_cols : ∀ t : Fin cfg0.N, win0_1.index t = ![0, t.val] ∧ win0_2.index t = ![t.val, 0, 0] := by decide +kernel

theorem blk_keys (t : Fin cfg0.N) (k j : Fin 128) :
    (iblk m c 0 t : Vec Ideal S1x1x128x128 .f32) (ix4 0 0 k j) = keys m c (head (pt t)) (half (pt t)) k j := by
  blk_ext [iblk, V, idx_keys t, head, half, pt]
theorem blk_query (t : Fin cfg0.N) (n : Fin 1024) (j : Fin 128) :
    (iblk m c 1 t : Vec Ideal S1024x128 .f32) (ix2 n j) = query m c n (queryCol (head (pt t)) (half (pt t)) j) := by
  blk_ext [iblk, V, idx_cols t, head, half, pt, queryCol]

/-- What the kernel stores at a point: the weights of that point's head and half. -/
theorem piece_result (t : Fin cfg0.N) (k : Fin 128) (n : Fin 1024) :
    k0_pay1 (View.ld (iblk m c 0 t) r0_0) (View.ld (iblk m c 1 t) r0_1) (ix3 0 k n) = weight m c (head (pt t)) (half (pt t)) k n := by
  refine (pay_apply _ _ k n).trans (Finset.sum_congr rfl fun j _ => congrArg₂ (· * ·) ?_ ?_)
  · rw [← blk_keys m c t k j]
    pointwise
  · rw [← blk_query m c t n j]
    pointwise

theorem block_result (t : Fin cfg0.N) (y : S1x128x1024.Idx) :
    out0_2 (iblk m c 0 t) (iblk m c 1 t) y = weight m c (head (pt t)) (half (pt t)) (y 1) (y 2) := by
  unfold out0_2
  refine View.canon_apply_of_pieces (S := S1x128x1024) (Val := Elt Ideal) (e := .f32)
    (fun y => weight m c (head (pt t)) (half (pt t)) (y 1) (y 2)) _ ?_ y ?_
  · intro p hp x
    obtain rfl := List.mem_singleton.mp hp
    rw [show x = ix3 0 (x 1) (x 2) from (eq_ix3 x).trans (congrArg (fun z => ix3 z (x 1) (x 2)) (Subsingleton.elim (α := Fin 1) (x 0) 0))]
    refine (piece_result m c t (x 1) (x 2)).trans ?_
    exact congrArg₂ (weight m c (head (pt t)) (half (pt t))) (Fin.ext (show (x 1).val = 0 + 1 * (x 1).val by omega))
      (Fin.ext (show (x 2).val = 0 + 1 * (x 2).val by omega))
  · have h0 : (y 0).val < 1 := (y 0).isLt
    have h1 : (y 1).val < 128 := (y 1).isLt
    have h2 : (y 2).val < 1024 := (y 2).isLt
    have hm : y ∈ r0_2.set := Rect.mem_set_unit.mpr fun a => by
      fin_cases a
      · exact ⟨Nat.zero_le _, show (y 0).val < 0 + 1 by omega⟩
      · exact ⟨Nat.zero_le _, show (y 1).val < 0 + 128 by omega⟩
      · exact ⟨Nat.zero_le _, show (y 2).val < 0 + 1024 by omega⟩
    exact ⟨_, List.mem_singleton_self _, hm⟩

/-- The array after the run. -/
theorem array_result : (dats m 0 c).arrAt 2 cfg0.N
    = (fun i => weight m c (head (i 0)) (half (i 0)) (i 1) (i 2) : Vec Ideal S16x128x1024 .f32) := by
  refine (dats m 0 c).arrAt_eq_of_covers 2 _ (by decide +kernel) fun t hf y => ?_
  blk_simp [idx_cols t]
  rw [after0_2]
  refine (block_result m c t y).trans ?_
  have h0 : (y 0).val < 1 := (y 0).isLt
  have e : pt t = ((cfg0.win 2).blk t).view.emb y 0 := Fin.ext (by
    blk_simp [idx_cols t]
    show t.val = _
    omega)
  refine (congrArg₂ (fun s k => weight m c (head s) (half s) k (y 2)) e (Fin.ext ?_)).trans (congrArg (weight m c _ _ _) (Fin.ext ?_))
  · blk_simp [idx_cols t]
  · blk_simp [idx_cols t]

/-! ### What the host keeps -/

/-- The row of half `p`, key `k` and head `h`. -/
def rowOf (p : Fin 2) (k : Fin 128) (h : Fin 8) : Fin 2048 := ⟨(p.val * 128 + k.val) * 8 + h.val, by omega⟩

theorem kept_result (p : Fin 2) (k : Fin 128) (h : Fin 8) (n : Fin 1024) :
    (Pipeline.afterTail₀ cfgs (dats m) 0 (V0 m) [hostOps1] c main_v4 : Vec Ideal S2048x1024 .bf16) (ix2 (rowOf p k h) n) = weight m c h p k n := by
  unfold Pipeline.afterTail₀ rowOf
  after_reads_at
  refine (congrFun (Pipeline.withArrays_arr spec0 winFacts0.arr_inj c (V0 m c) _ 2) _).trans ?_
  rw [array_result]
  have a : ((p.val * 128 + k.val) * 8 + h.val) % 8 = h.val := by omega
  have b : ((p.val * 128 + k.val) * 8 + h.val) / 1024 = p.val := by omega
  have eh : head ⟨((p.val * 128 + k.val) * 8 + h.val) % 8 * 2 + ((p.val * 128 + k.val) * 8 + h.val) / 1024, by omega⟩ = h :=
    Fin.ext (show (((p.val * 128 + k.val) * 8 + h.val) % 8 * 2 + ((p.val * 128 + k.val) * 8 + h.val) / 1024) / 2 = h.val by rw [a, b]; omega)
  have ep : half ⟨((p.val * 128 + k.val) * 8 + h.val) % 8 * 2 + ((p.val * 128 + k.val) * 8 + h.val) / 1024, by omega⟩ = p :=
    Fin.ext (show (((p.val * 128 + k.val) * 8 + h.val) % 8 * 2 + ((p.val * 128 + k.val) * 8 + h.val) / 1024) % 2 = p.val by rw [a, b]; omega)
  have ek : (⟨((p.val * 128 + k.val) * 8 + h.val) / 8 % 128, by omega⟩ : Fin 128) = k :=
    Fin.ext (show ((p.val * 128 + k.val) * 8 + h.val) / 8 % 128 = k.val by omega)
  refine (congrArg₂ (fun a b => weight m c a b _ n) eh ep).trans ?_
  exact congrArg (fun a => weight m c h p a n) ek

end Cert.ScoreIdeal.Block

end
-- ==== Proof.Score.Close.lean ====
/- The score weights' value claim: kernel and reference give equal weights for every half, key and head. -/
module

public import proofs.«01_k».proof.Proof.Score.Runs
public import proofs.«01_k».proof.Proof.Score.Blocks
public import proofs.«01_k».proof.Proof.Gen.ScoreRefIdeal.Read

@[expose] public section

set_option maxRecDepth 16384

noncomputable section

namespace Cert.Score.Close

open Idealize.ShloMosaic Idealize.ShloMosaic.TcCoe Idealize.SL.Sem Idealize.ShloMosaic.Tactic
open Cert.ScoreIdeal.Block Cert.ScoreRefIdeal.Read

theorem v5_apply (x : Vec Ideal Cert.ScoreRefIdeal.S1024x2048 .f32) (w : Vec Ideal Cert.ScoreRefIdeal.S8x2x128x128 .f32)
    (p : Fin 2) (k : Fin 128) (h : Fin 8) (n : Fin 1024) :
    val_main_v5 x w (ix2 (rowOf p k h) n) = ∑ j, w (ix4 h p k j) * x (ix2 n (queryCol h p j)) := by
  unfold val_main_v5 val_main_v4 val_main_v3 val_main_v2 val_main_v1 val_main_v0 rowOf queryCol
  pointwise [Cert.ScoreRefIdeal.dot_S8x2x128x128_S1024x8x2x128_S8x2x128x1024_3_3_2_0_01_12]

/-- Every row is the row of a half, a key and a head. -/
theorem row_split (R : Fin 2048) : rowOf ⟨R.val / 1024, by omega⟩ ⟨R.val / 8 % 128, by omega⟩ ⟨R.val % 8, by omega⟩ = R :=
  Fin.ext (show (R.val / 1024 * 128 + R.val / 8 % 128) * 8 + R.val % 8 = R.val by omega)

theorem algebraic : Cert.algebraic_ScoreIdeal_ScoreRefIdeal := by
  intro m g m' g' _ hargs
  refine ⟨fun c => Pipeline.afterTail₀ Cert.ScoreIdeal.cfgs (Cert.ScoreIdeal.Gen.dats m) 0 (Cert.ScoreIdeal.Gen.V0 m)
      [Cert.ScoreIdeal.Gen.hostOps1] c Cert.ScoreIdeal.main_v4,
    (θ_run Cert.ScoreIdeal.defs _ _).mono (fun r h c => ⟨(h.1 c).2 Cert.ScoreIdeal.main_v4
        (Pipeline.mem_restRefs_of Cert.ScoreIdeal.main_v4 (by decide) (by decide)), h.2 c⟩)
      (θ_run_and (Cert.ScoreIdeal.Gen.run_main (F := Ideal) m g) (Cert.ScoreIdeal.Gen.unchanged (F := Ideal) m g)), ?_⟩
  refine (θ_run Cert.ScoreRefIdeal.defs _ _).mono (fun r h c => ⟨(h c).1.trans ?_, (h c).2⟩) (Cert.ScoreRefIdeal.Value.run (F := Ideal) m' g')
  obtain ⟨e0, e1⟩ := hargs c
  refine (val_main_v5_eq _ _).trans ?_
  rw [e0, e1]
  funext i
  rw [show i = ix2 (i 0) (i 1) from eq_ix2 i, ← row_split (i 0)]
  exact (v5_apply _ _ _ _ _ (i 1)).trans (kept_result m c _ _ _ (i 1)).symm

end Cert.Score.Close

end
-- ==== Proof.lean ====
/- Everything the certificate claims about the five calls, gathered: each claim is proved in the module of its call
   (`Proof/Ret`, `Proof/Sgu`, `Proof/Inproj`, `Proof/Mods`, `Proof/Score`). -/
module

public import proofs.«01_k».proof.Defs
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Mods
public import proofs.«01_k».proof.Proof.Gen.Mods.Skeleton
public import proofs.«01_k».proof.Proof.Gen.Mods.Launch
public import proofs.«01_k».proof.Proof.Gen.Mods.Points
public import proofs.«01_k».proof.Proof.Gen.Mods.Frame
public import proofs.«01_k».proof.Proof.Gen.ModsIdeal
public import proofs.«01_k».proof.Proof.Gen.ModsIdeal.Skeleton
public import proofs.«01_k».proof.Proof.Gen.ModsIdeal.Launch
public import proofs.«01_k».proof.Proof.Gen.ModsIdeal.Points
public import proofs.«01_k».proof.Proof.Gen.ModsIdeal.Frame
public import proofs.«01_k».proof.Proof.Gen.ModsRefIdeal
public import proofs.«01_k».proof.Proof.Gen.Score
public import proofs.«01_k».proof.Proof.Gen.Score.Skeleton
public import proofs.«01_k».proof.Proof.Gen.Score.Launch
public import proofs.«01_k».proof.Proof.Gen.Score.Points
public import proofs.«01_k».proof.Proof.Gen.Score.Frame
public import proofs.«01_k».proof.Proof.Gen.ScoreIdeal
public import proofs.«01_k».proof.Proof.Gen.ScoreIdeal.Skeleton
public import proofs.«01_k».proof.Proof.Gen.ScoreIdeal.Launch
public import proofs.«01_k».proof.Proof.Gen.ScoreIdeal.Points
public import proofs.«01_k».proof.Proof.Gen.ScoreIdeal.Frame
public import proofs.«01_k».proof.Proof.Gen.ScoreRefIdeal
public import proofs.«01_k».proof.Proof.Gen.Pre_finite
public import proofs.«01_k».proof.Proof.Gen.RetIdeal.Value
public import proofs.«01_k».proof.Proof.Gen.SguIdeal.Value
public import proofs.«01_k».proof.Proof.Gen.InprojIdeal.Value
public import proofs.«01_k».proof.Proof.Gen.RetRefIdeal.Run
public import proofs.«01_k».proof.Proof.Gen.RetRefIdeal.Step
public import proofs.«01_k».proof.Proof.Gen.SguRefIdeal.Run
public import proofs.«01_k».proof.Proof.Gen.SguRefIdeal.Read
public import proofs.«01_k».proof.Proof.Gen.InprojRefIdeal.Run
public import proofs.«01_k».proof.Proof.Gen.InprojRefIdeal.Read
public import proofs.«01_k».proof.Proof.Gen.ModsRefIdeal.Run
public import proofs.«01_k».proof.Proof.Gen.ModsRefIdeal.Read
public import proofs.«01_k».proof.Proof.Gen.ScoreRefIdeal.Run
public import proofs.«01_k».proof.Proof.Gen.ScoreRefIdeal.Read
public import proofs.«01_k».proof.Proof.Ret.Close
public import proofs.«01_k».proof.Proof.Sgu.Close
public import proofs.«01_k».proof.Proof.Inproj.Close
public import proofs.«01_k».proof.Proof.Mods.Close
public import proofs.«01_k».proof.Proof.Score.Close
public import Idealize.ShloMosaic.Adequacy
public import Idealize.ShloMosaic.Init

@[expose] public section

noncomputable section

namespace Cert.Proof

open Idealize.ShloMosaic Idealize.SL.Sem

theorem claim : Cert.Claim :=
  ⟨Cert.Ret.Gen.facts, Cert.RetIdeal.Gen.facts, Cert.RetRefIdeal.Gen.facts, Cert.Sgu.Gen.facts, Cert.SguIdeal.Gen.facts, Cert.SguRefIdeal.Gen.facts, Cert.Inproj.Gen.facts, Cert.InprojIdeal.Gen.facts, Cert.InprojRefIdeal.Gen.facts, Cert.Mods.Gen.facts, Cert.ModsIdeal.Gen.facts, Cert.ModsRefIdeal.Gen.facts, Cert.Score.Gen.facts, Cert.ScoreIdeal.Gen.facts, Cert.ScoreRefIdeal.Gen.facts, Cert.Pre_finite.Gen.facts,
    Cert.Ret.Close.frame_p,
    Cert.Ret.Close.frame_pi,
    Cert.Ret.Close.frame_pi_finite,
    Cert.Ret.Close.frame_ri,
    Cert.Ret.Close.frame_ri_finite,
    Cert.Sgu.Runs.frame_p,
    Cert.Sgu.Runs.frame_pi,
    Cert.Sgu.Runs.frame_ri,
    Cert.Inproj.Runs.frame_p,
    Cert.Inproj.Runs.frame_pi,
    Cert.Inproj.Runs.frame_ri,
    Cert.Mods.Runs.frame_p,
    Cert.Mods.Runs.frame_pi,
    Cert.Mods.Runs.frame_ri,
    Cert.Score.Runs.frame_p,
    Cert.Score.Runs.frame_pi,
    Cert.Score.Runs.frame_ri,
    Cert.Ret.Close.preserves,
    Cert.Ret.Close.algebraic,
    Cert.Sgu.Runs.preserves,
    Cert.Sgu.Close.algebraic,
    Cert.Inproj.Runs.preserves,
    Cert.Inproj.Close.algebraic,
    Cert.Mods.Runs.preserves,
    Cert.Mods.Close.algebraic,
    Cert.Score.Runs.preserves,
    Cert.Score.Close.algebraic⟩

end Cert.Proof

end
